-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v101) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x256x1024 : Shape := ⟨3, ![1, 256, 1024]⟩
abbrev S1024x1024 : Shape := ⟨2, ![1024, 1024]⟩
abbrev S1x4096x32x128 : Shape := ⟨4, ![1, 4096, 32, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x32x128 : S_.BroadcastsInDim S1x4096x32x128 (![] : Fin 0 → Fin S1x4096x32x128.rank)
  reducesTo_S1x4096x32x128_S_d0_1_2_3 : S1x4096x32x128.ReducesTo [0, 1, 2, 3] S_

variable [Facts]

def fn {F : FTy → Type} [FloatOps F] (main_arg0 : FVec F S1x256x1024 .f32) (main_arg1 : FVec F S1024x1024 .f32) (main_arg2 : FVec F S1x4096x32x128 .f32) (main_arg3 : FVec F S1x4096x32x128 .f32) (main_arg4 : FVec F S1024x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x4096x32x128 .f32 := Host.absf main_arg2
  let main_cst_2 : FVec F S_ .f32 := constant S_ .f32 0x7F800000#32
  let main_v10 : FVec F S1x4096x32x128 .f32 := broadcastInDim S1x4096x32x128 ![] bcast_S_S1x4096x32x128 main_cst_2
  let main_v11 : IVec S1x4096x32x128 1 := cmpf .olt main_v9 main_v10
  let main_c_3 : IVec S_ 1 := constantI S_ 1 1#1
  let main_v12 : IVec S_ 1 := (fun x v => Host.reduce IntOp.andi x v reducesTo_S1x4096x32x128_S_d0_1_2_3 h_S_) main_v11 main_c_3
  let main_v13 : IVec S_ 1 := andi main_v8 main_v12
  main_v13
-- ==== Pre_finite_ReferenceIdeal.lean ====
abbrev S1x256x1024 : Shape := ⟨3, ![1, 256, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x4096x32x128 : S_.BroadcastsInDim S1x4096x32x128 (![] : Fin 0 → Fin S1x4096x32x128.rank)
  reducesTo_S1x4096x32x128_S_d0_1_2_3 : S1x4096x32x128.ReducesTo [0, 1, 2, 3] S_

variable [Facts]

def fn {F : FTy → Type} [FloatOps F] (main_arg0 : FVec F S1x256x1024 .f32) (main_arg1 : FVec F S1024x4096 .f32) (main_arg2 : FVec F S1x4096x32x128 .f32) (main_arg3 : FVec F S1x4096x32x128 .f32) (main_arg4 : FVec F S4096x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x4096x32x128 .f32 := Host.absf main_arg2
  let main_cst_2 : FVec F S_ .f32 := constant S_ .f32 0x7F800000#32
  let main_v10 : FVec F S1x4096x32x128 .f32 := broadcastInDim S1x4096x32x128 ![] bcast_S_S1x4096x32x128 main_cst_2
  let main_v11 : IVec S1x4096x32x128 1 := cmpf .olt main_v9 main_v10
  let main_c_3 : IVec S_ 1 := constantI S_ 1 1#1
  let main_v12 : IVec S_ 1 := (fun x v => Host.reduce IntOp.andi x v reducesTo_S1x4096x32x128_S_d0_1_2_3 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S1x4096x32x128 : Shape := ⟨4, ![1, 4096, 32, 128]⟩
abbrev S8x4096x128 : Shape := ⟨3, ![8, 4096, 128]⟩
abbrev S256x1024 : Shape := ⟨2, ![256, 1024]⟩
abbrev S4x2x32x1024 : Shape := ⟨4, ![4, 2, 32, 1024]⟩
abbrev S64x1024 : Shape := ⟨2, ![64, 1024]⟩
abbrev S8x2 : Shape := ⟨2, ![8, 2]⟩
abbrev S4x2 : Shape := ⟨2, ![4, 2]⟩
abbrev S1x1 : Shape := ⟨2, ![1, 1]⟩
abbrev S_ : Shape := ⟨0, ![]⟩
abbrev S1x4096x128 : Shape := ⟨3, ![1, 4096, 128]⟩
abbrev S4096x128 : Shape := ⟨2, ![4096, 128]⟩
abbrev S1x4096x1x128 : Shape := ⟨4, ![1, 4096, 1, 128]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩
abbrev S1x1x32x1024 : Shape := ⟨4, ![1, 1, 32, 1024]⟩
abbrev S32x1024 : Shape := ⟨2, ![32, 1024]⟩
abbrev S1x32x1024 : Shape := ⟨3, ![1, 32, 1024]⟩

abbrev nBuf : Space → Nat
  | .hbm => 6
  | .vmem => 10
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x32x128, .f32⟩
  | .hbm, ⟨3, _⟩ => ⟨S1x4096x32x128, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1x256x1024, .f32⟩
  | .local _ .vmem, ⟨4, _⟩ => ⟨S8x4096x128, .f32⟩
  | .local _ .vmem, ⟨5, _⟩ => ⟨S8x4096x128, .f32⟩
  | .local _ .vmem, ⟨6, _⟩ => ⟨S256x1024, .f32⟩
  | .local _ .vmem, ⟨7, _⟩ => ⟨S256x1024, .f32⟩
  | .local _ .vmem, ⟨8, _⟩ => ⟨S4x2x32x1024, .f32⟩
  | .local _ .vmem, ⟨9, _⟩ => ⟨S64x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 1 52 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_off1 (d0 : Dev nD) (c0_i32_20 : BitVec 32) : Fin 4 → Nat :=
  let c0_i32_22 : BitVec 32 := 0#32
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v37 : BitVec 32 := Scalar.muli v2 c8_i32
  let v38 : BitVec 32 := Scalar.addi v37 c0_i32_20
  let c0_i32_29 : BitVec 32 := 0#32
  ![0, 0, v38.toNat, 0]
def k0_dev1 (d0 : Dev nD) : Nat :=
  let c0_i32_162 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_161 : BitVec 32 := 1#32
  let v151 : BitVec 32 := Scalar.muli v14 c1_i32_161
  let v152 : BitVec 32 := Scalar.addi c0_i32_162 v151
  v152.toNat
def k0_dev2 (d0 : Dev nD) : Nat :=
  let c0_i32_165 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v26 : BitVec 32 := Scalar.addi v2 c2_i32
  let c4_i32_14 : BitVec 32 := 4#32
  let c0_i32_15 : BitVec 32 := 0#32
  let v27 : BitVec 1 := Scalar.cmpi .eq c4_i32_14 c0_i32_15
  let c1_i32_16 : BitVec 32 := 1#32
  let v28 : BitVec 32 := Scalar.select v27 c1_i32_16 c4_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let c1_i32_164 : BitVec 32 := 1#32
  let v153 : BitVec 32 := Scalar.muli v36 c1_i32_164
  let v154 : BitVec 32 := Scalar.addi c0_i32_165 v153
  v154.toNat
def k0_dev3 (d0 : Dev nD) : Nat :=
  let c0_i32_168 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_167 : BitVec 32 := 1#32
  let v155 : BitVec 32 := Scalar.muli v25 c1_i32_167
  let v156 : BitVec 32 := Scalar.addi c0_i32_168 v155
  v156.toNat
def k0_off2 (d0 : Dev nD) (c0_i32_384 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c64_i32 : BitVec 32 := 64#32
  let v423 : BitVec 32 := Scalar.muli v14 c64_i32
  let v424 : BitVec 32 := Scalar.addi v423 c0_i32_384
  let c0_i32_416 : BitVec 32 := 0#32
  ![v424.toNat, 0]
def k0_dev4 (d0 : Dev nD) : Nat :=
  let c0_i32_413 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_412 : BitVec 32 := 1#32
  let v447 : BitVec 32 := Scalar.muli v14 c1_i32_412
  let v448 : BitVec 32 := Scalar.addi c0_i32_413 v447
  v448.toNat
def k0_off3 (d0 : Dev nD) (c2_i32 : BitVec 32) (c0_i32_386 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v26 : BitVec 32 := Scalar.addi v2 c2_i32
  let c4_i32_14 : BitVec 32 := 4#32
  let c0_i32_15 : BitVec 32 := 0#32
  let v27 : BitVec 1 := Scalar.cmpi .eq c4_i32_14 c0_i32_15
  let c1_i32_16 : BitVec 32 := 1#32
  let v28 : BitVec 32 := Scalar.select v27 c1_i32_16 c4_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let c64_i32_385 : BitVec 32 := 64#32
  let v425 : BitVec 32 := Scalar.muli v36 c64_i32_385
  let v426 : BitVec 32 := Scalar.addi v425 c0_i32_386
  let c0_i32_427 : BitVec 32 := 0#32
  ![v426.toNat, 0]
def k0_dev5 (d0 : Dev nD) : Nat :=
  let c0_i32_424 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v26 : BitVec 32 := Scalar.addi v2 c2_i32
  let c4_i32_14 : BitVec 32 := 4#32
  let c0_i32_15 : BitVec 32 := 0#32
  let v27 : BitVec 1 := Scalar.cmpi .eq c4_i32_14 c0_i32_15
  let c1_i32_16 : BitVec 32 := 1#32
  let v28 : BitVec 32 := Scalar.select v27 c1_i32_16 c4_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let c1_i32_423 : BitVec 32 := 1#32
  let v456 : BitVec 32 := Scalar.muli v36 c1_i32_423
  let v457 : BitVec 32 := Scalar.addi c0_i32_424 v456
  v457.toNat
def k0_dev6 (d0 : Dev nD) : Nat :=
  let c0_i32_435 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_434 : BitVec 32 := 1#32
  let v465 : BitVec 32 := Scalar.muli v25 c1_i32_434
  let v466 : BitVec 32 := Scalar.addi c0_i32_435 v465
  v466.toNat
def k0_dev7 (d0 : Dev nD) : Nat :=
  let c0_i32_446 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_445 : BitVec 32 := 1#32
  let v474 : BitVec 32 := Scalar.muli v14 c1_i32_445
  let v475 : BitVec 32 := Scalar.addi c0_i32_446 v474
  v475.toNat
def k0_dev8 (d0 : Dev nD) : Nat :=
  let c0_i32_457 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v26 : BitVec 32 := Scalar.addi v2 c2_i32
  let c4_i32_14 : BitVec 32 := 4#32
  let c0_i32_15 : BitVec 32 := 0#32
  let v27 : BitVec 1 := Scalar.cmpi .eq c4_i32_14 c0_i32_15
  let c1_i32_16 : BitVec 32 := 1#32
  let v28 : BitVec 32 := Scalar.select v27 c1_i32_16 c4_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let c1_i32_456 : BitVec 32 := 1#32
  let v483 : BitVec 32 := Scalar.muli v36 c1_i32_456
  let v484 : BitVec 32 := Scalar.addi c0_i32_457 v483
  v484.toNat
def k0_dev9 (d0 : Dev nD) : Nat :=
  let c0_i32_468 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_467 : BitVec 32 := 1#32
  let v492 : BitVec 32 := Scalar.muli v25 c1_i32_467
  let v493 : BitVec 32 := Scalar.addi c0_i32_468 v492
  v493.toNat
def k0_off4 (d0 : Dev nD) (c0_i32_506 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_505 : BitVec 32 := 64#32
  let v522 : BitVec 32 := Scalar.muli v2 c64_i32_505
  let v523 : BitVec 32 := Scalar.addi v522 c0_i32_506
  let v524 : Index := Scalar.indexCast v523
  let c0_507 : Index := 0#32
  ![v524.toNat, 0]
def k0_off5 (d0 : Dev nD) (c0_i32_523 : BitVec 32) : Fin 3 → Nat :=
  let c0_524 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_522 : BitVec 32 := 64#32
  let v538 : BitVec 32 := Scalar.muli v2 c64_i32_522
  let v539 : BitVec 32 := Scalar.addi v538 c0_i32_523
  let v540 : Index := Scalar.indexCast v539
  let c0_525 : Index := 0#32
  ![0, v540.toNat, 0]
def k0_off6 (d0 : Dev nD) (c0_i32_395 : BitVec 32) : Fin 3 → Nat :=
  let c0_i32_526 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_394 : BitVec 32 := 64#32
  let v435 : BitVec 32 := Scalar.muli v2 c64_i32_394
  let v436 : BitVec 32 := Scalar.addi v435 c0_i32_395
  let c0_i32_533 : BitVec 32 := 0#32
  ![0, v436.toNat, 0]
def k0_dev10 (d0 : Dev nD) : Nat :=
  let c0_i32_532 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_531 : BitVec 32 := 1#32
  let v544 : BitVec 32 := Scalar.muli v14 c1_i32_531
  let v545 : BitVec 32 := Scalar.addi c0_i32_532 v544
  v545.toNat
def k0_dev11 (d0 : Dev nD) : Nat :=
  let c0_i32_542 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v26 : BitVec 32 := Scalar.addi v2 c2_i32
  let c4_i32_14 : BitVec 32 := 4#32
  let c0_i32_15 : BitVec 32 := 0#32
  let v27 : BitVec 1 := Scalar.cmpi .eq c4_i32_14 c0_i32_15
  let c1_i32_16 : BitVec 32 := 1#32
  let v28 : BitVec 32 := Scalar.select v27 c1_i32_16 c4_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let c1_i32_541 : BitVec 32 := 1#32
  let v553 : BitVec 32 := Scalar.muli v36 c1_i32_541
  let v554 : BitVec 32 := Scalar.addi c0_i32_542 v553
  v554.toNat
def k0_dev12 (d0 : Dev nD) : Nat :=
  let c0_i32_552 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_551 : BitVec 32 := 1#32
  let v562 : BitVec 32 := Scalar.muli v25 c1_i32_551
  let v563 : BitVec 32 := Scalar.addi c0_i32_552 v562
  v563.toNat
def k0_dev13 (d0 : Dev nD) : Nat :=
  let c0_i32_615 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_614 : BitVec 32 := 1#32
  let v614 : BitVec 32 := Scalar.muli v14 c1_i32_614
  let v615 : BitVec 32 := Scalar.addi c0_i32_615 v614
  v615.toNat
def k0_dev14 (d0 : Dev nD) : Nat :=
  let c0_i32_625 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v26 : BitVec 32 := Scalar.addi v2 c2_i32
  let c4_i32_14 : BitVec 32 := 4#32
  let c0_i32_15 : BitVec 32 := 0#32
  let v27 : BitVec 1 := Scalar.cmpi .eq c4_i32_14 c0_i32_15
  let c1_i32_16 : BitVec 32 := 1#32
  let v28 : BitVec 32 := Scalar.select v27 c1_i32_16 c4_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let c1_i32_624 : BitVec 32 := 1#32
  let v623 : BitVec 32 := Scalar.muli v36 c1_i32_624
  let v624 : BitVec 32 := Scalar.addi c0_i32_625 v623
  v624.toNat
def k0_dev15 (d0 : Dev nD) : Nat :=
  let c0_i32_635 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_634 : BitVec 32 := 1#32
  let v632 : BitVec 32 := Scalar.muli v25 c1_i32_634
  let v633 : BitVec 32 := Scalar.addi c0_i32_635 v632
  v633.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x256x1024 : Shape := ⟨3, ![1, 256, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S1x256x4096 : Shape := ⟨3, ![1, 256, 4096]⟩
abbrev S1x256x32x128 : Shape := ⟨4, ![1, 256, 32, 128]⟩
abbrev S_ : Shape := ⟨0, ![]⟩
abbrev S1x32x256x1 : Shape := ⟨4, ![1, 32, 256, 1]⟩
abbrev S1x1024x32x128 : Shape := ⟨4, ![1, 1024, 32, 128]⟩
abbrev S1x32x256x1024 : Shape := ⟨4, ![1, 32, 256, 1024]⟩
abbrev S1x32x256 : Shape := ⟨3, ![1, 32, 256]⟩
abbrev S1x256x32x1 : Shape := ⟨4, ![1, 256, 32, 1]⟩
abbrev S1x32x128x256 : Shape := ⟨4, ![1, 32, 128, 256]⟩

abbrev nBuf : Space → Nat
  | .hbm => 122
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x4096, .f32⟩
  | .hbm, ⟨2, _⟩ => ⟨S1x4096x32x128, .f32⟩
  | .hbm, ⟨3, _⟩ => ⟨S1x4096x32x128, .f32⟩
  | .hbm, ⟨4, _⟩ => ⟨S4096x1024, .f32⟩
  | .hbm, ⟨5, _⟩ => ⟨S1x256x4096, .f32⟩
  | .hbm, ⟨6, _⟩ => ⟨S1x256x32x128, .f32⟩
  | .hbm, ⟨7, _⟩ => ⟨S_, .f32⟩
  | .hbm, ⟨8, _⟩ => ⟨S1x256x32x128, .f32⟩
  | .hbm, ⟨9, _⟩ => ⟨S_, .f32⟩
  | .hbm, ⟨10, _⟩ => ⟨S1x32x256x1, .f32⟩
  | .hbm, ⟨11, _⟩ => ⟨S_, .f32⟩
  | .hbm, ⟨12, _⟩ => ⟨S1x32x256x1, .f32⟩
  | .hbm, ⟨13, _⟩ => ⟨S1x1024x32x128, .f32⟩
  | .hbm, ⟨14, _⟩ => ⟨S1x1024x32x128, .f32⟩
  | .hbm, ⟨15, _⟩ => ⟨S1x32x256x1024, .f32⟩
  | .hbm, ⟨16, _⟩ => ⟨S_, .f32⟩
  | .hbm, ⟨17, _⟩ => ⟨S1x32x256x1024, .f32⟩
  | .hbm, ⟨18, _⟩ => ⟨S1x32x256x1024, .f32⟩
  | .hbm, ⟨19, _⟩ => ⟨S_, .f32⟩
  | .hbm, ⟨20, _⟩ => ⟨S1x32x256, .f32⟩
  | .hbm, ⟨21, _⟩ => ⟨S1x32x256x1, .f32⟩
  | .hbm, ⟨22, _⟩ => ⟨S1x32x256x1, .f32⟩
  | .hbm, ⟨23, _⟩ => ⟨S1x32x256x1, .f32⟩
  | .hbm, ⟨24, _⟩ => ⟨S1x32x256x1, .f32⟩
  | .hbm, ⟨25, _⟩ => ⟨S1x32x256x1024, .f32⟩
  | .hbm, ⟨26, _⟩ => ⟨S1x32x256x1024, .f32⟩
  | .hbm, ⟨27, _⟩ => ⟨S1x32x256x1024, .f32⟩
  | .hbm, ⟨28, _⟩ => ⟨S1x32x256x1, .f32⟩
  | .hbm, ⟨29, _⟩ => ⟨S_, .f32⟩
  | .hbm, ⟨30, _⟩ => ⟨S1x32x256, .f32⟩
  | .hbm, ⟨31, _⟩ => ⟨S1x32x256x1, .f32⟩
  | .hbm, ⟨32, _⟩ => ⟨S1x32x256x1, .f32⟩
  | .hbm, ⟨33, _⟩ => ⟨S1x256x32x1, .f32⟩
  | .hbm, ⟨34, _⟩ => ⟨S1x256x32x128, .f32⟩
  | .hbm, ⟨35, _⟩ => ⟨S1x256x32x128, .f32⟩
  | .hbm, ⟨36, _⟩ => ⟨S1x32x128x256, .f32⟩
  | .hbm, ⟨37, _⟩ => ⟨S1x256x32x128, .f32⟩
  | .hbm, ⟨38, _⟩ => ⟨S1x256x32x128, .f32⟩
  | .hbm, ⟨39, _⟩ => ⟨S1x1024x32x128, .f32⟩
  | .hbm, ⟨40, _⟩ => ⟨S1x1024x32x128, .f32⟩
  | .hbm, ⟨41, _⟩ => ⟨S1x32x256x1024, .f32⟩
  | .hbm, ⟨42, _⟩ => ⟨S_, .f32⟩
  | .hbm, ⟨43, _⟩ => ⟨S1x32x256x1024, .f32⟩
  | .hbm, ⟨44, _⟩ => ⟨S1x32x256x1024, .f32⟩
  | .hbm, ⟨45, _⟩ => ⟨S_, .f32⟩
  | .hbm, ⟨46, _⟩ => ⟨S1x32x256, .f32⟩
  | .hbm, ⟨47, _⟩ => ⟨S1x32x256x1, .f32⟩
  | .hbm, ⟨48, _⟩ => ⟨S1x32x256x1, .f32⟩
  | .hbm, ⟨49, _⟩ => ⟨S1x32x256x1, .f32⟩
  | .hbm, ⟨50, _⟩ => ⟨S1x32x256x1, .f32⟩
  | .hbm, ⟨51, _⟩ => ⟨S1x32x256x1024, .f32⟩
  | .hbm, ⟨52, _⟩ => ⟨S1x32x256x1024, .f32⟩
  | .hbm, ⟨53, _⟩ => ⟨S1x32x256x1024, .f32⟩
  | .hbm, ⟨54, _⟩ => ⟨S1x32x256x1, .f32⟩
  | .hbm, ⟨55, _⟩ => ⟨S_, .f32⟩
  | .hbm, ⟨56, _⟩ => ⟨S1x32x256, .f32⟩
  | .hbm, ⟨57, _⟩ => ⟨S1x32x256x1, .f32⟩
  | .hbm, ⟨58, _⟩ => ⟨S1x32x256x1, .f32⟩
  | .hbm, ⟨59, _⟩ => ⟨S1x256x32x1, .f32⟩
  | .hbm, ⟨60, _⟩ => ⟨S1x256x32x128, .f32⟩
  | .hbm, ⟨61, _⟩ => ⟨S1x256x32x128, .f32⟩
  | .hbm, ⟨62, _⟩ => ⟨S1x32x128x256, .f32⟩
  | .hbm, ⟨63, _⟩ => ⟨S1x256x32x128, .f32⟩
  | .hbm, ⟨64, _⟩ => ⟨S1x256x32x128, .f32⟩
  | .hbm, ⟨65, _⟩ => ⟨S1x1024x32x128, .f32⟩
  | .hbm, ⟨66, _⟩ => ⟨S1x1024x32x128, .f32⟩
  | .hbm, ⟨67, _⟩ => ⟨S1x32x256x1024, .f32⟩
  | .hbm, ⟨68, _⟩ => ⟨S_, .f32⟩
  | .hbm, ⟨69, _⟩ => ⟨S1x32x256x1024, .f32⟩
  | .hbm, ⟨70, _⟩ => ⟨S1x32x256x1024, .f32⟩
  | .hbm, ⟨71, _⟩ => ⟨S_, .f32⟩
  | .hbm, ⟨72, _⟩ => ⟨S1x32x256, .f32⟩
  | .hbm, ⟨73, _⟩ => ⟨S1x32x256x1, .f32⟩
  | .hbm, ⟨74, _⟩ => ⟨S1x32x256x1, .f32⟩
  | .hbm, ⟨75, _⟩ => ⟨S1x32x256x1, .f32⟩
  | .hbm, ⟨76, _⟩ => ⟨S1x32x256x1, .f32⟩
  | .hbm, ⟨77, _⟩ => ⟨S1x32x256x1024, .f32⟩
  | .hbm, ⟨78, _⟩ => ⟨S1x32x256x1024, .f32⟩
  | .hbm, ⟨79, _⟩ => ⟨S1x32x256x1024, .f32⟩
  | .hbm, ⟨80, _⟩ => ⟨S1x32x256x1, .f32⟩
  | .hbm, ⟨81, _⟩ => ⟨S_, .f32⟩
  | .hbm, ⟨82, _⟩ => ⟨S1x32x256, .f32⟩
  | .hbm, ⟨83, _⟩ => ⟨S1x32x256x1, .f32⟩
  | .hbm, ⟨84, _⟩ => ⟨S1x32x256x1, .f32⟩
  | .hbm, ⟨85, _⟩ => ⟨S1x256x32x1, .f32⟩
  | .hbm, ⟨86, _⟩ => ⟨S1x256x32x128, .f32⟩
  | .hbm, ⟨87, _⟩ => ⟨S1x256x32x128, .f32⟩
  | .hbm, ⟨88, _⟩ => ⟨S1x32x128x256, .f32⟩
  | .hbm, ⟨89, _⟩ => ⟨S1x256x32x128, .f32⟩
  | .hbm, ⟨90, _⟩ => ⟨S1x256x32x128, .f32⟩
  | .hbm, ⟨91, _⟩ => ⟨S1x1024x32x128, .f32⟩
  | .hbm, ⟨92, _⟩ => ⟨S1x1024x32x128, .f32⟩
  | .hbm, ⟨93, _⟩ => ⟨S1x32x256x1024, .f32⟩
  | .hbm, ⟨94, _⟩ => ⟨S_, .f32⟩
  | .hbm, ⟨95, _⟩ => ⟨S1x32x256x1024, .f32⟩
  | .hbm, ⟨96, _⟩ => ⟨S1x32x256x1024, .f32⟩
  | .hbm, ⟨97, _⟩ => ⟨S_, .f32⟩
  | .hbm, ⟨98, _⟩ => ⟨S1x32x256, .f32⟩
  | .hbm, ⟨99, _⟩ => ⟨S1x32x256x1, .f32⟩
  | .hbm, ⟨100, _⟩ => ⟨S1x32x256x1, .f32⟩
  | .hbm, ⟨101, _⟩ => ⟨S1x32x256x1, .f32⟩
  | .hbm, ⟨102, _⟩ => ⟨S1x32x256x1, .f32⟩
  | .hbm, ⟨103, _⟩ => ⟨S1x32x256x1024, .f32⟩
  | .hbm, ⟨104, _⟩ => ⟨S1x32x256x1024, .f32⟩
  | .hbm, ⟨105, _⟩ => ⟨S1x32x256x1024, .f32⟩
  | .hbm, ⟨106, _⟩ => ⟨S1x32x256x1, .f32⟩
  | .hbm, ⟨107, _⟩ => ⟨S_, .f32⟩
  | .hbm, ⟨108, _⟩ => ⟨S1x32x256, .f32⟩
  | .hbm, ⟨109, _⟩ => ⟨S1x32x256x1, .f32⟩
  | .hbm, ⟨110, _⟩ => ⟨S1x32x256x1, .f32⟩
  | .hbm, ⟨111, _⟩ => ⟨S1x256x32x1, .f32⟩
  | .hbm, ⟨112, _⟩ => ⟨S1x256x32x128, .f32⟩
  | .hbm, ⟨113, _⟩ => ⟨S1x256x32x128, .f32⟩
  | .hbm, ⟨114, _⟩ => ⟨S1x32x128x256, .f32⟩
  | .hbm, ⟨115, _⟩ => ⟨S1x256x32x128, .f32⟩
  | .hbm, ⟨116, _⟩ => ⟨S1x256x32x128, .f32⟩
  | .hbm, ⟨117, _⟩ => ⟨S1x256x32x1, .f32⟩
  | .hbm, ⟨118, _⟩ => ⟨S1x256x32x128, .f32⟩
  | .hbm, ⟨119, _⟩ => ⟨S1x256x32x128, .f32⟩
  | .hbm, ⟨120, _⟩ => ⟨S1x256x4096, .f32⟩
  | .hbm, ⟨121, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_10 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_11 : Ref sig .tc := ⟨.hbm, 94, rfl⟩
abbrev main_v77 : Ref sig .tc := ⟨.hbm, 95, rfl⟩
abbrev main_v78 : Ref sig .tc := ⟨.hbm, 96, rfl⟩
abbrev main_cst_12 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_13 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩

abbrev nD : Nat := 1
abbrev τ : Topo := Topo.v7x

variable {F : FTy → Type} [FloatOps F]
-- ==== Proof.Views.lean ====
/-
The views of the buffers that the kernel moves: the eight head blocks of the two key/value scratch buffers and of
the two operands in HBM, the eight blocks of 32 rows of the partial product and of the result, the landing blocks
of the first exchange, the two halves of the reduced rows; which elements each covers; the device arithmetic; and
the transfer semaphores by number.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Pf

open Cert.KernelIdeal Cert.KernelIdeal.Gen
open Idealize.ShloMosaic
open Idealize.ShloMosaic.TcCoe

/-! ## Devices -/

/-- The device that device `c` sends slot `s` to: `s + 1` places before it. -/
def tg (c : Dev nD) (s : Fin 3) : Dev nD := ⟨(c.val + (3 - s.val)) % 4, Nat.mod_lt _ (by decide)⟩
/-- The device whose slot `s` comes to device `c`: `s + 1` places after it. -/
def pl (c : Dev nD) (s : Fin 3) : Dev nD := ⟨(c.val + (s.val + 1)) % 4, Nat.mod_lt _ (by decide)⟩
/-- The slot of the way back. -/
def rv (s : Fin 3) : Fin 3 := s.rev

theorem tg_pl (c : Dev nD) (s : Fin 3) : tg (pl c s) s = c := by revert c s; decide
theorem pl_tg (c : Dev nD) (s : Fin 3) : pl (tg c s) s = c := by revert c s; decide
theorem tg_tg_rv (c : Dev nD) (s : Fin 3) : tg (tg c s) (rv s) = c := by revert c s; decide
theorem rv_rv (s : Fin 3) : rv (rv s) = s := by revert s; decide
theorem tg_ne (c : Dev nD) (s : Fin 3) : tg c s ≠ c := by revert c s; decide

theorem dev1_eq (c : Dev nD) : (⟨k0_dev1 c, k0_dev1_lt c⟩ : Dev nD) = tg c 0 := by revert c; decide
theorem dev2_eq (c : Dev nD) : (⟨k0_dev2 c, k0_dev2_lt c⟩ : Dev nD) = tg c 1 := by revert c; decide
theorem dev3_eq (c : Dev nD) : (⟨k0_dev3 c, k0_dev3_lt c⟩ : Dev nD) = tg c 2 := by revert c; decide
theorem dev4_eq (c : Dev nD) : (⟨k0_dev4 c, k0_dev4_lt c⟩ : Dev nD) = tg c 0 := by revert c; decide
theorem dev5_eq (c : Dev nD) : (⟨k0_dev5 c, k0_dev5_lt c⟩ : Dev nD) = tg c 1 := by revert c; decide
theorem dev6_eq (c : Dev nD) : (⟨k0_dev6 c, k0_dev6_lt c⟩ : Dev nD) = tg c 2 := by revert c; decide
theorem dev7_eq (c : Dev nD) : (⟨k0_dev7 c, k0_dev7_lt c⟩ : Dev nD) = tg c 0 := by revert c; decide
theorem dev8_eq (c : Dev nD) : (⟨k0_dev8 c, k0_dev8_lt c⟩ : Dev nD) = tg c 1 := by revert c; decide
theorem dev9_eq (c : Dev nD) : (⟨k0_dev9 c, k0_dev9_lt c⟩ : Dev nD) = tg c 2 := by revert c; decide
theorem dev10_eq (c : Dev nD) : (⟨k0_dev10 c, k0_dev10_lt c⟩ : Dev nD) = tg c 0 := by revert c; decide
theorem dev11_eq (c : Dev nD) : (⟨k0_dev11 c, k0_dev11_lt c⟩ : Dev nD) = tg c 1 := by revert c; decide
theorem dev12_eq (c : Dev nD) : (⟨k0_dev12 c, k0_dev12_lt c⟩ : Dev nD) = tg c 2 := by revert c; decide
theorem dev13_eq (c : Dev nD) : (⟨k0_dev13 c, k0_dev13_lt c⟩ : Dev nD) = tg c 0 := by revert c; decide
theorem dev14_eq (c : Dev nD) : (⟨k0_dev14 c, k0_dev14_lt c⟩ : Dev nD) = tg c 1 := by revert c; decide
theorem dev15_eq (c : Dev nD) : (⟨k0_dev15 c, k0_dev15_lt c⟩ : Dev nD) = tg c 2 := by revert c; decide

/-! ## Buffers -/

abbrev xM : Memref sig .tc .vmem S1x256x1024 .f32 := Memref.whole cc0_stg0_0
abbrev wqM : Memref sig .tc .vmem S1024x1024 .f32 := Memref.whole cc0_stg1_0
abbrev woM : Memref sig .tc .vmem S1024x1024 .f32 := Memref.whole cc0_stg2_0
abbrev oM : Memref sig .tc .vmem S1x256x1024 .f32 := Memref.whole cc0_stg3_0
abbrev khM : Memref sig .tc .hbm S1x4096x32x128 .f32 := Memref.whole main_arg2
abbrev vhM : Memref sig .tc .hbm S1x4096x32x128 .f32 := Memref.whole main_arg3
abbrev kM : Memref sig .tc .vmem S8x4096x128 .f32 := Memref.whole cc0_scratch0
abbrev vM : Memref sig .tc .vmem S8x4096x128 .f32 := Memref.whole cc0_scratch1
abbrev atM : Memref sig .tc .vmem S256x1024 .f32 := Memref.whole cc0_scratch2
abbrev paM : Memref sig .tc .vmem S256x1024 .f32 := Memref.whole cc0_scratch3
abbrev rsM : Memref sig .tc .vmem S4x2x32x1024 .f32 := Memref.whole cc0_scratch4
abbrev rdM : Memref sig .tc .vmem S64x1024 .f32 := Memref.whole cc0_scratch5

/-! ## Rectangles and views -/

theorem kR_inb (h : Fin 8) : ∀ a, (![h.val, 0, 0] : Fin 3 → ℕ) a + S1x4096x128.size a ≤ S8x4096x128.size a := by
  revert h; decide
abbrev kR (h : Fin 8) : Rect S8x4096x128 := Rect.unit (s := S8x4096x128) ![h.val, 0, 0] S1x4096x128.size (kR_inb h)
theorem atR_inb (h : Fin 8) : ∀ a, (![0, 128 * h.val] : Fin 2 → ℕ) a + S256x128.size a ≤ S256x1024.size a := by
  revert h; decide
abbrev atR (h : Fin 8) : Rect S256x1024 := Rect.unit (s := S256x1024) ![0, 128 * h.val] S256x128.size (atR_inb h)
theorem paR_inb (b : Fin 4) (k : Fin 2) : ∀ a, (![64 * b.val + 32 * k.val, 0] : Fin 2 → ℕ) a + S32x1024.size a ≤ S256x1024.size a := by
  revert b k; decide
abbrev paR (b : Fin 4) (k : Fin 2) : Rect S256x1024 := Rect.unit (s := S256x1024) ![64 * b.val + 32 * k.val, 0] S32x1024.size (paR_inb b k)
theorem rsR_inb (s : Fin 4) (k : Fin 2) : ∀ a, (![s.val, k.val, 0, 0] : Fin 4 → ℕ) a + S1x1x32x1024.size a ≤ S4x2x32x1024.size a := by
  revert s k; decide
abbrev rsR (s : Fin 4) (k : Fin 2) : Rect S4x2x32x1024 := Rect.unit (s := S4x2x32x1024) ![s.val, k.val, 0, 0] S1x1x32x1024.size (rsR_inb s k)
theorem rdR_inb (k : Fin 2) : ∀ a, (![32 * k.val, 0] : Fin 2 → ℕ) a + S32x1024.size a ≤ S64x1024.size a := by
  revert k; decide
abbrev rdR (k : Fin 2) : Rect S64x1024 := Rect.unit (s := S64x1024) ![32 * k.val, 0] S32x1024.size (rdR_inb k)
theorem oR_inb (b : Fin 4) (k : Fin 2) : ∀ a, (![0, 64 * b.val + 32 * k.val, 0] : Fin 3 → ℕ) a + S1x32x1024.size a ≤ S1x256x1024.size a := by
  revert b k; decide
abbrev oR (b : Fin 4) (k : Fin 2) : Rect S1x256x1024 := Rect.unit (s := S1x256x1024) ![0, 64 * b.val + 32 * k.val, 0] S1x32x1024.size (oR_inb b k)
abbrev hR (c : Dev nD) (h : Fin 8) : Rect S1x4096x32x128 :=
  Rect.unit (s := S1x4096x32x128) (k0_off1 c (BitVec.ofNat 32 h.val)) S1x4096x1x128.size (k0_off1_inb c h)

abbrev kB (h : Fin 8) : Memref sig .tc .vmem S4096x128 .f32 := (kM.slice (kR h) (fun _ => rfl)).squeeze S4096x128 squeezes_S1x4096x128_S4096x128
abbrev vB (h : Fin 8) : Memref sig .tc .vmem S4096x128 .f32 := (vM.slice (kR h) (fun _ => rfl)).squeeze S4096x128 squeezes_S1x4096x128_S4096x128
abbrev khB (c : Dev nD) (h : Fin 8) : Memref sig .tc .hbm S4096x128 .f32 := (khM.slice (hR c h) (fun _ => rfl)).squeeze S4096x128 squeezes_S1x4096x1x128_S4096x128
abbrev vhB (c : Dev nD) (h : Fin 8) : Memref sig .tc .hbm S4096x128 .f32 := (vhM.slice (hR c h) (fun _ => rfl)).squeeze S4096x128 squeezes_S1x4096x1x128_S4096x128
abbrev paB (b : Fin 4) (k : Fin 2) : Memref sig .tc .vmem S32x1024 .f32 := paM.slice (paR b k) (fun _ => rfl)
abbrev rsB (s : Fin 4) (k : Fin 2) : Memref sig .tc .vmem S32x1024 .f32 := (rsM.slice (rsR s k) (fun _ => rfl)).squeeze S32x1024 squeezes_S1x1x32x1024_S32x1024
abbrev rdB (k : Fin 2) : Memref sig .tc .vmem S32x1024 .f32 := rdM.slice (rdR k) (fun _ => rfl)
abbrev oB (b : Fin 4) (k : Fin 2) : Memref sig .tc .vmem S32x1024 .f32 := (oM.slice (oR b k) (fun _ => rfl)).squeeze S32x1024 squeezes_S1x32x1024_S32x1024

/-! ## The offsets the kernel computes, as blocks -/

theorem pa_slice_eq (b : Fin 4) (k : Fin 2) {off : Fin 2 → ℕ} (h : off = ![64 * b.val + 32 * k.val, 0])
    (p : ∀ a, off a + S32x1024.size a ≤ S256x1024.size a) :
    paM.slice (Rect.unit (s := S256x1024) off S32x1024.size p) (fun _ => rfl) = paB b k := by subst h; rfl
theorem o_slice_eq (b : Fin 4) (k : Fin 2) {off : Fin 3 → ℕ} (h : off = ![0, 64 * b.val + 32 * k.val, 0])
    (p : ∀ a, off a + S1x32x1024.size a ≤ S1x256x1024.size a) :
    (oM.slice (Rect.unit (s := S1x256x1024) off S1x32x1024.size p) (fun _ => rfl)).squeeze S32x1024 squeezes_S1x32x1024_S32x1024 = oB b k := by
  subst h; rfl

theorem off2_0 (c : Dev nD) : k0_off2 c 0#32 = ![64 * (tg c 0).val + 32 * (0 : Fin 2).val, 0] := by revert c; decide
theorem off2_1 (c : Dev nD) : k0_off2 c 32#32 = ![64 * (tg c 0).val + 32 * (1 : Fin 2).val, 0] := by revert c; decide
theorem off3_1_0 (c : Dev nD) : k0_off3 c 2#32 0#32 = ![64 * (tg c 1).val + 32 * (0 : Fin 2).val, 0] := by revert c; decide
theorem off3_1_1 (c : Dev nD) : k0_off3 c 2#32 32#32 = ![64 * (tg c 1).val + 32 * (1 : Fin 2).val, 0] := by revert c; decide
theorem off3_2_0 (c : Dev nD) : k0_off3 c 1#32 0#32 = ![64 * (tg c 2).val + 32 * (0 : Fin 2).val, 0] := by revert c; decide
theorem off3_2_1 (c : Dev nD) : k0_off3 c 1#32 32#32 = ![64 * (tg c 2).val + 32 * (1 : Fin 2).val, 0] := by revert c; decide
theorem off4_0 (c : Dev nD) : k0_off4 c 0#32 = ![64 * c.val + 32 * (0 : Fin 2).val, 0] := by revert c; decide
theorem off4_1 (c : Dev nD) : k0_off4 c 32#32 = ![64 * c.val + 32 * (1 : Fin 2).val, 0] := by revert c; decide
theorem off5_0 (c : Dev nD) : k0_off5 c 0#32 = ![0, 64 * c.val + 32 * (0 : Fin 2).val, 0] := by revert c; decide
theorem off5_1 (c : Dev nD) : k0_off5 c 32#32 = ![0, 64 * c.val + 32 * (1 : Fin 2).val, 0] := by revert c; decide
theorem off6_0 (c : Dev nD) : k0_off6 c 0#32 = ![0, 64 * c.val + 32 * (0 : Fin 2).val, 0] := by revert c; decide
theorem off6_1 (c : Dev nD) : k0_off6 c 32#32 = ![0, 64 * c.val + 32 * (1 : Fin 2).val, 0] := by revert c; decide
theorem off1_eq (c : Dev nD) (h : Fin 8) : k0_off1 c (BitVec.ofNat 32 h.val) = ![0, 0, 8 * c.val + h.val, 0] := by
  revert c h; decide

/-! ## Which elements a block covers -/

theorem disj_of_key {I : Type} [DecidableEq I] {B K : Type} (S : B → Finset I) (key : I → K) (kb : B → K)
    (hi : ∀ b b', kb b = kb b' → b = b') (h : ∀ b, ∀ i ∈ S b, key i = kb b) : ∀ b b', b ≠ b' → Disjoint (S b) (S b') := fun b b' hne =>
  Finset.disjoint_left.mpr fun i h1 h2 => hne (hi _ _ ((h b i h1).symm.trans (h b' i h2)))

theorem kB_set (h : Fin 8) : (kB h).view.set = (kR h).set := by
  show (((View.whole cc0_scratch0).slice (kR h)).reshape _ _).set = _
  rw [View.set_reshape, View.set_slice_whole]
theorem vB_set (h : Fin 8) : (vB h).view.set = (kR h).set := by
  show (((View.whole cc0_scratch1).slice (kR h)).reshape _ _).set = _
  rw [View.set_reshape, View.set_slice_whole]
theorem khB_set (c : Dev nD) (h : Fin 8) : (khB c h).view.set = (hR c h).set := by
  show (((View.whole main_arg2).slice (hR c h)).reshape _ _).set = _
  rw [View.set_reshape, View.set_slice_whole]
theorem vhB_set (c : Dev nD) (h : Fin 8) : (vhB c h).view.set = (hR c h).set := by
  show (((View.whole main_arg3).slice (hR c h)).reshape _ _).set = _
  rw [View.set_reshape, View.set_slice_whole]
theorem paB_set (b : Fin 4) (k : Fin 2) : (paB b k).view.set = (paR b k).set := by
  show ((View.whole cc0_scratch3).slice (paR b k)).set = _
  rw [View.set_slice_whole]
theorem rsB_set (s : Fin 4) (k : Fin 2) : (rsB s k).view.set = (rsR s k).set := by
  show (((View.whole cc0_scratch4).slice (rsR s k)).reshape _ _).set = _
  rw [View.set_reshape, View.set_slice_whole]
theorem rdB_set (k : Fin 2) : (rdB k).view.set = (rdR k).set := by
  show ((View.whole cc0_scratch5).slice (rdR k)).set = _
  rw [View.set_slice_whole]
theorem oB_set (b : Fin 4) (k : Fin 2) : (oB b k).view.set = (oR b k).set := by
  show (((View.whole cc0_stg3_0).slice (oR b k)).reshape _ _).set = _
  rw [View.set_reshape, View.set_slice_whole]

theorem mem_kR {h : Fin 8} {i : S8x4096x128.Idx} : i ∈ (kR h).set ↔ i 0 = h := by
  rw [Rect.mem_set_unit]
  constructor
  · intro H
    have h0 := H 0
    apply Fin.ext
    simp at h0 ⊢; omega
  · intro e a
    subst e
    have h1 := (i 1).isLt
    have h2 := (i 2).isLt
    fin_cases a
    · exact ⟨le_refl _, Nat.lt_succ_self _⟩
    · exact ⟨Nat.zero_le _, by simpa using h1⟩
    · exact ⟨Nat.zero_le _, by simpa using h2⟩

theorem mem_atR {h : Fin 8} {i : S256x1024.Idx} : i ∈ (atR h).set ↔ (i 1).val / 128 = h.val := by
  rw [Rect.mem_set_unit]
  constructor
  · intro H
    have h0 := H 1
    simp at h0; omega
  · intro e a
    have h1 := (i 0).isLt
    fin_cases a
    · exact ⟨Nat.zero_le _, by simpa using h1⟩
    · simp; omega

theorem mem_paR {b : Fin 4} {k : Fin 2} {i : S256x1024.Idx} : i ∈ (paR b k).set ↔ (i 0).val / 32 = 2 * b.val + k.val := by
  rw [Rect.mem_set_unit]
  constructor
  · intro H
    have h0 := H 0
    simp at h0; omega
  · intro e a
    have h1 := (i 1).isLt
    fin_cases a
    · simp; omega
    · exact ⟨Nat.zero_le _, by simpa using h1⟩

theorem mem_rdR {k : Fin 2} {i : S64x1024.Idx} : i ∈ (rdR k).set ↔ (i 0).val / 32 = k.val := by
  rw [Rect.mem_set_unit]
  constructor
  · intro H
    have h0 := H 0
    simp at h0; omega
  · intro e a
    have h1 := (i 1).isLt
    fin_cases a
    · simp; omega
    · exact ⟨Nat.zero_le _, by simpa using h1⟩

theorem mem_oR {b : Fin 4} {k : Fin 2} {i : S1x256x1024.Idx} : i ∈ (oR b k).set ↔ (i 1).val / 32 = 2 * b.val + k.val := by
  rw [Rect.mem_set_unit]
  constructor
  · intro H
    have h0 := H 1
    simp at h0; omega
  · intro e a
    have h0 := (i 0).isLt
    have h1 := (i 2).isLt
    fin_cases a
    · exact ⟨Nat.zero_le _, by simpa using h0⟩
    · simp; omega
    · exact ⟨Nat.zero_le _, by simpa using h1⟩

theorem mem_rsR {s : Fin 4} {k : Fin 2} {i : S4x2x32x1024.Idx} : i ∈ (rsR s k).set ↔ i 0 = s ∧ i 1 = k := by
  rw [Rect.mem_set_unit]
  constructor
  · intro H
    have h0 := H 0
    have h1 := H 1
    simp at h0 h1
    exact ⟨Fin.ext (by omega), Fin.ext (by omega)⟩
  · rintro ⟨rfl, rfl⟩ a
    have h2 := (i 2).isLt
    have h3 := (i 3).isLt
    fin_cases a
    · exact ⟨le_refl _, Nat.lt_succ_self _⟩
    · exact ⟨le_refl _, Nat.lt_succ_self _⟩
    · exact ⟨Nat.zero_le _, by simpa using h2⟩
    · exact ⟨Nat.zero_le _, by simpa using h3⟩

theorem hR_key {c : Dev nD} {h : Fin 8} {i : S1x4096x32x128.Idx} (hi : i ∈ (hR c h).set) : (i 2).val = 8 * c.val + h.val := by
  have H := (Rect.mem_set_unit.mp hi) 2
  rw [off1_eq] at H
  simp at H; omega

/-! ### The families: disjoint, and covering where they do -/

theorem kB_disj : ∀ b b' : Fin 8, b ≠ b' → Disjoint (kB b).view.set (kB b').view.set :=
  disj_of_key (fun h : Fin 8 => (kB h).view.set) (fun i : S8x4096x128.Idx => i 0) id (fun _ _ h => h)
    (fun b i hi => by rw [kB_set] at hi; exact mem_kR.mp hi)
theorem kB_cover (i : S8x4096x128.Idx) : ∃ b : Fin 8, i ∈ (kB b).view.set := by
  exact ⟨(i 0 : Fin 8), by erw [kB_set]; exact mem_kR.mpr rfl⟩
theorem vB_disj : ∀ b b' : Fin 8, b ≠ b' → Disjoint (vB b).view.set (vB b').view.set :=
  disj_of_key (fun h : Fin 8 => (vB h).view.set) (fun i : S8x4096x128.Idx => i 0) id (fun _ _ h => h)
    (fun b i hi => by rw [vB_set] at hi; exact mem_kR.mp hi)
theorem vB_cover (i : S8x4096x128.Idx) : ∃ b : Fin 8, i ∈ (vB b).view.set := by
  exact ⟨(i 0 : Fin 8), by erw [vB_set]; exact mem_kR.mpr rfl⟩
theorem khB_disj (c : Dev nD) : ∀ b b' : Fin 8, b ≠ b' → Disjoint (khB c b).view.set (khB c b').view.set :=
  disj_of_key (fun h : Fin 8 => (khB c h).view.set) (fun i : S1x4096x32x128.Idx => (i 2).val) (fun h : Fin 8 => 8 * c.val + h.val) (fun _ _ h => Fin.ext (by omega))
    (fun b i hi => by rw [khB_set] at hi; exact hR_key hi)
theorem vhB_disj (c : Dev nD) : ∀ b b' : Fin 8, b ≠ b' → Disjoint (vhB c b).view.set (vhB c b').view.set :=
  disj_of_key (fun h : Fin 8 => (vhB c h).view.set) (fun i : S1x4096x32x128.Idx => (i 2).val) (fun h : Fin 8 => 8 * c.val + h.val) (fun _ _ h => Fin.ext (by omega))
    (fun b i hi => by rw [vhB_set] at hi; exact hR_key hi)

/-- A block of rows as one number. -/
def bk (b : Fin 4 × Fin 2) : ℕ := 2 * b.1.val + b.2.val
theorem bk_inj (b b' : Fin 4 × Fin 2) (h : bk b = bk b') : b = b' := by
  unfold bk at h
  exact Prod.ext (Fin.ext (by omega)) (Fin.ext (by omega))

theorem paB_disj : ∀ b b' : Fin 4 × Fin 2, b ≠ b' → Disjoint (paB b.1 b.2).view.set (paB b'.1 b'.2).view.set :=
  disj_of_key (fun b : Fin 4 × Fin 2 => (paB b.1 b.2).view.set) (fun i : S256x1024.Idx => (i 0).val / 32) bk bk_inj
    (fun b i hi => by rw [paB_set] at hi; exact mem_paR.mp hi)
theorem paB_cover (i : S256x1024.Idx) : ∃ b : Fin 4 × Fin 2, i ∈ (paB b.1 b.2).view.set := by
  have h := (i 0).isLt
  have h' : (i 0).val < 256 := h
  exact ⟨(⟨(i 0).val / 64, by omega⟩, ⟨(i 0).val / 32 % 2, by omega⟩), by rw [paB_set]; exact mem_paR.mpr (by simp; omega)⟩
theorem oB_disj : ∀ b b' : Fin 4 × Fin 2, b ≠ b' → Disjoint (oB b.1 b.2).view.set (oB b'.1 b'.2).view.set :=
  disj_of_key (fun b : Fin 4 × Fin 2 => (oB b.1 b.2).view.set) (fun i : S1x256x1024.Idx => (i 1).val / 32) bk bk_inj
    (fun b i hi => by rw [oB_set] at hi; exact mem_oR.mp hi)
theorem oB_cover (i : S1x256x1024.Idx) : ∃ b : Fin 4 × Fin 2, i ∈ (oB b.1 b.2).view.set := by
  have h := (i 1).isLt
  have h' : (i 1).val < 256 := h
  exact ⟨(⟨(i 1).val / 64, by omega⟩, ⟨(i 1).val / 32 % 2, by omega⟩), by rw [oB_set]; exact mem_oR.mpr (by simp; omega)⟩
theorem rsB_disj : ∀ b b' : Fin 4 × Fin 2, b ≠ b' → Disjoint (rsB b.1 b.2).view.set (rsB b'.1 b'.2).view.set :=
  disj_of_key (fun b : Fin 4 × Fin 2 => (rsB b.1 b.2).view.set) (fun i : S4x2x32x1024.Idx => ((i 0, i 1) : Fin 4 × Fin 2)) id (fun _ _ h => h)
    (fun b i hi => by rw [rsB_set] at hi; exact Prod.ext (mem_rsR.mp hi).1 (mem_rsR.mp hi).2)
theorem rsB_cover (i : S4x2x32x1024.Idx) : ∃ b : Fin 4 × Fin 2, i ∈ (rsB b.1 b.2).view.set := by
  exact ⟨(i 0, i 1), by rw [rsB_set]; exact mem_rsR.mpr ⟨rfl, rfl⟩⟩
theorem rdB_disj : ∀ b b' : Fin 2, b ≠ b' → Disjoint (rdB b).view.set (rdB b').view.set :=
  disj_of_key (fun b : Fin 2 => (rdB b).view.set) (fun i : S64x1024.Idx => (i 0).val / 32) (fun b : Fin 2 => b.val) (fun _ _ h => Fin.ext h)
    (fun b i hi => by rw [rdB_set] at hi; exact mem_rdR.mp hi)
theorem rdB_cover (i : S64x1024.Idx) : ∃ b : Fin 2, i ∈ (rdB b).view.set := by
  have h := (i 0).isLt
  have h' : (i 0).val < 64 := h
  exact ⟨⟨(i 0).val / 32, by omega⟩, by rw [rdB_set]; exact mem_rdR.mpr (by simp)⟩

/-! ## Semaphores -/

/-- The semaphore of head `h`'s local copy of the keys (`j = 0`) or the values (`j = 1`). -/
def lsem (h : Fin 8) (j : Fin 2) : DmaSem sig := ⟨4 + 2 * h.val + j.val, show 4 + 2 * h.val + j.val < 52 by omega⟩
/-- The semaphores of the two exchanges: which array (first exchange's send, receive, second exchange's send,
    receive), which slot, which half. -/
abbrev XI : Type := Fin 4 × Fin 3 × Fin 2
def xsem (x : XI) : DmaSem sig := ⟨20 + 8 * x.1.val + 2 * (x.2.1.val + 1) + x.2.2.val, show 20 + 8 * x.1.val + 2 * (x.2.1.val + 1) + x.2.2.val < 52 by omega⟩
theorem xsem_inj : Function.Injective xsem := by
  rintro ⟨a, b, c⟩ ⟨a', b', c'⟩ h
  have := congrArg Fin.val h
  simp only [xsem] at this
  refine Prod.ext (Fin.ext ?_) (Prod.ext (Fin.ext ?_) (Fin.ext ?_)) <;> simp only <;> omega

/-- The runtime's barrier semaphore. -/
abbrev barS : Sem sig := (SemArray.scalar (sig.barrier 0 rfl) : Sems sig S_).sem

example : ((cc0_scratch7.slice (Rect.unit (s := S4x2) ![1, 0] S1x1.size inb_S4x2_S1x1_1_0)).squeeze S_ squeezes_S1x1_S_).sem = xsem (0, 0, 0) := by decide
example : ((cc0_scratch10.slice (Rect.unit (s := S4x2) ![3, 1] S1x1.size inb_S4x2_S1x1_3_1)).squeeze S_ squeezes_S1x1_S_).sem = xsem (3, 2, 1) := by rfl
example : (rdB 0).view.dmaCredit = (oB 3 1).view.dmaCredit := by rfl
example (c : Dev nD) : (rdB 0).view.dmaCredit = (paB (tg c 0) 1).view.dmaCredit := by rfl
example : (rdB 0).view.dmaCredit = (rsB 3 1).view.dmaCredit := by rfl

end Cert.Pf
-- ==== Proof.Sched.lean ====
/-
The protocol: what each device's buffers hold, what the launch holds of views, the schedule of payments over the barrier
cell and the 24 transfer cells of a device, the levels, and what each device owes.
-/
module

public import proofs.«01_k».proof.Proof.Views

@[expose] public section

noncomputable section

namespace Cert.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The rounds library of the two exchanges: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

variable (m : (ℓ : Loc nD τ sig) → Buf (Elt F) ℓ)

/-! ## Values -/

/-- The staged operands. -/
def xV (c : Dev nD) : (cc0_stg0_0 : Ref sig .tc).ty.Contents (Elt F) :=
  (win0_0.blk (0 : Fin 1)).view.read (Elt F) (m ((c : Thread nD τ).loc main_arg0))
def wqV (c : Dev nD) : (cc0_stg1_0 : Ref sig .tc).ty.Contents (Elt F) :=
  (win0_1.blk (0 : Fin 1)).view.read (Elt F) (m ((c : Thread nD τ).loc main_arg1))
def woV (c : Dev nD) : (cc0_stg2_0 : Ref sig .tc).ty.Contents (Elt F) :=
  (win0_2.blk (0 : Fin 1)).view.read (Elt F) (m ((c : Thread nD τ).loc main_arg4))
/-- The keys and the values of device `c`'s head `h`, as read from HBM. -/
def kV (c : Dev nD) (h : Fin 8) : Vec F S4096x128 .f32 := (khB c h).view.read (Elt F) (m ((c : Thread nD τ).loc main_arg2))
def vV (c : Dev nD) (h : Fin 8) : Vec F S4096x128 .f32 := (vhB c h).view.read (Elt F) (m ((c : Thread nD τ).loc main_arg3))

/-- The scaled queries of device `c`. -/
def qV (c : Dev nD) : FVec F S256x1024 .f32 := k0_pay1 (xV m c) (wqV m c)

theorem qslices (h : Fin 8) : S256x1024.Slices ![0, 128 * h.val] S256x128 := by revert h; decide

/-- One head: the exponentials of the scores, -/
def pF (h : Fin 8) (q : FVec F S256x1024 .f32) (K : FVec F S4096x128 .f32) : FVec F S256x4096 .f32 :=
  exp (matmul dot_S256x128_S4096x128_S256x4096_1_1_0_0_n_n none
    (truncf .bf16 (extractStridedSlice S256x128 ![0, 128 * h.val] q (qslices h)) bitsLt_bf16_f32)
    (truncf .bf16 K bitsLt_bf16_f32) (constant S256x4096 .f32 0x00000000#32))
/-- and their weighted sum of the values over their sum. -/
def oF (p : FVec F S256x4096 .f32) (V : FVec F S4096x128 .f32) : FVec F S256x128 .f32 :=
  divf (matmul dot_S256x4096_S4096x128_S256x128_1_0_0_1_n_n none (truncf .bf16 p bitsLt_bf16_f32)
      (truncf .bf16 V bitsLt_bf16_f32) (constant S256x128 .f32 0x00000000#32))
    (broadcastTo S256x128 (shapeCast S256x1 (multiReduction .add [1] S256 p 0x00000000#32 reduces_S256x4096_S256 (.inl rfl) rfl)
      shapeCasts_S256_S256x1) broadcasts_S256x1_S256x128)
def hV (c : Dev nD) (h : Fin 8) : FVec F S256x128 .f32 := oF (pF h (qV m c) (kV m c h)) (vV m c h)

/-- The heads side by side. -/
def attnV (c : Dev nD) : Vec F S256x1024 .f32 := fun i =>
  hV m c ⟨(i 1).val / 128, by have h : (i 1).val < 1024 := (i 1).isLt; omega⟩
    (fun a => match a with
      | ⟨0, _⟩ => (⟨(i 0).val, (i 0).isLt⟩ : Fin 256)
      | ⟨1, _⟩ => (⟨(i 1).val % 128, Nat.mod_lt _ (by decide)⟩ : Fin 128))

/-- Device `c`'s partial product. -/
def partV (c : Dev nD) : Vec F S256x1024 .f32 := k0_pay25 (attnV m c) (woV m c)
/-- Its rows block `b`, half `k`. -/
def blk (c : Dev nD) (b : Fin 4) (k : Fin 2) : Vec F S32x1024 .f32 := (paB b k).view.read (Elt F) (partV m c)
/-- The reduced rows of device `c`, half `k`: its own block and the three that come to it. -/
def redV (c : Dev nD) (k : Fin 2) : FVec F S32x1024 .f32 :=
  addf (addf (addf (blk m c c k) (blk m (pl c 0) c k)) (blk m (pl c 1) c k)) (blk m (pl c 2) c k)

/-- The result: every device's reduced rows, block by block. -/
def outV : (cc0_stg3_0 : Ref sig .tc).ty.Contents (Elt F) := fun (i : S1x256x1024.Idx) =>
  redV m ⟨(i 1).val / 64, by have h : (i 1).val < 256 := (i 1).isLt; show (i 1).val / 64 < 4; omega⟩
    ⟨(i 1).val / 32 % 2, Nat.mod_lt _ (by decide)⟩
    (fun a => match a with
      | ⟨0, _⟩ => (⟨(i 1).val % 32, Nat.mod_lt _ (by decide)⟩ : Fin 32)
      | ⟨1, _⟩ => (⟨(i 2).val, (i 2).isLt⟩ : Fin 1024))

/-! ## What is held of a view -/

section Held
variable {sp : Space} {s : Shape} {e : EltTy}

/-- A share of the view's elements, reading `w`. -/
def rd (p : Dev nD) (V : View sig .tc sp s e) (q : PosShare TreeShare) (w : s.Idx → Elt F e) : sProp 𝕄 :=
  iprop(∃ f : Buf (Elt F) (V.loc (p : Thread nD τ)), ⌜V.read (Elt F) f = w⌝ ∗ (V.loc (p : Thread nD τ) ↦[V.set]{q} f))
/-- The view's elements at some contents. -/
def hv (p : Dev nD) (V : View sig .tc sp s e) : sProp 𝕄 :=
  iprop(∃ f : Buf (Elt F) (V.loc (p : Thread nD τ)), V.loc (p : Thread nD τ) ↦[V.set]{fullShare} f)

instance rd_storable (p : Dev nD) (V : View sig .tc sp s e) (q) (w : s.Idx → Elt F e) :
    BI.Storable (upEmb : UEmb _ 𝕄) (rd p V q w) := by unfold rd; infer_instance
instance hv_storable (p : Dev nD) (V : View sig .tc sp s e) : BI.Storable (upEmb : UEmb _ 𝕄) (hv (F := F) p V) := by
  unfold hv; infer_instance

theorem rd_hv (p : Dev nD) (V : View sig .tc sp s e) (w : s.Idx → Elt F e) : rd p V fullShare w ⊢ hv p V := by
  unfold rd hv
  iintro ⟨%f, -, H⟩; iexists f; iexact H

end Held

/-! ## Cells -/

abbrev barC (c : Dev nD) : GSem nD τ sig := ((c : Thread nD τ), .reg barS)
abbrev xC (c : Dev nD) (x : XI) : GSem nD τ sig := ((c : Thread nD τ), .dma (xsem x))
abbrev lC (c : Dev nD) (h : Fin 8) (j : Fin 2) : GSem nD τ sig := ((c : Thread nD τ), .dma (lsem h j))
/-- Which transfer semaphore a number names, if one of the two exchanges'. -/
def xof (q : DmaSem sig) : Option XI :=
  if q.val < 20 then none else
    if (q.val - 20) % 8 < 2 then none else
      some (⟨(q.val - 20) / 8 % 4, Nat.mod_lt _ (by decide)⟩, ⟨((q.val - 20) % 8 / 2 - 1) % 3, Nat.mod_lt _ (by decide)⟩,
        ⟨(q.val - 20) % 2, Nat.mod_lt _ (by decide)⟩)
theorem xof_xsem (x : XI) : xof (xsem x) = some x := by revert x; decide

/-- A device's cells: the barrier and the 24. -/
abbrev CI : Type := Option XI
abbrev csem : CI → SemLoc sig := fun | none => .reg barS | some x => .dma (xsem x)
abbrev kcell (ck : Dev nD × CI) : GSem nD τ sig := ((ck.1 : Thread nD τ), csem ck.2)

abbrev N : ℕ := (rdB 0).view.dmaCredit
theorem N_pos : 0 < N := View.dmaCredit_pos _ (by decide)
abbrev NL : ℕ := (kB 0).view.dmaCredit
theorem NL_pos : 0 < NL := View.dmaCredit_pos _ (by decide)

/-! ## The schedule -/

/-- Which part of the full share the send of slot `s` lends: the reduced rows go to three devices at once. -/
def sh (s : Fin 3) : PosShare TreeShare := match s with
  | 0 => fullShare.left | 1 => fullShare.right.left | 2 => fullShare.right.right

/-- What device `tg d r`'s signal hands device `d`: its landing blocks of slot `r` and the rows of its result that `d` fills. -/
def barPay (d : Dev nD) (r : Fin 3) : sProp 𝕄 :=
  iprop(hv (tg d r) (rsB r.succ 0).view ∗ hv (tg d r) (rsB r.succ 1).view ∗ hv (tg d r) (oB d 0).view ∗ hv (tg d r) (oB d 1).view)
/-- What a transfer's semaphore hands device `c`. -/
def xPay (c : Dev nD) (x : XI) : sProp 𝕄 := match x with
  | (0, s, k) => rd c (paB (tg c s) k).view fullShare (blk m c (tg c s) k)
  | (1, s, k) => rd c (rsB s.succ k).view fullShare (blk m (pl c s) c k)
  | (2, s, k) => rd c (rdB k).view (sh s) (redV m c k)
  | (3, s, k) => rd c (oB (pl c s) k).view fullShare (redV m (pl c s) k)

instance xPay_storable (c : Dev nD) (x : XI) : BI.Storable (upEmb : UEmb _ 𝕄) (xPay m c x) := by
  rcases x with ⟨κ, s, k⟩
  fin_cases κ <;> exact rd_storable _ _ _ _
instance barPay_storable (d : Dev nD) (r : Fin 3) : BI.Storable (upEmb : UEmb _ 𝕄) (barPay (F := F) d r) := by
  unfold barPay; infer_instance

def kRd : Rounds.Schedule (GSem nD τ sig) (Fin 3) 𝕄 where
  duties g r := if r = 0 ∧ g.1.2 = .tc then (match g.2 with
      | .reg q => if q = barS then Finset.univ else ∅
      | .dma q => match xof q with | some _ => {0} | none => ∅) else ∅
  unitless _ := False
  amount g _ _ := match g.2 with | .reg _ => 1 | .dma _ => N
  payload g _ d := match g.2 with
    | .reg _ => barPay g.1.1 d
    | .dma q => match xof q with | some x => xPay m g.1.1 x | none => iprop(emp)
  amount_pos g _ _ _ := by
    rcases g with ⟨t, _ | _⟩
    · exact Nat.one_pos
    · exact N_pos

instance kRd_payload_storable (g : GSem nD τ sig) (r : ℕ) (d : Fin 3) :
    BI.Storable (upEmb : UEmb _ 𝕄) ((kRd (F := F) m).payload g r d) := by
  rcases g with ⟨t, q | q⟩
  · exact barPay_storable _ _
  · show BI.Storable upEmb (match xof q with | some x => xPay m t.1 x | none => iprop(emp))
    split <;> infer_instance

section Tables
variable (c : Dev nD)

theorem duties_bar : (kRd (F := F) m).duties (barC c) 0 = Finset.univ := by dsimp only [kRd]; rw [if_pos ⟨rfl, rfl⟩, if_pos rfl]
theorem duties_x (x : XI) : (kRd (F := F) m).duties (xC c x) 0 = {0} := by
  dsimp only [kRd]; rw [if_pos ⟨rfl, rfl⟩, xof_xsem]
theorem duties_later (g : GSem nD τ sig) : ∀ r, 1 ≤ r → (kRd (F := F) m).duties g r = ∅ :=
  fun r hr => by dsimp only [kRd]; rw [if_neg fun h => by omega]
theorem expect_bar : (kRd (F := F) m).expect (barC c) 0 = 3 := by
  unfold Schedule.expect Schedule.amountOf
  rw [duties_bar]
  exact (rfl : (∑ _d : Fin 3, (1 : ℕ)) = 3)
theorem expect_x (x : XI) : (kRd (F := F) m).expect (xC c x) 0 = N := by
  unfold Schedule.expect Schedule.amountOf; rw [duties_x, Finset.sum_singleton]; rfl
theorem payload_x (x : XI) (d : Fin 3) : (kRd (F := F) m).payload (xC c x) 0 d = xPay m c x := by
  dsimp only [kRd]; rw [xof_xsem]

theorem rest_bar : bigSep ((kRd (F := F) m).duties (barC c) 0 \ ∅) (fun d => (kRd (F := F) m).payload (barC c) 0 d)
    = iprop(barPay c 0 ∗ barPay c 1 ∗ barPay c 2) := by
  rw [Finset.sdiff_empty, duties_bar, bigSep_univ_eq_bigSepL [0, 1, 2] (by decide) (by decide)]; rfl
theorem rest_x (x : XI) : bigSep ((kRd (F := F) m).duties (xC c x) 0 \ ∅) (fun d => (kRd (F := F) m).payload (xC c x) 0 d) = xPay m c x := by
  rw [Finset.sdiff_empty, duties_x, bigSep_singleton, payload_x]

end Tables

/-! ## Dues and levels -/

/-- What a device owes, by kind: a unit of a neighbour's barrier, or the credit of a receive cell of the slot's target. -/
abbrev Due : Type := Fin 3 ⊕ XI
abbrev dcell (c : Dev nD) : Due → GSem nD τ sig := fun | .inl s => barC (tg c s) | .inr x => xC (tg c x.2.1) x
abbrev damt : Due → ℕ := fun | .inl _ => 1 | .inr _ => N
def owe (c : Dev nD) : List Due → CellTallies nD τ sig Unit
  | [] => 0
  | d :: l => owe c l + tallyAt (dcell c d) () (damt d)
/-- The dues in the order they are paid. -/
abbrev dues : List Due := [.inl 0, .inl 1, .inl 2,
  .inr (1, 0, 0), .inr (1, 1, 0), .inr (1, 2, 0), .inr (1, 0, 1), .inr (1, 1, 1), .inr (1, 2, 1),
  .inr (3, 0, 0), .inr (3, 1, 0), .inr (3, 2, 0), .inr (3, 0, 1), .inr (3, 1, 1), .inr (3, 2, 1)]

def L (g : GSem nD τ sig) : Finset Unit := if g.1.2 = .tc then {()} else ∅
def lvS : SemLoc sig → ℕ
  | .reg _ => 1
  | .dma q => if 28 ≤ q.val ∧ q.val < 36 then 2 else if 44 ≤ q.val then 3 else 0
def lv (g : GSem nD τ sig) (_ : Unit) : ℕ := lvS g.2
theorem L_of_ne (g : GSem nD τ sig) (h : g.1.2 ≠ .tc) : L g = ∅ := if_neg h
theorem L_tc (c : Dev nD) (sm : SemLoc sig) : L ((c : Thread nD τ), sm) = {()} := if_pos rfl

theorem owe_pos {c : Dev nD} {l : List Due} {g : GSem nD τ sig} {u : Unit} (h : 0 < owe c l g u) : ∃ d ∈ l, g = dcell c d := by
  induction l with
  | nil => exact absurd h (Nat.lt_irrefl 0)
  | cons d l ih =>
    unfold owe at h
    rw [Pi.add_apply, Finsupp.add_apply, tallyAt_apply] at h
    by_cases hg : g = dcell c d
    · exact ⟨d, List.mem_cons_self, hg⟩
    · rw [if_neg (fun h' => hg h'.1), Nat.add_zero] at h
      obtain ⟨d', hd', e⟩ := ih h
      exact ⟨d', List.mem_cons_of_mem _ hd', e⟩

/-- The level of a due's cell. -/
def dlv : Due → ℕ | .inl _ => 1 | .inr x => lvS (.dma (xsem x))
theorem dlv_eq (c : Dev nD) (d : Due) (u : Unit) : lv (dcell c d) u = dlv d := by rcases d with d | d <;> rfl
theorem L_dcell (c : Dev nD) (d : Due) (u : Unit) : u ∈ L (dcell c d) := by rcases d with d | d <;> exact Finset.mem_singleton_self _

/-- A wait on a cell below every due's is allowed. -/
theorem mayWait (c : Dev nD) (sm : SemLoc sig) (l : List Due) (h : ∀ d ∈ l, lvS sm < dlv d) :
    (levAts L lv : sProp 𝕄) ⊢ MayWait (c : Thread nD τ) sm () (owe c l) :=
  MayOwe.of_cut (L := L) (lev := lv) (lvS sm) (fun p hp => by rw [Finset.mem_singleton.mp hp, L_tc]; exact Finset.mem_singleton_self _)
    (fun g u hg => by obtain ⟨d, _, rfl⟩ := owe_pos hg; exact L_dcell c d u)
    (fun p hp => by rw [Finset.mem_singleton.mp hp]; exact le_refl _)
    (fun g u hg => by obtain ⟨d, hd, rfl⟩ := owe_pos hg; rw [dlv_eq]; exact h d hd)

/-- What the core still owes, whatever it has waited for. -/
def ow (c : Dev nD) (l : List Due) : sProp 𝕄 := iprop(∃ W, owes (c : Thread nD τ) (owe c l) W)

/-! ## What every device may use throughout -/

def recs (K : Dev nD × CI → ℕ) : sProp 𝕄 :=
  iprop((bigSep Finset.univ fun ck : Dev nD × CI => cellInv ER (kRd m) (K ck) (kcell ck))
    ∗ (bigSep Finset.univ fun ck : Dev nD × CI => reached ER (kcell ck) 0) ∗ levAts L lv)
instance recs_persistent (K : Dev nD × CI → ℕ) : BI.Persistent (recs m K) := by unfold recs; infer_instance

theorem inv_at (K : Dev nD × CI → ℕ) (ck : Dev nD × CI) :
    (bigSep Finset.univ fun ck : Dev nD × CI => (cellInv ER (kRd m) (K ck) (kcell ck) : sProp 𝕄)) ⊢ cellInv ER (kRd m) (K ck) (kcell ck) :=
  bigSep_elim (Finset.mem_univ ck)
theorem reached_at (ck : Dev nD × CI) :
    (bigSep Finset.univ fun ck : Dev nD × CI => (reached ER (kcell ck) 0 : sProp 𝕄)) ⊢ reached ER (kcell ck) 0 :=
  bigSep_elim (Finset.mem_univ ck)
theorem recs_inv (K : Dev nD × CI → ℕ) (ck : Dev nD × CI) : recs m K ⊢ cellInv ER (kRd m) (K ck) (kcell ck) := by
  unfold recs
  iintro ⟨H, -, -⟩
  iapply (inv_at m K ck); iexact H
theorem recs_reached (K : Dev nD × CI → ℕ) (ck : Dev nD × CI) : recs m K ⊢ reached ER (kcell ck) 0 := by
  unfold recs
  iintro ⟨-, H, -⟩
  iapply (reached_at ck); iexact H
theorem recs_lev (K : Dev nD × CI → ℕ) : recs m K ⊢ levAts L lv := by
  unfold recs
  iintro ⟨-, -, H⟩; iexact H

end Cert.Pf
-- ==== Proof.Steps.lean ====
/-
One lemma per effect of the body, each over what the launch holds of the views it touches.
-/
module

public import proofs.«01_k».proof.Proof.Sched
public import Idealize.ShloMosaic.Lib.Transfers
public import Idealize.ShloMosaic.Lib.Ring.FamCut

@[expose] public section

noncomputable section

namespace Cert.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

abbrev 𝒱₀ : Variants := Variants.none

abbrev wpc (c : Dev nD) {α : Type} (P : Prog (TpuEff nD τ sig (Elt F) Λ₀ .tc) α) (Q : α → sProp 𝕄) : sProp 𝕄 :=
  wp frame (wpE (defs₀ (F := F)) 𝒱₀ (c : Thread nD τ) none) Set.univ P Q

/-! ## Reading and writing through a view -/

section Access
variable {sp : Space} {s s' : Shape} {e : EltTy}

theorem rd_reshape (c : Dev nD) (V : View sig .tc sp s e) (h : s'.numel = s.numel) (q : PosShare TreeShare) (w : s'.Idx → Elt F e) :
    (rd c (V.reshape s' h) q w : sProp 𝕄) = rd c V q (fun y => w ((Shape.reshapeEquiv h).symm y)) := by
  unfold rd
  congr 1
  funext f
  have hset : (V.reshape s' h).set = V.set := View.set_reshape V h
  have hrd : (V.reshape s' h).read (Elt F) f = w ↔ V.read (Elt F) f = fun y => w ((Shape.reshapeEquiv h).symm y) := by
    constructor
    · rintro rfl
      funext y
      show V.read (Elt F) f y = V.read (Elt F) f ((Shape.reshapeEquiv h) ((Shape.reshapeEquiv h).symm y))
      rw [Equiv.apply_symm_apply]
    · intro e
      funext y
      show V.read (Elt F) f ((Shape.reshapeEquiv h) y) = w y
      rw [e]; show w ((Shape.reshapeEquiv h).symm ((Shape.reshapeEquiv h) y)) = w y
      rw [Equiv.symm_apply_apply]
  rw [propext hrd, hset]

theorem hv_reshape (c : Dev nD) (V : View sig .tc sp s e) (h : s'.numel = s.numel) :
    (hv c (V.reshape s' h) : sProp 𝕄) = hv c V := by
  unfold hv
  rw [View.set_reshape]

end Access

/-! ## Local copies -/

theorem step_local {sp sp' : Space} {s : Shape} {e : EltTy} (c : Dev nD) {src : Memref sig .tc sp s e} {dst : Memref sig .tc sp' s e}
    {sm : SemLoc sig} {h1 : src.view.WordExact} {h2 : dst.view.WordExact} {h3 : DmaTarget.Typed (nD := nD) sp sm (.here (p := (c : Thread nD τ).2) dst)}
    (src₀ : Memref sig .tc sp s e) (dst₀ : Memref sig .tc sp' s e) (sm₀ : SemLoc sig)
    (hs : src = src₀) (hd : dst = dst₀) (hsm : sm = sm₀) {q : PosShare TreeShare} {w : s.Idx → Elt F e} {n : ℕ} (hN : dst₀.view.amount sm₀ = n) (hn : 0 < n)
    {α : Type} {Q : α → sProp 𝕄} {k : PUnit → Prog (TpuEff nD τ sig (Elt F) Λ₀ .tc) α} :
    iprop(rd c src₀.view q w ∗ hv c dst₀.view ∗ semVal (((c : Thread nD τ), sm₀) : GSem nD τ sig) 0)
      ⊢ iprop((Flight countersEmb (c : Thread nD τ) sm₀ () n (rd c dst₀.view fullShare w) -∗ wpc c (k ⟨⟩) Q)
          -∗ wpc c (.op (.enqueueDma src (.here dst) sm h1 h2 h3) k) Q) := by
  subst hs hd hsm
  unfold rd hv
  iintro ⟨⟨%f, %hf, Hs⟩, ⟨%g, Hd⟩, Hv⟩ Hk
  iapply (wp_dmaLocal countersEmb 𝒱₀ (c : Thread nD τ) none () n hN hn (Finset.Subset.refl _)) $$ [Hs Hd Hv]
  · isplitl [Hs]; · iexact Hs
    isplitl [Hd] <;> iassumption
  iintro HF
  iapply Hk
  iapply (Flight_mono (EC := countersEmb) (c : Thread nD τ) (sm := sm) (ι := ()) (N := n) ?_) $$ HF
  iintro ⟨H, -⟩
  iexists _
  isplitr
  swap
  · iexact H
  · ipureintro
    rw [View.read_write_univ]
    exact hf

theorem step_lwait {sp sp' : Space} {s s' : Shape} {e e' : EltTy} (K : Dev nD × CI → ℕ) (c : Dev nD) {src : Memref sig .tc sp' s' e'} {dst : Memref sig .tc sp s e}
    {sem : DmaSem sig} {h1 : src.view.WordExact} {h2 : dst.view.WordExact}
    (sem₀ : DmaSem sig) (hsm : sem = sem₀) {n : ℕ} (hN : dst.view.dmaCredit = n) {D : sProp 𝕄} (l : List Due) (hl : ∀ d ∈ l, lvS (.dma sem₀) < dlv d)
    {α : Type} {Q : α → sProp 𝕄} {k : PUnit → Prog (TpuEff nD τ sig (Elt F) Λ₀ .tc) α} :
    iprop(recs m K ∗ Flight countersEmb (c : Thread nD τ) (.dma sem₀) () n D ∗ ow c l)
      ⊢ iprop((iprop(D ∗ semVal (((c : Thread nD τ), .dma sem₀) : GSem nD τ sig) 0 ∗ ow c l) -∗ wpc c (k ⟨⟩) Q)
          -∗ wpc c (.op (.waitDma2 sem src dst h1 h2) k) Q) := by
  subst hsm
  unfold ow
  iintro ⟨#HR, HF, ⟨%W, HO⟩⟩ Hk
  iapply (wp_waitLocalO countersEmb 𝒱₀ (c : Thread nD τ) none () hN (O := owe c l) (W := W)) $$ [HF HO]
  · isplitl [HF]; · iexact HF
    isplitl [HO]; · iexact HO
    iapply (mayWait c _ l hl)
    iapply (recs_lev m K); iexact HR
  iintro ⟨HD, Hv, HO⟩
  iapply Hk
  isplitl [HD]; · iexact HD
  isplitl [Hv]; · iexact Hv
  iexists _; iexact HO

/-! ## Loads and stores -/

section LoadStore
variable {cs : CoreSpace} {s s' : Shape} {e : EltTy} (c : Dev nD)

/-- A block of shape `s` seen through the shape `s'` of as many elements. -/
def up {s s' : Shape} {α : Type} (h : s'.numel = s.numel) (w : s'.Idx → α) : s.Idx → α := fun y => w ((Shape.reshapeEquiv h).symm y)
theorem shapeCast_up {s s' : Shape} {α : Type} (h : s'.numel = s.numel) (w : s'.Idx → α) (h' : s.ShapeCasts s') : shapeCast s' (up h w) h' = w := by
  funext j
  show w ((Shape.reshapeEquiv h).symm (Shape.reshapeEquiv h j)) = w j
  rw [Equiv.symm_apply_apply]

theorem step_load {M : Memref sig .tc cs s e} {off sz : Fin s.rank → ℕ} {p : ∀ a, off a + sz a ≤ s.size a} {hl : M.view.LoadsAt (Rect.unit (s := s) off sz p).toLoadRect}
    (off₀ : Fin s.rank → ℕ) (hoff : off = off₀) (p₀ : ∀ a, off₀ a + sz a ≤ s.size a) {q : PosShare TreeShare} {w : (⟨s.rank, sz⟩ : Shape).Idx → Elt F e}
    {α : Type} {Q : α → sProp 𝕄} {k : ((⟨s.rank, sz⟩ : Shape).Idx → Elt F e) → Prog (TpuEff nD τ sig (Elt F) Λ₀ .tc) α} :
    (rd c (M.access (Rect.unit (s := s) off₀ sz p₀)) q w : sProp 𝕄)
      ⊢ iprop((rd c (M.access (Rect.unit (s := s) off₀ sz p₀)) q w -∗ wpc c (k w) Q)
          -∗ wpc c (.op (.load M (Rect.unit (s := s) off sz p).toLoadRect hl) k) Q) := by
  subst hoff
  unfold rd
  iintro ⟨%f, %hf, H⟩ Hk
  iapply (wp_load_rect 𝒱₀ (c : Thread nD τ) none Set.univ (m := M) (r := Rect.unit (s := s) off sz p) (Finset.Subset.refl _)) $$ H
  iintro H
  subst hf
  iapply Hk
  iexists f
  isplitr; · (ipureintro; rfl)
  iexact H

/-- A load through a rectangle of what is held as a squeezed block. -/
theorem step_load_sq {M : Memref sig .tc cs s e} {off sz : Fin s.rank → ℕ} {p : ∀ a, off a + sz a ≤ s.size a} {hl : M.view.LoadsAt (Rect.unit (s := s) off sz p).toLoadRect}
    (off₀ : Fin s.rank → ℕ) (hoff : off = off₀) (p₀ : ∀ a, off₀ a + sz a ≤ s.size a) (h : s'.numel = (⟨s.rank, sz⟩ : Shape).numel)
    {q : PosShare TreeShare} {w : s'.Idx → Elt F e}
    {α : Type} {Q : α → sProp 𝕄} {k : ((⟨s.rank, sz⟩ : Shape).Idx → Elt F e) → Prog (TpuEff nD τ sig (Elt F) Λ₀ .tc) α} :
    (rd c ((M.access (Rect.unit (s := s) off₀ sz p₀)).reshape s' h) q w : sProp 𝕄)
      ⊢ iprop((rd c ((M.access (Rect.unit (s := s) off₀ sz p₀)).reshape s' h) q w -∗ wpc c (k (up h w)) Q)
          -∗ wpc c (.op (.load M (Rect.unit (s := s) off sz p).toLoadRect hl) k) Q) := by
  rw [rd_reshape]
  exact step_load c off₀ hoff p₀

/-- A load whose value is not used. -/
theorem step_loadh {M : Memref sig .tc cs s e} {off sz : Fin s.rank → ℕ} {p : ∀ a, off a + sz a ≤ s.size a} {hl : M.view.LoadsAt (Rect.unit (s := s) off sz p).toLoadRect}
    (off₀ : Fin s.rank → ℕ) (hoff : off = off₀) (p₀ : ∀ a, off₀ a + sz a ≤ s.size a)
    {α : Type} {Q : α → sProp 𝕄} {P : Prog (TpuEff nD τ sig (Elt F) Λ₀ .tc) α} :
    (hv c (M.access (Rect.unit (s := s) off₀ sz p₀)) : sProp 𝕄)
      ⊢ iprop((hv c (M.access (Rect.unit (s := s) off₀ sz p₀)) -∗ wpc c P Q)
          -∗ wpc c (.op (.load M (Rect.unit (s := s) off sz p).toLoadRect hl) fun _ => P) Q) := by
  subst hoff
  unfold hv
  iintro ⟨%f, H⟩ Hk
  iapply (wp_load_rect 𝒱₀ (c : Thread nD τ) none Set.univ (m := M) (r := Rect.unit (s := s) off sz p) (Finset.Subset.refl _)) $$ H
  iintro H
  iapply Hk
  iexists f
  iexact H

theorem step_store {M : Memref sig .tc cs s e} {off sz : Fin s.rank → ℕ} {p : ∀ a, off a + sz a ≤ s.size a} {w : (⟨s.rank, sz⟩ : Shape).Idx → Elt F e}
    {hx : (M.access (Rect.unit (s := s) off sz p)).Stores Finset.univ} {hm : Finset.univ = Finset.univ ∨ ∀ a, (Rect.unit (s := s) off sz p).stride a = 1}
    (off₀ : Fin s.rank → ℕ) (hoff : off = off₀) (p₀ : ∀ a, off₀ a + sz a ≤ s.size a) (w₀ : (⟨s.rank, sz⟩ : Shape).Idx → Elt F e) (hw : w = w₀)
    {α : Type} {Q : α → sProp 𝕄} {k : PUnit → Prog (TpuEff nD τ sig (Elt F) Λ₀ .tc) α} :
    (hv c (M.access (Rect.unit (s := s) off₀ sz p₀)) : sProp 𝕄)
      ⊢ iprop((rd c (M.access (Rect.unit (s := s) off₀ sz p₀)) fullShare w₀ -∗ wpc c (k ⟨⟩) Q)
          -∗ wpc c (.op (.store M (Rect.unit (s := s) off sz p) w Finset.univ hx hm) k) Q) := by
  subst hoff hw
  unfold hv rd
  iintro ⟨%f, H⟩ Hk
  iapply (wp_store 𝒱₀ (c : Thread nD τ) none Set.univ (m := M) (r := Rect.unit (s := s) off sz p) (Mk := Finset.univ) (S := (M.access (Rect.unit (s := s) off sz p)).set) (Finset.Subset.refl _)) $$ H
  iintro H
  iapply Hk
  iexists _
  isplitr
  swap
  · iexact H
  · ipureintro; exact View.read_write_univ _ _

/-- An unused load and a store through one rectangle of what is held as a squeezed block. -/
theorem step_put_sq {M : Memref sig .tc cs s e} {off sz : Fin s.rank → ℕ} {p : ∀ a, off a + sz a ≤ s.size a} {w : (⟨s.rank, sz⟩ : Shape).Idx → Elt F e}
    {hl : M.view.LoadsAt (Rect.unit (s := s) off sz p).toLoadRect}
    {hx : (M.access (Rect.unit (s := s) off sz p)).Stores Finset.univ} {hm : Finset.univ = Finset.univ ∨ ∀ a, (Rect.unit (s := s) off sz p).stride a = 1}
    (off₀ : Fin s.rank → ℕ) (hoff : off = off₀) (p₀ : ∀ a, off₀ a + sz a ≤ s.size a) (h : s'.numel = (⟨s.rank, sz⟩ : Shape).numel) (w₀ : s'.Idx → Elt F e) (hw : w = up h w₀)
    {α : Type} {Q : α → sProp 𝕄} {k : PUnit → Prog (TpuEff nD τ sig (Elt F) Λ₀ .tc) α} :
    (hv c ((M.access (Rect.unit (s := s) off₀ sz p₀)).reshape s' h) : sProp 𝕄)
      ⊢ iprop((rd c ((M.access (Rect.unit (s := s) off₀ sz p₀)).reshape s' h) fullShare w₀ -∗ wpc c (k ⟨⟩) Q)
          -∗ wpc c (.op (.load M (Rect.unit (s := s) off sz p).toLoadRect hl) fun _ => .op (.store M (Rect.unit (s := s) off sz p) w Finset.univ hx hm) k) Q) := by
  rw [rd_reshape, hv_reshape]
  iintro H Hk
  iapply (step_loadh c off₀ hoff p₀) $$ H
  iintro H
  iapply (step_store c off₀ hoff p₀ (up h w₀) hw) $$ H
  iexact Hk

/-- An unused load and a store through one rectangle. -/
theorem step_put {M : Memref sig .tc cs s e} {off sz : Fin s.rank → ℕ} {p : ∀ a, off a + sz a ≤ s.size a} {w : (⟨s.rank, sz⟩ : Shape).Idx → Elt F e}
    {hl : M.view.LoadsAt (Rect.unit (s := s) off sz p).toLoadRect}
    {hx : (M.access (Rect.unit (s := s) off sz p)).Stores Finset.univ} {hm : Finset.univ = Finset.univ ∨ ∀ a, (Rect.unit (s := s) off sz p).stride a = 1}
    (off₀ : Fin s.rank → ℕ) (hoff : off = off₀) (p₀ : ∀ a, off₀ a + sz a ≤ s.size a) (w₀ : (⟨s.rank, sz⟩ : Shape).Idx → Elt F e) (hw : w = w₀)
    {α : Type} {Q : α → sProp 𝕄} {k : PUnit → Prog (TpuEff nD τ sig (Elt F) Λ₀ .tc) α} :
    (hv c (M.access (Rect.unit (s := s) off₀ sz p₀)) : sProp 𝕄)
      ⊢ iprop((rd c (M.access (Rect.unit (s := s) off₀ sz p₀)) fullShare w₀ -∗ wpc c (k ⟨⟩) Q)
          -∗ wpc c (.op (.load M (Rect.unit (s := s) off sz p).toLoadRect hl) fun _ => .op (.store M (Rect.unit (s := s) off sz p) w Finset.univ hx hm) k) Q) := by
  iintro H Hk
  iapply (step_loadh c off₀ hoff p₀) $$ H
  iintro H
  iapply (step_store c off₀ hoff p₀ w₀ hw) $$ H
  iexact Hk

end LoadStore

/-! ## The barrier -/

theorem barPay_of (c : Dev nD) (s : Fin 3) :
    (iprop(hv c (rsB (rv s).succ 0).view ∗ hv c (rsB (rv s).succ 1).view ∗ hv c (oB (tg c s) 0).view ∗ hv c (oB (tg c s) 1).view) : sProp 𝕄)
      = barPay (tg c s) (rv s) := by unfold barPay; rw [tg_tg_rv]

theorem step_signal (K : Dev nD × CI → ℕ) (c : Dev nD) (s : Fin 3) {n : Dev nD} (hn : n = tg c s) {sem : Sem sig} (hsm : sem = barS) {k' : ℕ} (hk' : 1 = k') (l : List Due)
    {α : Type} {Q : α → sProp 𝕄} {k : PUnit → Prog (TpuEff nD τ sig (Elt F) Λ₀ .tc) α} :
    iprop(recs m K ∗ (hv c (rsB (rv s).succ 0).view ∗ hv c (rsB (rv s).succ 1).view ∗ hv c (oB (tg c s) 0).view ∗ hv c (oB (tg c s) 1).view)
        ∗ dutyTok ER (barC (tg c s)) 0 (rv s) ∗ ow c (.inl s :: l))
      ⊢ iprop((ow c l -∗ wpc c (k ⟨⟩) Q) -∗ wpc c (.op (.semSignal (n : Thread nD τ) sem k') k) Q) := by
  subst hn hsm
  unfold ow
  iintro ⟨#HR, Hp, Ht, ⟨%W, HO⟩⟩ Hk
  iapply (Rounds.wp_signal 𝒱₀ ER (kRd m) (c : Thread nD τ) none (dst := (tg c s : Thread nD τ)) (κ := K (tg c s, none))
      (d := rv s) (r := 0) (by rw [duties_bar]; exact Finset.mem_univ _) (show (kRd m).amount (barC (tg c s)) 0 (rv s) = k' from hk') () (owe c l) (by subst hk'; rfl))
    $$ [Hp Ht HO]
  · isplitr; · iapply (recs_inv m K (tg c s, none)); iexact HR
    isplitl [HO]; · iexact HO
    isplitl [Ht]; · iexact Ht
    isplitl [Hp]
    · iapply (Entails.of_eq ((barPay_of c s).trans (show barPay (tg c s) (rv s) = (kRd m).payload (barC (tg c s)) 0 (rv s) from rfl))); iexact Hp
    · iapply (recs_reached m K (tg c s, none)); iexact HR
  iintro HO
  iapply Hk
  iexists W; iexact HO

theorem step_barwait (K : Dev nD × CI → ℕ) (c : Dev nD) {sem : Sem sig} (hsm : sem = barS) {k' : ℕ} (hk' : 3 = k') (l : List Due) (hl : ∀ d ∈ l, 1 < dlv d)
    {α : Type} {Q : α → sProp 𝕄} {k : PUnit → Prog (TpuEff nD τ sig (Elt F) Λ₀ .tc) α} :
    iprop(recs m K ∗ cred (tallyAt (barC c) () 3) ∗ ow c l ∗ atPos ER (barC c) 0 ∅ 0)
      ⊢ iprop((iprop(ow c l ∗ semVal (barC c) 0 ∗ barPay c 0 ∗ barPay c 1 ∗ barPay c 2) -∗ wpc c (k ⟨⟩) Q)
          -∗ wpc c (.op (.semWait sem k') k) Q) := by
  subst hsm hk'
  unfold ow
  iintro ⟨#HR, Hc, ⟨%W, HO⟩, Ha⟩ Hk
  iapply (Rounds.wp_wait_rest_token 𝒱₀ ER (kRd m) (c : Thread nD τ) none (κ := K (c, none))
      (wpE_semWait_eq 𝒱₀ (c : Thread nD τ) none Set.univ) (Set.mem_univ _) () (O := owe c l) (W := W) (R := 0) (m := 0) (T := ∅)
      (by rw [expect_bar])) $$ [Hc HO Ha]
  · isplitr; · iapply (recs_inv m K (c, none)); iexact HR
    isplitl [Hc]; · iexact Hc
    isplitl [HO]; · iexact HO
    isplitr
    · iapply (mayWait c (.reg barS) l hl)
      iapply (recs_lev m K); iexact HR
    iexact Ha
  iintro ⟨HO, Ha, -, Hp⟩
  ihave Hp := (Entails.of_eq (rest_bar m c)) $$ Hp
  imod (Rounds.cell_close ER (kRd m) (Set.mem_univ (K (c, none))) (fun h => h) (R := 0 + 1) (duties_later m (barC c))) $$ [Ha] with Hz
  · isplitr; · iapply (recs_inv m K (c, none)); iexact HR
    iexact Ha
  iapply Hk
  isplitl [HO]; · iexists _; iexact HO
  isplitl [Hz] <;> iassumption

/-! ## The exchanges -/

theorem step_send {sp sp' : Space} (K : Dev nD × CI → ℕ) (c : Dev nD) (x y : XI) {n : Dev nD} (hn : n = tg c y.2.1)
    {src : Memref sig .tc sp S32x1024 .f32} {dst : Memref sig .tc sp' S32x1024 .f32} {sS sR : SemLoc sig}
    {hsc : dst.view.ref.isScScratch = false} {h1 : src.view.WordExact} {h2 : dst.view.WordExact}
    {h3 : DmaTarget.Typed (nD := nD) sp sR (.remote (p := (c : Thread nD τ).2) (Dev.tc n : Thread nD τ) dst sS hsc)}
    (src₀ : Memref sig .tc sp S32x1024 .f32) (dst₀ : Memref sig .tc sp' S32x1024 .f32)
    (hs : src = src₀) (hd : dst = dst₀) (hx : sS = .dma (xsem x)) (hy : sR = .dma (xsem y)) (hN : dst₀.view.dmaCredit = N)
    {q : PosShare TreeShare} {w : S32x1024.Idx → Elt F .f32} (l : List Due)
    (hp1 : xPay m c x = rd c src₀.view q w) (hp2 : xPay m (tg c y.2.1) y = rd (tg c y.2.1) dst₀.view fullShare w)
    {α : Type} {Q : α → sProp 𝕄} {k : PUnit → Prog (TpuEff nD τ sig (Elt F) Λ₀ .tc) α} :
    iprop(recs m K ∗ rd c src₀.view q w ∗ hv (tg c y.2.1) dst₀.view ∗ dutyTok ER (xC c x) 0 0 ∗ dutyTok ER (xC (tg c y.2.1) y) 0 0 ∗ ow c (.inr y :: l))
      ⊢ iprop((iprop(cred (tallyAt (xC c x) () N) ∗ ow c l) -∗ wpc c (k ⟨⟩) Q)
          -∗ wpc c (.op (.enqueueDma src (.remote (Dev.tc n : Thread nD τ) dst sS hsc) sR h1 h2 h3) k) Q) := by
  subst hn hs hd hx hy
  unfold ow hv
  rw [show (rd c src.view q w : sProp 𝕄) = iprop(∃ f : Buf (Elt F) (src.view.loc (c : Thread nD τ)), ⌜src.view.read (Elt F) f = w⌝ ∗ (src.view.loc (c : Thread nD τ) ↦[src.view.set]{q} f)) from rfl]
  iintro ⟨#HR, ⟨%f, %hf, Hs⟩, ⟨%g, Hd⟩, Hx, Hy, ⟨%W, HO⟩⟩ Hk
  iapply (Rounds.wp_send_pointsTo 𝒱₀ ER (kRd m) (c : Thread nD τ) none (κ₁ := K (c, some x)) (κ₂ := K (tg c y.2.1, some y))
    (r₁ := 0) (r₂ := 0) (d₁ := 0) (d₂ := 0) (fd := g)
    (by rw [duties_x]; exact Finset.mem_singleton_self _) (by rw [duties_x]; exact Finset.mem_singleton_self _)
    () () N (show dst.view.amount (.dma (xsem y)) = N from hN) (rfl : (kRd m).amount (xC c x) 0 0 = N) (rfl : (kRd m).amount (xC (tg c y.2.1) y) 0 0 = N) (owe c l) rfl (W := W)
    (by rw [payload_x, hp1]; unfold rd; iintro H; iexists f; isplitr; · (ipureintro; exact hf)
        iexact H)
    (by rw [payload_x, hp2]; unfold rd; iintro H; iexists _; isplitr
        swap
        · iexact H
        · ipureintro; rw [View.read_write_univ]; exact hf)) $$ [Hs Hd HO Hx Hy]
  · isplitr; · iapply (recs_inv m K (c, some x)); iexact HR
    isplitr; · iapply (recs_inv m K (tg c y.2.1, some y)); iexact HR
    isplitl [Hs]; · iexact Hs
    isplitl [Hd]; · iexact Hd
    isplitl [HO]; · iexact HO
    isplitl [Hx]; · iexact Hx
    isplitr; · iapply (recs_reached m K (c, some x)); iexact HR
    isplitl [Hy]; · iexact Hy
    iapply (recs_reached m K (tg c y.2.1, some y)); iexact HR
  iintro ⟨Hc, HO⟩
  iapply Hk
  isplitl [Hc]; · iexact Hc
  iexists W; iexact HO

theorem step_xwait {sp sp' : Space} {s s' : Shape} {e e' : EltTy} (K : Dev nD × CI → ℕ) (c : Dev nD) (x : XI) {src : Memref sig .tc sp' s' e'} {dst : Memref sig .tc sp s e}
    {sem : DmaSem sig} {h1 : src.view.WordExact} {h2 : dst.view.WordExact} (hsm : sem = xsem x) (hN : dst.view.dmaCredit = N)
    (l : List Due) (hl : ∀ d ∈ l, lvS (.dma (xsem x)) < dlv d)
    {α : Type} {Q : α → sProp 𝕄} {k : PUnit → Prog (TpuEff nD τ sig (Elt F) Λ₀ .tc) α} :
    iprop(recs m K ∗ cred (tallyAt (xC c x) () N) ∗ ow c l ∗ atPos ER (xC c x) 0 ∅ 0)
      ⊢ iprop((iprop(ow c l ∗ semVal (xC c x) 0 ∗ xPay m c x) -∗ wpc c (k ⟨⟩) Q)
          -∗ wpc c (.op (.waitDma2 sem src dst h1 h2) k) Q) := by
  subst hsm
  unfold ow
  iintro ⟨#HR, Hc, ⟨%W, HO⟩, Ha⟩ Hk
  rw [← hN]
  iapply (Rounds.wp_wait_rest_token 𝒱₀ ER (kRd m) (c : Thread nD τ) none (κ := K (c, some x))
      (wpE_waitDma2_eq 𝒱₀ (c : Thread nD τ) none Set.univ) (Set.mem_univ _) () (O := owe c l) (W := W) (R := 0) (m := 0) (T := ∅)
      (by rw [Nat.zero_add, expect_x]; exact hN)) $$ [Hc HO Ha]
  · isplitr; · iapply (recs_inv m K (c, some x)); iexact HR
    isplitl [Hc]; · iexact Hc
    isplitl [HO]; · iexact HO
    isplitr
    · iapply (mayWait c _ l hl)
      iapply (recs_lev m K); iexact HR
    iexact Ha
  iintro ⟨HO, Ha, -, Hp⟩
  ihave Hp := (Entails.of_eq (rest_x m c x)) $$ Hp
  imod (Rounds.cell_close ER (kRd m) (Set.mem_univ (K (c, some x))) (fun h => h) (R := 0 + 1) (duties_later m (xC c x))) $$ [Ha] with Hz
  · isplitr; · iapply (recs_inv m K (c, some x)); iexact HR
    iexact Ha
  iapply Hk
  isplitl [HO]; · iexists _; iexact HO
  isplitl [Hz] <;> iassumption

/-! ## What the launch holds, bundled -/

/-- Before a local copy: its semaphore at zero, the landing block, and a share of the source. -/
def lK (c : Dev nD) (h : Fin 8) : sProp 𝕄 := iprop(rd c (khB c h).view fullShare.right (kV m c h) ∗ hv c (kB h).view ∗ semVal (lC c h 0) 0)
def lV (c : Dev nD) (h : Fin 8) : sProp 𝕄 := iprop(rd c (vhB c h).view fullShare.right (vV m c h) ∗ hv c (vB h).view ∗ semVal (lC c h 1) 0)
/-- While it runs. -/
def fK (c : Dev nD) (h : Fin 8) : sProp 𝕄 := Flight countersEmb (c : Thread nD τ) (.dma (lsem h 0)) () NL (rd c (kB h).view fullShare (kV m c h))
def fV (c : Dev nD) (h : Fin 8) : sProp 𝕄 := Flight countersEmb (c : Thread nD τ) (.dma (lsem h 1)) () NL (rd c (vB h).view fullShare (vV m c h))
/-- Once it is over. -/
def dV (c : Dev nD) (h : Fin 8) : sProp 𝕄 := iprop(rd c (vB h).view fullShare (vV m c h) ∗ semVal (lC c h 1) 0)
/-- And once its block has been read. -/
def zK (c : Dev nD) (h : Fin 8) : sProp 𝕄 := iprop(hv c (kB h).view ∗ semVal (lC c h 0) 0)
def zV (c : Dev nD) (h : Fin 8) : sProp 𝕄 := iprop(hv c (vB h).view ∗ semVal (lC c h 1) 0)
/-- A head's columns of the attention buffer: before, and after. -/
def aU (c : Dev nD) (h : Fin 8) : sProp 𝕄 := hv c (atM.access (atR h))
def aD (c : Dev nD) (h : Fin 8) : sProp 𝕄 := rd c (atM.access (atR h)) fullShare (hV m c h)

theorem lvS_lsem (h : Fin 8) : ∀ j : Fin 2, lvS (.dma (lsem h j)) = 0 := by revert h; decide

section Heads
variable (c : Dev nD) (h : Fin 8)

theorem step_startK {src : Memref sig .tc .hbm S4096x128 .f32} {dst : Memref sig .tc .vmem S4096x128 .f32}
    {sm : SemLoc sig} {h1 : src.view.WordExact} {h2 : dst.view.WordExact} {h3 : DmaTarget.Typed (nD := nD) .hbm sm (.here (p := (c : Thread nD τ).2) dst)}
    (hs : src = khB c h) (hd : dst = kB h) (hsm : sm = .dma (lsem h 0))
    {α : Type} {Q : α → sProp 𝕄} {k : PUnit → Prog (TpuEff nD τ sig (Elt F) Λ₀ .tc) α} :
    lK m c h ⊢ iprop((fK m c h -∗ wpc c (k ⟨⟩) Q) -∗ wpc c (.op (.enqueueDma src (.here dst) sm h1 h2 h3) k) Q) :=
  step_local c (khB c h) (kB h) (.dma (lsem h 0)) hs hd hsm rfl NL_pos
theorem step_startV {src : Memref sig .tc .hbm S4096x128 .f32} {dst : Memref sig .tc .vmem S4096x128 .f32}
    {sm : SemLoc sig} {h1 : src.view.WordExact} {h2 : dst.view.WordExact} {h3 : DmaTarget.Typed (nD := nD) .hbm sm (.here (p := (c : Thread nD τ).2) dst)}
    (hs : src = vhB c h) (hd : dst = vB h) (hsm : sm = .dma (lsem h 1))
    {α : Type} {Q : α → sProp 𝕄} {k : PUnit → Prog (TpuEff nD τ sig (Elt F) Λ₀ .tc) α} :
    lV m c h ⊢ iprop((fV m c h -∗ wpc c (k ⟨⟩) Q) -∗ wpc c (.op (.enqueueDma src (.here dst) sm h1 h2 h3) k) Q) :=
  step_local c (vhB c h) (vB h) (.dma (lsem h 1)) hs hd hsm rfl NL_pos

/-- The waits for a head's keys and values, and the load of the keys. -/
theorem step_next (K : Dev nD × CI → ℕ) {src1 src2 : Memref sig .tc .hbm S4096x128 .f32} {dst1 dst2 : Memref sig .tc .vmem S4096x128 .f32}
    {q1 q2 : DmaSem sig} {h1 : src1.view.WordExact} {h2 : dst1.view.WordExact} {h3 : src2.view.WordExact} {h4 : dst2.view.WordExact}
    {off : Fin 3 → ℕ} {p : ∀ a, off a + S1x4096x128.size a ≤ S8x4096x128.size a} {hl : kM.view.LoadsAt (Rect.unit (s := S8x4096x128) off S1x4096x128.size p).toLoadRect}
    (hq1 : q1 = lsem h 0) (hq2 : q2 = lsem h 1) (hd1 : dst1 = kB h) (hd2 : dst2 = vB h) (hoff : off = ![h.val, 0, 0])
    (l : List Due) (hl0 : ∀ d ∈ l, 0 < dlv d)
    {α : Type} {Q : α → sProp 𝕄} {k : Vec F S1x4096x128 .f32 → Prog (TpuEff nD τ sig (Elt F) Λ₀ .tc) α} :
    iprop(recs m K ∗ fK m c h ∗ fV m c h ∗ ow c l)
      ⊢ iprop((iprop(zK c h ∗ dV m c h ∗ ow c l) -∗ wpc c (k (up (by decide) (kV m c h))) Q)
          -∗ wpc c (.op (.waitDma2 q1 src1 dst1 h1 h2) fun _ => .op (.waitDma2 q2 src2 dst2 h3 h4) fun _ =>
              .op (.load kM (Rect.unit (s := S8x4096x128) off S1x4096x128.size p).toLoadRect hl) k) Q) := by
  subst hd1 hd2
  have hlv := lvS_lsem h
  unfold fK fV
  iintro ⟨#HR, HK, HV, HO⟩ Hk
  iapply (step_lwait m K c (lsem h 0) hq1 rfl l (by rw [hlv]; exact hl0)) $$ [HK HO]
  · isplitr; · iexact HR
    isplitl [HK] <;> iassumption
  iintro ⟨HK, Hz0, HO⟩
  iapply (step_lwait m K c (lsem h 1) hq2 rfl l (by rw [hlv]; exact hl0)) $$ [HV HO]
  · isplitr; · iexact HR
    isplitl [HV] <;> iassumption
  iintro ⟨HV, Hz1, HO⟩
  iapply (step_load_sq (s := S8x4096x128) (s' := S4096x128) c ![h.val, 0, 0] hoff (kR_inb h) _) $$ HK
  iintro HK
  iapply Hk
  isplitl [HK Hz0]
  · unfold zK
    isplitl [HK]
    · iapply (rd_hv c (kB h).view (kV m c h)); iexact HK
    · iexact Hz0
  isplitl [HV Hz1]
  · unfold dV
    isplitl [HV] <;> iassumption
  iexact HO

/-- The load of a head's values, the unused load and the store of its columns. -/
theorem step_out {off : Fin 3 → ℕ} {p : ∀ a, off a + S1x4096x128.size a ≤ S8x4096x128.size a} {hl : vM.view.LoadsAt (Rect.unit (s := S8x4096x128) off S1x4096x128.size p).toLoadRect}
    {off' : Fin 2 → ℕ} {p' : ∀ a, off' a + S256x128.size a ≤ S256x1024.size a} {hl' : atM.view.LoadsAt (Rect.unit (s := S256x1024) off' S256x128.size p').toLoadRect}
    {hx : (atM.access (Rect.unit (s := S256x1024) off' S256x128.size p')).Stores Finset.univ} {hm : Finset.univ = Finset.univ ∨ ∀ a, (Rect.unit (s := S256x1024) off' S256x128.size p').stride a = 1}
    {pay : Vec F S1x4096x128 .f32 → Vec F S256x128 .f32}
    (hoff : off = ![h.val, 0, 0]) (hoff' : off' = ![0, 128 * h.val]) (hpay : pay (up (by decide) (vV m c h)) = hV m c h)
    {α : Type} {Q : α → sProp 𝕄} {k : PUnit → Prog (TpuEff nD τ sig (Elt F) Λ₀ .tc) α} :
    iprop(dV m c h ∗ aU c h)
      ⊢ iprop((iprop(zV c h ∗ aD m c h) -∗ wpc c (k ⟨⟩) Q)
          -∗ wpc c (.op (.load vM (Rect.unit (s := S8x4096x128) off S1x4096x128.size p).toLoadRect hl) fun v =>
              .op (.load atM (Rect.unit (s := S256x1024) off' S256x128.size p').toLoadRect hl') fun _ =>
              .op (.store atM (Rect.unit (s := S256x1024) off' S256x128.size p') (pay v) Finset.univ hx hm) k) Q) := by
  unfold dV aU
  iintro ⟨⟨HV, Hz⟩, Ha⟩ Hk
  iapply (step_load_sq (s := S8x4096x128) (s' := S4096x128) c ![h.val, 0, 0] hoff (kR_inb h) _) $$ HV
  iintro HV
  iapply (step_put (s := S256x1024) c ![0, 128 * h.val] hoff' (atR_inb h) (hV m c h) hpay) $$ Ha
  iintro Ha
  iapply Hk
  isplitl [HV Hz]
  · unfold zV
    isplitl [HV]
    · iapply (rd_hv c (vB h).view (vV m c h)); iexact HV
    · iexact Hz
  unfold aD
  iexact Ha

end Heads

/-- What a transfer's wait uses: the credit of its cell and where it stands. -/
def ex (c : Dev nD) (x : XI) : sProp 𝕄 := iprop(cred (tallyAt (xC c x) () N) ∗ atPos ER (xC c x) 0 ∅ 0)
/-- What a send uses: the right to pay its own cell and the receiver's. -/
def sd (c : Dev nD) (x y : XI) : sProp 𝕄 := iprop(dutyTok ER (xC c x) 0 0 ∗ dutyTok ER (xC (tg c y.2.1) y) 0 0 ∗ atPos ER (xC c x) 0 ∅ 0)
def zx (c : Dev nD) (x : XI) : sProp 𝕄 := semVal (xC c x) 0

theorem step_wait {sp sp' : Space} {s s' : Shape} {e e' : EltTy} (K : Dev nD × CI → ℕ) (c : Dev nD) (x : XI) {src : Memref sig .tc sp' s' e'} {dst : Memref sig .tc sp s e}
    {sem : DmaSem sig} {h1 : src.view.WordExact} {h2 : dst.view.WordExact} (hsm : sem = xsem x) (hN : dst.view.dmaCredit = N)
    (l : List Due) (hl : ∀ d ∈ l, lvS (.dma (xsem x)) < dlv d)
    {α : Type} {Q : α → sProp 𝕄} {k : PUnit → Prog (TpuEff nD τ sig (Elt F) Λ₀ .tc) α} :
    iprop(recs m K ∗ ex c x ∗ ow c l)
      ⊢ iprop((iprop(ow c l ∗ zx c x ∗ xPay m c x) -∗ wpc c (k ⟨⟩) Q)
          -∗ wpc c (.op (.waitDma2 sem src dst h1 h2) k) Q) := by
  unfold ex zx
  iintro ⟨#HR, ⟨Hc, Ha⟩, HO⟩ Hk
  iapply (step_xwait m K c x hsm hN l hl) $$ [Hc Ha HO]
  · isplitr; · iexact HR
    isplitl [Hc]; · iexact Hc
    isplitl [HO] <;> iassumption
  iexact Hk

theorem step_sendx {sp sp' : Space} (K : Dev nD × CI → ℕ) (c : Dev nD) (x y : XI) {n : Dev nD} (hn : n = tg c y.2.1)
    {src : Memref sig .tc sp S32x1024 .f32} {dst : Memref sig .tc sp' S32x1024 .f32} {sS sR : SemLoc sig}
    {hsc : dst.view.ref.isScScratch = false} {h1 : src.view.WordExact} {h2 : dst.view.WordExact}
    {h3 : DmaTarget.Typed (nD := nD) sp sR (.remote (p := (c : Thread nD τ).2) (Dev.tc n : Thread nD τ) dst sS hsc)}
    (src₀ : Memref sig .tc sp S32x1024 .f32) (dst₀ : Memref sig .tc sp' S32x1024 .f32)
    (hs : src = src₀) (hd : dst = dst₀) (hx : sS = .dma (xsem x)) (hy : sR = .dma (xsem y)) (hN : dst₀.view.dmaCredit = N)
    {q : PosShare TreeShare} {w : S32x1024.Idx → Elt F .f32} (l : List Due)
    (hp1 : xPay m c x = rd c src₀.view q w) (hp2 : xPay m (tg c y.2.1) y = rd (tg c y.2.1) dst₀.view fullShare w)
    {α : Type} {Q : α → sProp 𝕄} {k : PUnit → Prog (TpuEff nD τ sig (Elt F) Λ₀ .tc) α} :
    iprop(recs m K ∗ rd c src₀.view q w ∗ hv (tg c y.2.1) dst₀.view ∗ sd c x y ∗ ow c (.inr y :: l))
      ⊢ iprop((iprop(ex c x ∗ ow c l) -∗ wpc c (k ⟨⟩) Q)
          -∗ wpc c (.op (.enqueueDma src (.remote (Dev.tc n : Thread nD τ) dst sS hsc) sR h1 h2 h3) k) Q) := by
  unfold sd ex
  iintro ⟨#HR, Hs, Hd, ⟨Hx, Hy, Ha⟩, HO⟩ Hk
  iapply (step_send m K c x y hn src₀ dst₀ hs hd hx hy hN l hp1 hp2) $$ [Hs Hd Hx Hy HO]
  · isplitr; · iexact HR
    isplitl [Hs]; · iexact Hs
    isplitl [Hd]; · iexact Hd
    isplitl [Hx]; · iexact Hx
    isplitl [Hy] <;> iassumption
  iintro ⟨Hc, HO⟩
  iapply Hk
  isplitr [HO]
  · isplitl [Hc] <;> iassumption
  iexact HO

/-- The first exchange's send of slot `s`, half `k`. -/
theorem step_rs (K : Dev nD × CI → ℕ) (c : Dev nD) (s : Fin 3) (b : Fin 2) {n : Dev nD} (hn : n = tg c s)
    {src dst : Memref sig .tc .vmem S32x1024 .f32} {sS sR : SemLoc sig}
    {hsc : dst.view.ref.isScScratch = false} {h1 : src.view.WordExact} {h2 : dst.view.WordExact}
    {h3 : DmaTarget.Typed (nD := nD) .vmem sR (.remote (p := (c : Thread nD τ).2) (Dev.tc n : Thread nD τ) dst sS hsc)}
    (hs : src = paB (tg c s) b) (hd : dst = rsB s.succ b) (hx : sS = .dma (xsem (0, s, b))) (hy : sR = .dma (xsem (1, s, b))) (l : List Due)
    {α : Type} {Q : α → sProp 𝕄} {k : PUnit → Prog (TpuEff nD τ sig (Elt F) Λ₀ .tc) α} :
    iprop(recs m K ∗ rd c (paB (tg c s) b).view fullShare (blk m c (tg c s) b) ∗ hv (tg c s) (rsB s.succ b).view ∗ sd c (0, s, b) (1, s, b) ∗ ow c (.inr (1, s, b) :: l))
      ⊢ iprop((iprop(ex c (0, s, b) ∗ ow c l) -∗ wpc c (k ⟨⟩) Q)
          -∗ wpc c (.op (.enqueueDma src (.remote (Dev.tc n : Thread nD τ) dst sS hsc) sR h1 h2 h3) k) Q) :=
  step_sendx m K c (0, s, b) (1, s, b) hn (paB (tg c s) b) (rsB s.succ b) hs hd hx hy rfl l rfl
    (by show rd (tg c s) (rsB s.succ b).view fullShare (blk m (pl (tg c s) s) (tg c s) b) = _; rw [pl_tg])

/-- The second exchange's send of slot `s`, half `k`. -/
theorem step_ag (K : Dev nD × CI → ℕ) (c : Dev nD) (s : Fin 3) (b : Fin 2) {n : Dev nD} (hn : n = tg c s)
    {src dst : Memref sig .tc .vmem S32x1024 .f32} {sS sR : SemLoc sig}
    {hsc : dst.view.ref.isScScratch = false} {h1 : src.view.WordExact} {h2 : dst.view.WordExact}
    {h3 : DmaTarget.Typed (nD := nD) .vmem sR (.remote (p := (c : Thread nD τ).2) (Dev.tc n : Thread nD τ) dst sS hsc)}
    (hs : src = rdB b) (hd : dst = oB c b) (hx : sS = .dma (xsem (2, s, b))) (hy : sR = .dma (xsem (3, s, b))) (l : List Due)
    {α : Type} {Q : α → sProp 𝕄} {k : PUnit → Prog (TpuEff nD τ sig (Elt F) Λ₀ .tc) α} :
    iprop(recs m K ∗ rd c (rdB b).view (sh s) (redV m c b) ∗ hv (tg c s) (oB c b).view ∗ sd c (2, s, b) (3, s, b) ∗ ow c (.inr (3, s, b) :: l))
      ⊢ iprop((iprop(ex c (2, s, b) ∗ ow c l) -∗ wpc c (k ⟨⟩) Q)
          -∗ wpc c (.op (.enqueueDma src (.remote (Dev.tc n : Thread nD τ) dst sS hsc) sR h1 h2 h3) k) Q) :=
  step_sendx m K c (2, s, b) (3, s, b) hn (rdB b) (oB c b) hs hd hx hy rfl l rfl
    (by show rd (tg c s) (oB (pl (tg c s) s) b).view fullShare (redV m (pl (tg c s) s) b) = _; rw [pl_tg])

end Cert.Pf
-- ==== Proof.Whole.lean ====
/-
Blocks of a buffer against the whole of it: the attention buffer's columns, the partial product's rows, the result's rows.
-/
module

public import proofs.«01_k».proof.Proof.Steps
public import Idealize.ShloMosaic.Lib.ViewIndex
public import Idealize.ShloMosaic.Lib.Pipeline.Value
public import Idealize.ShloMosaic.Lib.Ring

@[expose] public section

noncomputable section

namespace Cert.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (c : Dev nD)

theorem eq_of (P Q : sProp 𝕄) (h1 : P ⊢ Q) (h2 : Q ⊢ P) : P = Q := Entails.antisymm h1 h2
theorem bmono {I : Type} [Fintype I] (Φ Ψ : I → sProp 𝕄) (h : ∀ i, Φ i ⊢ Ψ i) : bigSep Finset.univ Φ ⊢ bigSep Finset.univ Ψ := bigSep_mono fun i _ => h i

/-- A view's elements read a block of given contents exactly when they are held at those contents. -/
theorem rd_pts {sp : Space} {s : Shape} {e : EltTy} (V : View sig .tc sp s e) (q : PosShare TreeShare) (w : s.Idx → Elt F e)
    (g : Buf (Elt F) (V.loc (c : Thread nD τ))) (hg : V.read (Elt F) g = w) :
    rd c V q w = (V.loc (c : Thread nD τ) ↦[V.set]{q} g : sProp 𝕄) := by
  subst hg
  refine eq_of _ _ ?_ ?_
  · unfold rd
    iintro ⟨%f, %hf, H⟩
    iapply (Entails.of_eq (pointsTo_congr (f := f) (g := g) (fun i hi => by
      obtain ⟨x, rfl⟩ := View.exists_emb_of_mem_set V hi
      exact View.eq_of_read_eq (congrFun hf x))))
    iexact H
  · unfold rd
    iintro H
    iexists g
    isplitr; · (ipureintro; rfl)
    iexact H
theorem rd_ex {sp : Space} {s : Shape} {e : EltTy} (V : View sig .tc sp s e) (q : PosShare TreeShare) (w : s.Idx → Elt F e) :
    (rd c V q w : sProp 𝕄) ⊢ iprop(∃ f : Buf (Elt F) (V.loc (c : Thread nD τ)), ⌜V.read (Elt F) f = w⌝ ∗ (V.loc (c : Thread nD τ) ↦[V.set]{q} f)) := by
  unfold rd
  exact .rfl

/-- The whole buffer through a rectangle as large as it. -/
theorem rd_whole (b : Ref sig .tc) {off : Fin b.ty.shape.rank → ℕ} (h : off = fun _ => 0) (inb : ∀ a, off a + b.ty.shape.size a ≤ b.ty.shape.size a)
    (q : PosShare TreeShare) (X : b.ty.Contents (Elt F)) :
    rd c ((Memref.whole b).access (Rect.unit off b.ty.shape.size inb)) q X = ((c : Thread nD τ).loc b ↦{q} X : sProp 𝕄) := by
  rw [rd_pts c _ q X X (Memref.read_access_unit_zero (Elt F) b h inb X)]
  subst h
  show ((c : Thread nD τ).loc b ↦[((Memref.whole b).access (Rect.whole _)).set]{q} X : sProp 𝕄) = _
  rw [Memref.set_access_whole]
theorem hv_whole (b : Ref sig .tc) {off : Fin b.ty.shape.rank → ℕ} (h : off = fun _ => 0) (inb : ∀ a, off a + b.ty.shape.size a ≤ b.ty.shape.size a) :
    hv c ((Memref.whole b).access (Rect.unit off b.ty.shape.size inb)) = (iprop(∃ f, (c : Thread nD τ).loc b ↦{fullShare} f) : sProp 𝕄) := by
  subst h
  unfold hv
  show iprop(∃ f, ((c : Thread nD τ).loc b ↦[((Memref.whole b).access (Rect.whole _)).set]{fullShare} f : sProp 𝕄)) = _
  rw [Memref.set_access_whole]

/-! ## The attention buffer -/

theorem at_set (h : Fin 8) : (atM.access (atR h)).set = (atR h).set := by
  show ((View.whole cc0_scratch2).slice (atR h)).set = _
  rw [View.set_slice_whole]
theorem at_disj : ∀ b b' : Fin 8, b ≠ b' → Disjoint (atM.access (atR b)).set (atM.access (atR b')).set :=
  disj_of_key (fun h : Fin 8 => (atM.access (atR h)).set) (fun i : S256x1024.Idx => (i 1).val / 128) (fun h : Fin 8 => h.val) (fun _ _ h => Fin.ext h)
    (fun b i hi => by rw [at_set] at hi; exact mem_atR.mp hi)
theorem at_cover (i : S256x1024.Idx) : ∃ b : Fin 8, i ∈ (atM.access (atR b)).set := by
  have h := (i 1).isLt
  have h' : (i 1).val < 1024 := h
  exact ⟨⟨(i 1).val / 128, by omega⟩, by rw [at_set]; exact mem_atR.mpr rfl⟩

theorem at_read (h : Fin 8) : (atM.access (atR h)).read (Elt F) (attnV m c) = hV m c h := by
  funext y
  have h0 : (y 0).val < 256 := (y 0).isLt
  have h1 : (y 1).val < 128 := (y 1).isLt
  show attnV m c ((atR h).emb y) = hV m c h y
  unfold attnV
  have e1 : ((atR h).emb y 1).val = 128 * h.val + (y 1).val := congrArg (128 * h.val + ·) (Nat.one_mul _)
  have e0 : ((atR h).emb y 0).val = 0 + (y 0).val := congrArg (0 + ·) (Nat.one_mul _)
  have key : ∀ (h' : Fin 8) (y' : S256x128.Idx), h' = h → y' = y → hV m c h' y' = hV m c h y := by
    intro h' y' e e'; rw [e, e']
  apply key
  · exact Fin.ext (show ((atR h).emb y 1).val / 128 = h.val by rw [e1]; omega)
  · funext a
    match a with
    | ⟨0, _⟩ => exact Fin.ext (by show ((atR h).emb y 0).val = (y 0).val; rw [e0]; omega)
    | ⟨1, _⟩ => exact Fin.ext (by show ((atR h).emb y 1).val % 128 = (y 1).val; rw [e1]; omega)

theorem bigSep8 {M : Type} [Idealize.SL.RA.URA M] (P : Fin 8 → sProp M) :
    bigSep Finset.univ P = iprop(P 0 ∗ P 1 ∗ P 2 ∗ P 3 ∗ P 4 ∗ P 5 ∗ P 6 ∗ P 7) :=
  bigSep_univ_eq_bigSepL [0, 1, 2, 3, 4, 5, 6, 7] (by decide) (by decide) P
theorem bigSep4 {M : Type} [Idealize.SL.RA.URA M] (P : Fin 4 → sProp M) : bigSep Finset.univ P = iprop(P 0 ∗ P 1 ∗ P 2 ∗ P 3) :=
  bigSep_univ_eq_bigSepL [0, 1, 2, 3] (by decide) (by decide) P
theorem bigSep3 {M : Type} [Idealize.SL.RA.URA M] (P : Fin 3 → sProp M) : bigSep Finset.univ P = iprop(P 0 ∗ P 1 ∗ P 2) :=
  bigSep_univ_eq_bigSepL [0, 1, 2] (by decide) (by decide) P
theorem bigSep2 {M : Type} [Idealize.SL.RA.URA M] (P : Fin 2 → sProp M) : bigSep Finset.univ P = iprop(P 0 ∗ P 1) :=
  bigSep_univ_eq_bigSepL [0, 1] (by decide) (by decide) P

/-- The eight heads' columns, held together, are the buffer at the attention. -/
theorem at_join : (bigSep Finset.univ fun h => aD m c h : sProp 𝕄) = ((c : Thread nD τ).loc cc0_scratch2 ↦{fullShare} attnV m c) := by
  rw [show (fun h => aD m c h : Fin 8 → sProp 𝕄) = fun h => ((c : Thread nD τ).loc cc0_scratch2 ↦[(atM.access (atR h)).set]{fullShare} attnV m c) from
    funext fun h => rd_pts c (atM.access (atR h)) fullShare (hV m c h) (attnV m c) (at_read m c h)]
  exact (Ring.pointsTo_blocks _ at_disj (Finset.eq_univ_iff_forall.mpr fun i => by
    obtain ⟨b, hb⟩ := at_cover i; exact Finset.mem_biUnion.mpr ⟨b, Finset.mem_univ _, hb⟩) _).symm
theorem at_split : iprop(∃ f, (c : Thread nD τ).loc cc0_scratch2 ↦{fullShare} f) ⊢ (bigSep Finset.univ fun h => aU c h : sProp 𝕄) := by
  have step : ∀ (f : Buf (Elt F) ((c : Thread nD τ).loc cc0_scratch2)) (h : Fin 8),
      ((c : Thread nD τ).loc cc0_scratch2 ↦[(atM.access (atR h)).set]{fullShare} f : sProp 𝕄) ⊢ aU c h := fun f h => by
    unfold aU hv; iintro H; iexists f; iexact H
  iintro ⟨%f, H⟩
  iapply (bmono _ _ (step f))
  iapply (Entails.of_eq (Ring.pointsTo_blocks (fun h : Fin 8 => (atM.access (atR h)).set) at_disj (Finset.eq_univ_iff_forall.mpr fun i => by
    obtain ⟨b, hb⟩ := at_cover i; exact Finset.mem_biUnion.mpr ⟨b, Finset.mem_univ _, hb⟩) f))
  iexact H

/-! ## The partial product -/

theorem pa_split : ((c : Thread nD τ).loc cc0_scratch3 ↦{fullShare} partV m c : sProp 𝕄)
    = bigSep Finset.univ fun b : Fin 4 × Fin 2 => rd c (paB b.1 b.2).view fullShare (blk m c b.1 b.2) := by
  rw [show (fun b : Fin 4 × Fin 2 => rd c (paB b.1 b.2).view fullShare (blk m c b.1 b.2) : Fin 4 × Fin 2 → sProp 𝕄)
      = fun b : Fin 4 × Fin 2 => ((c : Thread nD τ).loc cc0_scratch3 ↦[(paB b.1 b.2).view.set]{fullShare} partV m c) from
    funext fun b => rd_pts c (paB b.1 b.2).view fullShare _ (partV m c) rfl]
  exact Ring.pointsTo_blocks _ paB_disj (Finset.eq_univ_iff_forall.mpr fun i => by
    obtain ⟨b, hb⟩ := paB_cover i; exact Finset.mem_biUnion.mpr ⟨b, Finset.mem_univ _, hb⟩) _
/-! ## The result -/

theorem o_read (b : Fin 4) (k : Fin 2) : (oB b k).view.read (Elt F) (outV m) = redV m b k := by
  funext y
  have h0 : (y 0).val < 32 := (y 0).isLt
  have h1 : (y 1).val < 1024 := (y 1).isLt
  have er : ∀ h, (Shape.reshapeEquiv (s := S1x32x1024) (s' := S32x1024) h y) = Fin.cons ⟨0, Nat.one_pos⟩ y :=
    fun h => shapeCast_dropUnit_apply (n := 2) ![32, 1024] (fun i => i) h y
  show outV m ((oR b k).emb (Shape.reshapeEquiv _ y)) = redV m b k y
  erw [er]
  have e1 : ((oR b k).emb (Fin.cons ⟨0, Nat.one_pos⟩ y) 1).val = (64 * b.val + 32 * k.val) + (y 0).val := congrArg ((64 * b.val + 32 * k.val) + ·) (Nat.one_mul _)
  have e2 : ((oR b k).emb (Fin.cons ⟨0, Nat.one_pos⟩ y) 2).val = 0 + (y 1).val := congrArg (0 + ·) (Nat.one_mul _)
  unfold outV
  have key : ∀ (b' : Fin 4) (k' : Fin 2) (y' : S32x1024.Idx), b' = b → k' = k → y' = y → redV m b' k' y' = redV m b k y := by
    intro b' k' y' e e' e''; rw [e, e', e'']
  apply key
  · exact Fin.ext (show ((oR b k).emb (Fin.cons ⟨0, Nat.one_pos⟩ y) 1).val / 64 = b.val by rw [e1]; omega)
  · exact Fin.ext (show ((oR b k).emb (Fin.cons ⟨0, Nat.one_pos⟩ y) 1).val / 32 % 2 = k.val by rw [e1]; omega)
  · funext a
    match a with
    | ⟨0, _⟩ => exact Fin.ext (show ((oR b k).emb (Fin.cons ⟨0, Nat.one_pos⟩ y) 1).val % 32 = (y 0).val by rw [e1]; omega)
    | ⟨1, _⟩ => exact Fin.ext (show ((oR b k).emb (Fin.cons ⟨0, Nat.one_pos⟩ y) 2).val = (y 1).val by rw [e2]; omega)

theorem o_join : (bigSep Finset.univ fun b : Fin 4 × Fin 2 => rd c (oB b.1 b.2).view fullShare (redV m b.1 b.2) : sProp 𝕄)
    = ((c : Thread nD τ).loc cc0_stg3_0 ↦{fullShare} outV m) := by
  rw [show (fun b : Fin 4 × Fin 2 => rd c (oB b.1 b.2).view fullShare (redV m b.1 b.2) : Fin 4 × Fin 2 → sProp 𝕄)
      = fun b : Fin 4 × Fin 2 => ((c : Thread nD τ).loc cc0_stg3_0 ↦[(oB b.1 b.2).view.set]{fullShare} outV m) from
    funext fun b => rd_pts c (oB b.1 b.2).view fullShare _ (outV m) (o_read m b.1 b.2)]
  exact (Ring.pointsTo_blocks _ oB_disj (Finset.eq_univ_iff_forall.mpr fun i => by
    obtain ⟨b, hb⟩ := oB_cover i; exact Finset.mem_biUnion.mpr ⟨b, Finset.mem_univ _, hb⟩) _).symm

/-! ## The reduced rows, lent to three sends -/

theorem rd_share {sp : Space} {s : Shape} {e : EltTy} (V : View sig .tc sp s e) (w : s.Idx → Elt F e) :
    (rd c V fullShare w : sProp 𝕄) ⊢ iprop(rd c V (sh 0) w ∗ rd c V (sh 1) w ∗ rd c V (sh 2) w) := by
  unfold rd
  iintro ⟨%f, %hf, H⟩
  ihave H := ((pointsTo_share (PosShare.mem_left_op_right fullShare)).1) $$ H
  icases H with ⟨H0, H⟩
  ihave H := ((pointsTo_share (PosShare.mem_left_op_right fullShare.right)).1) $$ H
  icases H with ⟨H1, H2⟩
  isplitl [H0]; · (iexists f; isplitr; · (ipureintro; exact hf)
                   iexact H0)
  isplitl [H1]; · (iexists f; isplitr; · (ipureintro; exact hf)
                   iexact H1)
  iexists f; isplitr; · (ipureintro; exact hf)
  iexact H2
theorem rd_unshare {sp : Space} {s : Shape} {e : EltTy} (V : View sig .tc sp s e) (w : s.Idx → Elt F e) :
    iprop(rd c V (sh 0) w ∗ rd c V (sh 1) w ∗ rd c V (sh 2) w) ⊢ (hv c V : sProp 𝕄) := by
  iintro ⟨H0, H1, H2⟩
  ihave H0 := (rd_ex c V (sh 0) w) $$ H0
  icases H0 with ⟨%f, %hf, H0⟩
  unfold hv
  ihave H1 := (Entails.of_eq (rd_pts c V (sh 1) w f hf)) $$ H1
  ihave H2 := (Entails.of_eq (rd_pts c V (sh 2) w f hf)) $$ H2
  iexists f
  iapply ((pointsTo_share (PosShare.mem_left_op_right fullShare)).2)
  isplitl [H0]; · iexact H0
  iapply ((pointsTo_share (PosShare.mem_left_op_right fullShare.right)).2)
  isplitl [H1]; · iexact H1
  iexact H2

end Cert.Pf
-- ==== Proof.BodyA.lean ====
/-
The first half of the body: the local copies started, the handshake, the heads, and the partial product.
-/
module

public import proofs.«01_k».proof.Proof.Whole

@[expose] public section

noncomputable section

namespace Cert.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CI → ℕ) (c : Dev nD)

theorem ret {α : Type} (v : α) (Q : α → sProp 𝕄) : Q v ⊢ wpc c (Prog.ret v) Q := by
  show _ ⊢ wp _ _ _ _ _
  rw [wp_ret]; iintro H; imodintro; iexact H

/-- The dues left after the first `n`. -/
abbrev D (n : ℕ) : List Due := dues.drop n

/-! ## The payloads are the heads' values -/

section Payloads
variable (q : FVec F S256x1024 .f32) (k v : FVec F S4096x128 .f32)

abbrev upH (k : Vec F S4096x128 .f32) : Vec F S1x4096x128 .f32 := up (s := S1x4096x128) (by decide) k

theorem head0 (x : Vec F S1x256x1024 .f32) (w : Vec F S1024x1024 .f32) : k0_pay5 (k0_pay3 x w (upH k)) (k0_pay4 x w (upH k)) (upH v) = oF (pF 0 (k0_pay1 x w) k) v := by
  simp only [k0_pay5, k0_pay3, k0_pay4, k0_pay2, oF, pF, upH, shapeCast_up, shapeCast_self]
  rfl
theorem head1 : k0_pay9 (k0_pay7 q (upH k)) (k0_pay8 q (upH k)) (upH v) = oF (pF 1 q k) v := by
  simp only [k0_pay9, k0_pay7, k0_pay8, k0_pay6, oF, pF, upH, shapeCast_up, shapeCast_self]
  rfl
theorem head2 : k0_pay12 (k0_pay10 q (upH k)) (k0_pay11 q (upH k)) (upH v) = oF (pF 2 q k) v := by
  simp only [k0_pay12, k0_pay10, k0_pay11, oF, pF, upH, shapeCast_up, shapeCast_self]
  rfl
theorem head3 : k0_pay15 (k0_pay13 q (upH k)) (k0_pay14 q (upH k)) (upH v) = oF (pF 3 q k) v := by
  simp only [k0_pay15, k0_pay13, k0_pay14, oF, pF, upH, shapeCast_up, shapeCast_self]
  rfl
theorem head4 : k0_pay17 (k0_pay16 q (upH k)) (upH v) = oF (pF 4 q k) v := by
  simp only [k0_pay17, k0_pay16, oF, pF, upH, shapeCast_up, shapeCast_self]
  rfl
theorem head5 : k0_pay19 (k0_pay18 q (upH k)) (upH v) = oF (pF 5 q k) v := by
  simp only [k0_pay19, k0_pay18, oF, pF, upH, shapeCast_up, shapeCast_self]
  rfl
theorem head6 : k0_pay21 (k0_pay20 q (upH k)) (upH v) = oF (pF 6 q k) v := by
  simp only [k0_pay21, k0_pay20, oF, pF, upH, shapeCast_up, shapeCast_self]
  rfl
theorem head7 : k0_pay24 (k0_pay22 q) (k0_pay23 (upH k)) (constant S256x4096 .f32 0x00000000#32) (upH v) = oF (pF 7 q k) v := by
  simp only [k0_pay24, k0_pay22, k0_pay23, oF, pF, upH, shapeCast_up, shapeCast_self]
  rfl

end Payloads

/-! ## The local copies -/

theorem part2 (v2 v28 v29 : BitVec 32) (v34 : BitVec 1) {Q : (Σ' (v36 : BitVec 32), BitVec 32) → sProp 𝕄} :
    iprop((lK m c 0 ∗ lV m c 0 ∗ lK m c 1) ∗ (∀ r, ((fK m c 0 ∗ fV m c 0 ∗ fK m c 1) -∗ Q r)))
      ⊢ wpc c (k0_part2 (F := F) xM (Memref.isWhole_whole _) wqM (Memref.isWhole_whole _) woM (Memref.isWhole_whole _) khM (Memref.isWhole_whole _) vhM (Memref.isWhole_whole _) oM (Memref.isWhole_whole _) kM (Memref.isWhole_whole _) vM (Memref.isWhole_whole _) atM (Memref.isWhole_whole _) paM (Memref.isWhole_whole _) rsM (Memref.isWhole_whole _) rdM (Memref.isWhole_whole _) cc0_scratch6 cc0_scratch7 cc0_scratch8 cc0_scratch9 cc0_scratch10 c v2 v28 v29 v34) Q := by
  rw [k0_part2_eq_skeleton]; unfold k0_part2_skel
  simp only [Prog.lift, Prog.bind_op, Prog.bind_ret, Prog.pure_eq_ret, wp_ret]
  iintro ⟨⟨HK0, HV0, HK1⟩, Hk⟩
  iapply (step_startK m c 0 rfl rfl rfl) $$ HK0; iintro HK0
  iapply (step_startV m c 0 rfl rfl rfl) $$ HV0; iintro HV0
  iapply (step_startK m c 1 rfl rfl rfl) $$ HK1; iintro HK1
  iapply (ret c)
  iapply Hk
  isplitl [HK0]; · iexact HK0
  isplitl [HV0]; · iexact HV0
  iexact HK1

theorem part3 (v37 : BitVec 32) {Q : PUnit → sProp 𝕄} :
    iprop((lV m c 1 ∗ lK m c 2 ∗ lV m c 2) ∗ (((fV m c 1 ∗ fK m c 2 ∗ fV m c 2) -∗ Q ⟨⟩)))
      ⊢ wpc c (k0_part3 (F := F) xM (Memref.isWhole_whole _) wqM (Memref.isWhole_whole _) woM (Memref.isWhole_whole _) khM (Memref.isWhole_whole _) vhM (Memref.isWhole_whole _) oM (Memref.isWhole_whole _) kM (Memref.isWhole_whole _) vM (Memref.isWhole_whole _) atM (Memref.isWhole_whole _) paM (Memref.isWhole_whole _) rsM (Memref.isWhole_whole _) rdM (Memref.isWhole_whole _) cc0_scratch6 cc0_scratch7 cc0_scratch8 cc0_scratch9 cc0_scratch10 c v37) Q := by
  rw [k0_part3_eq_skeleton]; unfold k0_part3_skel
  simp only [Prog.lift, Prog.bind_op, Prog.bind_ret, Prog.pure_eq_ret, wp_ret]
  iintro ⟨⟨HV1, HK2, HV2⟩, Hk⟩
  iapply (step_startV m c 1 rfl rfl rfl) $$ HV1; iintro HV1
  iapply (step_startK m c 2 rfl rfl rfl) $$ HK2; iintro HK2
  iapply (step_startV m c 2 rfl rfl rfl) $$ HV2; iintro HV2
  iapply (ret c)
  iapply Hk
  isplitl [HV1]; · iexact HV1
  isplitl [HK2]; · iexact HK2
  iexact HV2

theorem part4 (v37 : BitVec 32) {Q : PUnit → sProp 𝕄} :
    iprop((lK m c 3 ∗ lV m c 3 ∗ lK m c 4 ∗ lV m c 4) ∗ (((fK m c 3 ∗ fV m c 3 ∗ fK m c 4 ∗ fV m c 4) -∗ Q ⟨⟩)))
      ⊢ wpc c (k0_part4 (F := F) xM (Memref.isWhole_whole _) wqM (Memref.isWhole_whole _) woM (Memref.isWhole_whole _) khM (Memref.isWhole_whole _) vhM (Memref.isWhole_whole _) oM (Memref.isWhole_whole _) kM (Memref.isWhole_whole _) vM (Memref.isWhole_whole _) atM (Memref.isWhole_whole _) paM (Memref.isWhole_whole _) rsM (Memref.isWhole_whole _) rdM (Memref.isWhole_whole _) cc0_scratch6 cc0_scratch7 cc0_scratch8 cc0_scratch9 cc0_scratch10 c v37) Q := by
  rw [k0_part4_eq_skeleton]; unfold k0_part4_skel
  simp only [Prog.lift, Prog.bind_op, Prog.bind_ret, Prog.pure_eq_ret, wp_ret]
  iintro ⟨⟨HK3, HV3, HK4, HV4⟩, Hk⟩
  iapply (step_startK m c 3 rfl rfl rfl) $$ HK3; iintro HK3
  iapply (step_startV m c 3 rfl rfl rfl) $$ HV3; iintro HV3
  iapply (step_startK m c 4 rfl rfl rfl) $$ HK4; iintro HK4
  iapply (step_startV m c 4 rfl rfl rfl) $$ HV4; iintro HV4
  iapply (ret c)
  iapply Hk
  isplitl [HK3]; · iexact HK3
  isplitl [HV3]; · iexact HV3
  isplitl [HK4]; · iexact HK4
  iexact HV4

theorem part5 (v37 : BitVec 32) {Q : PUnit → sProp 𝕄} :
    iprop((lK m c 5 ∗ lV m c 5 ∗ lK m c 6) ∗ (((fK m c 5 ∗ fV m c 5 ∗ fK m c 6) -∗ Q ⟨⟩)))
      ⊢ wpc c (k0_part5 (F := F) xM (Memref.isWhole_whole _) wqM (Memref.isWhole_whole _) woM (Memref.isWhole_whole _) khM (Memref.isWhole_whole _) vhM (Memref.isWhole_whole _) oM (Memref.isWhole_whole _) kM (Memref.isWhole_whole _) vM (Memref.isWhole_whole _) atM (Memref.isWhole_whole _) paM (Memref.isWhole_whole _) rsM (Memref.isWhole_whole _) rdM (Memref.isWhole_whole _) cc0_scratch6 cc0_scratch7 cc0_scratch8 cc0_scratch9 cc0_scratch10 c v37) Q := by
  rw [k0_part5_eq_skeleton]; unfold k0_part5_skel
  simp only [Prog.lift, Prog.bind_op, Prog.bind_ret, Prog.pure_eq_ret, wp_ret]
  iintro ⟨⟨HK5, HV5, HK6⟩, Hk⟩
  iapply (step_startK m c 5 rfl rfl rfl) $$ HK5; iintro HK5
  iapply (step_startV m c 5 rfl rfl rfl) $$ HV5; iintro HV5
  iapply (step_startK m c 6 rfl rfl rfl) $$ HK6; iintro HK6
  iapply (ret c)
  iapply Hk
  isplitl [HK5]; · iexact HK5
  isplitl [HV5]; · iexact HV5
  iexact HK6

/-- What a signal hands over, and the right to signal. -/
def sg (s : Fin 3) : sProp 𝕄 :=
  iprop((hv c (rsB (rv s).succ 0).view ∗ hv c (rsB (rv s).succ 1).view ∗ hv c (oB (tg c s) 0).view ∗ hv c (oB (tg c s) 1).view) ∗ dutyTok ER (barC (tg c s)) 0 (rv s))
/-- What the barrier wait uses. -/
def bw : sProp 𝕄 := iprop(cred (tallyAt (barC c) () 3) ∗ atPos ER (barC c) 0 ∅ 0)

theorem part6 (v14 v25 v36 v37 : BitVec 32) {Q : PUnit → sProp 𝕄} :
    iprop((recs m K ∗ (lV m c 6 ∗ lK m c 7 ∗ lV m c 7) ∗ (sg c 0 ∗ sg c 1 ∗ sg c 2) ∗ bw c ∗ ow c (D 0))
        ∗ (((fV m c 6 ∗ fK m c 7 ∗ fV m c 7) ∗ ow c (D 3) ∗ semVal (barC c) 0 ∗ barPay c 0 ∗ barPay c 1 ∗ barPay c 2) -∗ Q ⟨⟩))
      ⊢ wpc c (k0_part6 (F := F) xM (Memref.isWhole_whole _) wqM (Memref.isWhole_whole _) woM (Memref.isWhole_whole _) khM (Memref.isWhole_whole _) vhM (Memref.isWhole_whole _) oM (Memref.isWhole_whole _) kM (Memref.isWhole_whole _) vM (Memref.isWhole_whole _) atM (Memref.isWhole_whole _) paM (Memref.isWhole_whole _) rsM (Memref.isWhole_whole _) rdM (Memref.isWhole_whole _) cc0_scratch6 cc0_scratch7 cc0_scratch8 cc0_scratch9 cc0_scratch10 c v14 v25 v36 v37) Q := by
  rw [k0_part6_eq_skeleton]; unfold k0_part6_skel
  simp only [semSignalWord, semWaitWord, Prog.lift, Prog.bind_op, Prog.bind_ret, Prog.pure_eq_ret, wp_ret]
  unfold sg bw
  iintro ⟨⟨#HR, ⟨HV6, HK7, HV7⟩, ⟨⟨Hp0, Ht0⟩, ⟨Hp1, Ht1⟩, Hp2, Ht2⟩, ⟨Hc, Ha⟩, HO⟩, Hk⟩
  iapply (step_startV m c 6 rfl rfl rfl) $$ HV6; iintro HV6
  iapply (step_startK m c 7 rfl rfl rfl) $$ HK7; iintro HK7
  iapply (step_startV m c 7 rfl rfl rfl) $$ HV7; iintro HV7
  iapply (step_signal m K c 0 (dev1_eq c) rfl rfl (D 1)) $$ [Hp0 Ht0 HO]
  · isplitr; · iexact HR
    isplitl [Hp0]; · iexact Hp0
    isplitl [Ht0]; · iexact Ht0
    iexact HO
  iintro HO
  iapply (step_signal m K c 1 (dev2_eq c) rfl rfl (D 2)) $$ [Hp1 Ht1 HO]
  · isplitr; · iexact HR
    isplitl [Hp1]; · iexact Hp1
    isplitl [Ht1]; · iexact Ht1
    iexact HO
  iintro HO
  iapply (step_signal m K c 2 (dev3_eq c) rfl rfl (D 3)) $$ [Hp2 Ht2 HO]
  · isplitr; · iexact HR
    isplitl [Hp2]; · iexact Hp2
    isplitl [Ht2]; · iexact Ht2
    iexact HO
  iintro HO
  iapply (step_barwait m K c rfl rfl (D 3) (by decide)) $$ [Hc HO Ha]
  · isplitr; · iexact HR
    isplitl [Hc]; · iexact Hc
    isplitl [HO] <;> iassumption
  iintro ⟨HO, Hb⟩
  iapply (ret c)
  iapply Hk
  isplitl [HV6 HK7 HV7]
  · isplitl [HV6]; · iexact HV6
    isplitl [HK7] <;> iassumption
  isplitl [HO] <;> iassumption

/-! ## The heads -/

theorem wX_eq (b : Ref sig .tc) {off : Fin b.ty.shape.rank → ℕ} (h : off = fun _ => 0) (inb : ∀ a, off a + b.ty.shape.size a ≤ b.ty.shape.size a)
    (X : b.ty.Contents (Elt F)) :
    ((c : Thread nD τ).loc b ↦{fullShare} X : sProp 𝕄) = rd c ((Memref.whole b).access (Rect.unit off b.ty.shape.size inb)) fullShare X :=
  (rd_whole c b h inb fullShare X).symm

/-- The staged operands. -/
def wX : sProp 𝕄 := rd c (xM.access (Rect.unit (s := S1x256x1024) ![0, 0, 0] S1x256x1024.size inb_S1x256x1024_S1x256x1024_0_0_0)) fullShare (xV m c)
def wWq : sProp 𝕄 := rd c (wqM.access (Rect.unit (s := S1024x1024) ![0, 0] S1024x1024.size inb_S1024x1024_S1024x1024_0_0)) fullShare (wqV m c)
def wWo : sProp 𝕄 := rd c (woM.access (Rect.unit (s := S1024x1024) ![0, 0] S1024x1024.size inb_S1024x1024_S1024x1024_0_0)) fullShare (woV m c)

theorem part7 {Q : (Σ' (v165 : FVec F S256x1024 .f32) (v186 : FVec F S256x1 .f32), FVec F S256x4096 .bf16) → sProp 𝕄} :
    iprop((recs m K ∗ (wX m c ∗ wWq m c) ∗ (fK m c 0 ∗ fV m c 0) ∗ ow c (D 3))
        ∗ (((wX m c ∗ wWq m c) ∗ (zK c 0 ∗ dV m c 0) ∗ ow c (D 3)) -∗ Q ⟨qV m c, k0_pay3 (xV m c) (wqV m c) (upH (kV m c 0)), k0_pay4 (xV m c) (wqV m c) (upH (kV m c 0))⟩))
      ⊢ wpc c (k0_part7 (F := F) xM (Memref.isWhole_whole _) wqM (Memref.isWhole_whole _) woM (Memref.isWhole_whole _) khM (Memref.isWhole_whole _) vhM (Memref.isWhole_whole _) oM (Memref.isWhole_whole _) kM (Memref.isWhole_whole _) vM (Memref.isWhole_whole _) atM (Memref.isWhole_whole _) paM (Memref.isWhole_whole _) rsM (Memref.isWhole_whole _) rdM (Memref.isWhole_whole _) cc0_scratch6 cc0_scratch7 cc0_scratch8 cc0_scratch9 cc0_scratch10 c) Q := by
  rw [k0_part7_eq_skeleton]; unfold k0_part7_skel
  simp only [Prog.lift, Prog.bind_op, Prog.bind_ret, Prog.pure_eq_ret, wp_ret]
  unfold wX wWq qV
  iintro ⟨⟨#HR, ⟨HX, HW⟩, ⟨HfK, HfV⟩, HO⟩, Hk⟩
  iapply (step_load (s := S1x256x1024) c ![0, 0, 0] rfl inb_S1x256x1024_S1x256x1024_0_0_0) $$ HX; iintro HX
  iapply (step_load (s := S1024x1024) c ![0, 0] rfl inb_S1024x1024_S1024x1024_0_0) $$ HW; iintro HW
  iapply (step_next (h := 0) m c K rfl rfl rfl rfl rfl (D 3) (by decide)) $$ [HfK HfV HO]
  · isplitr; · iexact HR
    isplitl [HfK]; · iexact HfK
    isplitl [HfV] <;> iassumption
  iintro ⟨HzK, HdV, HO⟩
  iapply (ret c)
  iapply Hk
  isplitl [HX HW]; · (isplitl [HX] <;> iassumption)
  isplitl [HzK HdV]; · (isplitl [HzK] <;> iassumption)
  iexact HO

theorem part8 {Q : (Σ' (v217 : FVec F S256x1 .f32), FVec F S256x4096 .bf16) → sProp 𝕄} :
    iprop((recs m K ∗ (dV m c 0 ∗ aU c 0) ∗ (fK m c 1 ∗ fV m c 1) ∗ ow c (D 3))
        ∗ (((zV c 0 ∗ aD m c 0) ∗ (zK c 1 ∗ dV m c 1) ∗ ow c (D 3)) -∗ Q ⟨(k0_pay7 (qV m c) (upH (kV m c 1))), (k0_pay8 (qV m c) (upH (kV m c 1)))⟩))
      ⊢ wpc c (k0_part8 (F := F) xM (Memref.isWhole_whole _) wqM (Memref.isWhole_whole _) woM (Memref.isWhole_whole _) khM (Memref.isWhole_whole _) vhM (Memref.isWhole_whole _) oM (Memref.isWhole_whole _) kM (Memref.isWhole_whole _) vM (Memref.isWhole_whole _) atM (Memref.isWhole_whole _) paM (Memref.isWhole_whole _) rsM (Memref.isWhole_whole _) rdM (Memref.isWhole_whole _) cc0_scratch6 cc0_scratch7 cc0_scratch8 cc0_scratch9 cc0_scratch10 c (qV m c) (k0_pay3 (xV m c) (wqV m c) (upH (kV m c 0))) (k0_pay4 (xV m c) (wqV m c) (upH (kV m c 0)))) Q := by
  rw [k0_part8_eq_skeleton]; unfold k0_part8_skel
  simp only [Prog.lift, Prog.bind_op, Prog.bind_ret, Prog.pure_eq_ret, wp_ret]
  iintro ⟨⟨#HR, Hd, ⟨HfK, HfV⟩, HO⟩, Hk⟩
  iapply (step_out (h := 0) m c rfl rfl (head0 (kV m c 0) (vV m c 0) (xV m c) (wqV m c))) $$ Hd; iintro Hd
  iapply (step_next (h := 1) m c K rfl rfl rfl rfl rfl (D 3) (by decide)) $$ [HfK HfV HO]
  · isplitr; · iexact HR
    isplitl [HfK]; · iexact HfK
    isplitl [HfV] <;> iassumption
  iintro ⟨HzK, HdV, HO⟩
  iapply (ret c)
  iapply Hk
  isplitl [Hd]; · iexact Hd
  isplitl [HzK HdV]; · (isplitl [HzK] <;> iassumption)
  iexact HO

theorem part9 {Q : (Σ' (v246 : FVec F S256x4096 .f32), FVec F S256x1 .f32) → sProp 𝕄} :
    iprop((recs m K ∗ (dV m c 1 ∗ aU c 1) ∗ (fK m c 2 ∗ fV m c 2) ∗ ow c (D 3))
        ∗ (((zV c 1 ∗ aD m c 1) ∗ (zK c 2 ∗ dV m c 2) ∗ ow c (D 3)) -∗ Q ⟨(k0_pay10 (qV m c) (upH (kV m c 2))), (k0_pay11 (qV m c) (upH (kV m c 2)))⟩))
      ⊢ wpc c (k0_part9 (F := F) xM (Memref.isWhole_whole _) wqM (Memref.isWhole_whole _) woM (Memref.isWhole_whole _) khM (Memref.isWhole_whole _) vhM (Memref.isWhole_whole _) oM (Memref.isWhole_whole _) kM (Memref.isWhole_whole _) vM (Memref.isWhole_whole _) atM (Memref.isWhole_whole _) paM (Memref.isWhole_whole _) rsM (Memref.isWhole_whole _) rdM (Memref.isWhole_whole _) cc0_scratch6 cc0_scratch7 cc0_scratch8 cc0_scratch9 cc0_scratch10 c (qV m c) (k0_pay7 (qV m c) (upH (kV m c 1))) (k0_pay8 (qV m c) (upH (kV m c 1)))) Q := by
  rw [k0_part9_eq_skeleton]; unfold k0_part9_skel
  simp only [Prog.lift, Prog.bind_op, Prog.bind_ret, Prog.pure_eq_ret, wp_ret]
  iintro ⟨⟨#HR, Hd, ⟨HfK, HfV⟩, HO⟩, Hk⟩
  iapply (step_out (h := 1) m c rfl rfl (head1 (qV m c) (kV m c 1) (vV m c 1))) $$ Hd; iintro Hd
  iapply (step_next (h := 2) m c K rfl rfl rfl rfl rfl (D 3) (by decide)) $$ [HfK HfV HO]
  · isplitr; · iexact HR
    isplitl [HfK]; · iexact HfK
    isplitl [HfV] <;> iassumption
  iintro ⟨HzK, HdV, HO⟩
  iapply (ret c)
  iapply Hk
  isplitl [Hd]; · iexact Hd
  isplitl [HzK HdV]; · (isplitl [HzK] <;> iassumption)
  iexact HO

theorem part10 {Q : (Σ' (v277 : FVec F S256x4096 .f32), FVec F S256 .f32) → sProp 𝕄} :
    iprop((recs m K ∗ (dV m c 2 ∗ aU c 2) ∗ (fK m c 3 ∗ fV m c 3) ∗ ow c (D 3))
        ∗ (((zV c 2 ∗ aD m c 2) ∗ (zK c 3 ∗ dV m c 3) ∗ ow c (D 3)) -∗ Q ⟨(k0_pay13 (qV m c) (upH (kV m c 3))), (k0_pay14 (qV m c) (upH (kV m c 3)))⟩))
      ⊢ wpc c (k0_part10 (F := F) xM (Memref.isWhole_whole _) wqM (Memref.isWhole_whole _) woM (Memref.isWhole_whole _) khM (Memref.isWhole_whole _) vhM (Memref.isWhole_whole _) oM (Memref.isWhole_whole _) kM (Memref.isWhole_whole _) vM (Memref.isWhole_whole _) atM (Memref.isWhole_whole _) paM (Memref.isWhole_whole _) rsM (Memref.isWhole_whole _) rdM (Memref.isWhole_whole _) cc0_scratch6 cc0_scratch7 cc0_scratch8 cc0_scratch9 cc0_scratch10 c (qV m c) (k0_pay10 (qV m c) (upH (kV m c 2))) (k0_pay11 (qV m c) (upH (kV m c 2)))) Q := by
  rw [k0_part10_eq_skeleton]; unfold k0_part10_skel
  simp only [Prog.lift, Prog.bind_op, Prog.bind_ret, Prog.pure_eq_ret, wp_ret]
  iintro ⟨⟨#HR, Hd, ⟨HfK, HfV⟩, HO⟩, Hk⟩
  iapply (step_out (h := 2) m c rfl rfl (head2 (qV m c) (kV m c 2) (vV m c 2))) $$ Hd; iintro Hd
  iapply (step_next (h := 3) m c K rfl rfl rfl rfl rfl (D 3) (by decide)) $$ [HfK HfV HO]
  · isplitr; · iexact HR
    isplitl [HfK]; · iexact HfK
    isplitl [HfV] <;> iassumption
  iintro ⟨HzK, HdV, HO⟩
  iapply (ret c)
  iapply Hk
  isplitl [Hd]; · iexact Hd
  isplitl [HzK HdV]; · (isplitl [HzK] <;> iassumption)
  iexact HO

theorem part11 {Q : (FVec F S256x4096 .f32) → sProp 𝕄} :
    iprop((recs m K ∗ (dV m c 3 ∗ aU c 3) ∗ (fK m c 4 ∗ fV m c 4) ∗ ow c (D 3))
        ∗ (((zV c 3 ∗ aD m c 3) ∗ (zK c 4 ∗ dV m c 4) ∗ ow c (D 3)) -∗ Q (k0_pay16 (qV m c) (upH (kV m c 4)))))
      ⊢ wpc c (k0_part11 (F := F) xM (Memref.isWhole_whole _) wqM (Memref.isWhole_whole _) woM (Memref.isWhole_whole _) khM (Memref.isWhole_whole _) vhM (Memref.isWhole_whole _) oM (Memref.isWhole_whole _) kM (Memref.isWhole_whole _) vM (Memref.isWhole_whole _) atM (Memref.isWhole_whole _) paM (Memref.isWhole_whole _) rsM (Memref.isWhole_whole _) rdM (Memref.isWhole_whole _) cc0_scratch6 cc0_scratch7 cc0_scratch8 cc0_scratch9 cc0_scratch10 c (qV m c) (k0_pay13 (qV m c) (upH (kV m c 3))) (k0_pay14 (qV m c) (upH (kV m c 3)))) Q := by
  rw [k0_part11_eq_skeleton]; unfold k0_part11_skel
  simp only [Prog.lift, Prog.bind_op, Prog.bind_ret, Prog.pure_eq_ret, wp_ret]
  iintro ⟨⟨#HR, Hd, ⟨HfK, HfV⟩, HO⟩, Hk⟩
  iapply (step_out (h := 3) m c rfl rfl (head3 (qV m c) (kV m c 3) (vV m c 3))) $$ Hd; iintro Hd
  iapply (step_next (h := 4) m c K rfl rfl rfl rfl rfl (D 3) (by decide)) $$ [HfK HfV HO]
  · isplitr; · iexact HR
    isplitl [HfK]; · iexact HfK
    isplitl [HfV] <;> iassumption
  iintro ⟨HzK, HdV, HO⟩
  iapply (ret c)
  iapply Hk
  isplitl [Hd]; · iexact Hd
  isplitl [HzK HdV]; · (isplitl [HzK] <;> iassumption)
  iexact HO

theorem part12 {Q : (FVec F S256x4096 .f32) → sProp 𝕄} :
    iprop((recs m K ∗ (dV m c 4 ∗ aU c 4) ∗ (fK m c 5 ∗ fV m c 5) ∗ ow c (D 3))
        ∗ (((zV c 4 ∗ aD m c 4) ∗ (zK c 5 ∗ dV m c 5) ∗ ow c (D 3)) -∗ Q (k0_pay18 (qV m c) (upH (kV m c 5)))))
      ⊢ wpc c (k0_part12 (F := F) xM (Memref.isWhole_whole _) wqM (Memref.isWhole_whole _) woM (Memref.isWhole_whole _) khM (Memref.isWhole_whole _) vhM (Memref.isWhole_whole _) oM (Memref.isWhole_whole _) kM (Memref.isWhole_whole _) vM (Memref.isWhole_whole _) atM (Memref.isWhole_whole _) paM (Memref.isWhole_whole _) rsM (Memref.isWhole_whole _) rdM (Memref.isWhole_whole _) cc0_scratch6 cc0_scratch7 cc0_scratch8 cc0_scratch9 cc0_scratch10 c (qV m c) (k0_pay16 (qV m c) (upH (kV m c 4)))) Q := by
  rw [k0_part12_eq_skeleton]; unfold k0_part12_skel
  simp only [Prog.lift, Prog.bind_op, Prog.bind_ret, Prog.pure_eq_ret, wp_ret]
  iintro ⟨⟨#HR, Hd, ⟨HfK, HfV⟩, HO⟩, Hk⟩
  iapply (step_out (h := 4) m c rfl rfl (head4 (qV m c) (kV m c 4) (vV m c 4))) $$ Hd; iintro Hd
  iapply (step_next (h := 5) m c K rfl rfl rfl rfl rfl (D 3) (by decide)) $$ [HfK HfV HO]
  · isplitr; · iexact HR
    isplitl [HfK]; · iexact HfK
    isplitl [HfV] <;> iassumption
  iintro ⟨HzK, HdV, HO⟩
  iapply (ret c)
  iapply Hk
  isplitl [Hd]; · iexact Hd
  isplitl [HzK HdV]; · (isplitl [HzK] <;> iassumption)
  iexact HO

theorem part13 {Q : (FVec F S256x4096 .f32) → sProp 𝕄} :
    iprop((recs m K ∗ (dV m c 5 ∗ aU c 5) ∗ (fK m c 6 ∗ fV m c 6) ∗ ow c (D 3))
        ∗ (((zV c 5 ∗ aD m c 5) ∗ (zK c 6 ∗ dV m c 6) ∗ ow c (D 3)) -∗ Q (k0_pay20 (qV m c) (upH (kV m c 6)))))
      ⊢ wpc c (k0_part13 (F := F) xM (Memref.isWhole_whole _) wqM (Memref.isWhole_whole _) woM (Memref.isWhole_whole _) khM (Memref.isWhole_whole _) vhM (Memref.isWhole_whole _) oM (Memref.isWhole_whole _) kM (Memref.isWhole_whole _) vM (Memref.isWhole_whole _) atM (Memref.isWhole_whole _) paM (Memref.isWhole_whole _) rsM (Memref.isWhole_whole _) rdM (Memref.isWhole_whole _) cc0_scratch6 cc0_scratch7 cc0_scratch8 cc0_scratch9 cc0_scratch10 c (qV m c) (k0_pay18 (qV m c) (upH (kV m c 5)))) Q := by
  rw [k0_part13_eq_skeleton]; unfold k0_part13_skel
  simp only [Prog.lift, Prog.bind_op, Prog.bind_ret, Prog.pure_eq_ret, wp_ret]
  iintro ⟨⟨#HR, Hd, ⟨HfK, HfV⟩, HO⟩, Hk⟩
  iapply (step_out (h := 5) m c rfl rfl (head5 (qV m c) (kV m c 5) (vV m c 5))) $$ Hd; iintro Hd
  iapply (step_next (h := 6) m c K rfl rfl rfl rfl rfl (D 3) (by decide)) $$ [HfK HfV HO]
  · isplitr; · iexact HR
    isplitl [HfK]; · iexact HfK
    isplitl [HfV] <;> iassumption
  iintro ⟨HzK, HdV, HO⟩
  iapply (ret c)
  iapply Hk
  isplitl [Hd]; · iexact Hd
  isplitl [HzK HdV]; · (isplitl [HzK] <;> iassumption)
  iexact HO

theorem part14 {Q : (Σ' (v396 : FVec F S256x128 .bf16) (v399 : FVec F S4096x128 .bf16), FVec F S256x4096 .f32) → sProp 𝕄} :
    iprop((recs m K ∗ (dV m c 6 ∗ aU c 6) ∗ (fK m c 7 ∗ fV m c 7) ∗ ow c (D 3))
        ∗ (((zV c 6 ∗ aD m c 6) ∗ (zK c 7 ∗ dV m c 7) ∗ ow c (D 3)) -∗ Q ⟨(k0_pay22 (qV m c)), (k0_pay23 (upH (kV m c 7))), (constant S256x4096 .f32 0x00000000#32)⟩))
      ⊢ wpc c (k0_part14 (F := F) xM (Memref.isWhole_whole _) wqM (Memref.isWhole_whole _) woM (Memref.isWhole_whole _) khM (Memref.isWhole_whole _) vhM (Memref.isWhole_whole _) oM (Memref.isWhole_whole _) kM (Memref.isWhole_whole _) vM (Memref.isWhole_whole _) atM (Memref.isWhole_whole _) paM (Memref.isWhole_whole _) rsM (Memref.isWhole_whole _) rdM (Memref.isWhole_whole _) cc0_scratch6 cc0_scratch7 cc0_scratch8 cc0_scratch9 cc0_scratch10 c (qV m c) (k0_pay20 (qV m c) (upH (kV m c 6)))) Q := by
  rw [k0_part14_eq_skeleton]; unfold k0_part14_skel
  simp only [Prog.lift, Prog.bind_op, Prog.bind_ret, Prog.pure_eq_ret, wp_ret]
  iintro ⟨⟨#HR, Hd, ⟨HfK, HfV⟩, HO⟩, Hk⟩
  iapply (step_out (h := 6) m c rfl rfl (head6 (qV m c) (kV m c 6) (vV m c 6))) $$ Hd; iintro Hd
  iapply (step_next (h := 7) m c K rfl rfl rfl rfl rfl (D 3) (by decide)) $$ [HfK HfV HO]
  · isplitr; · iexact HR
    isplitl [HfK]; · iexact HfK
    isplitl [HfV] <;> iassumption
  iintro ⟨HzK, HdV, HO⟩
  iapply (ret c)
  iapply Hk
  isplitl [Hd]; · iexact Hd
  isplitl [HzK HdV]; · (isplitl [HzK] <;> iassumption)
  iexact HO

/-- The partial product from the eight heads' columns. -/
theorem part15 (v14 v25 v36 : BitVec 32) {Q : BitVec 32 → sProp 𝕄} :
    iprop(((dV m c 7 ∗ aU c 7) ∗ (aD m c 0 ∗ aD m c 1 ∗ aD m c 2 ∗ aD m c 3 ∗ aD m c 4 ∗ aD m c 5 ∗ aD m c 6) ∗ wWo m c ∗ (∃ f, (c : Thread nD τ).loc cc0_scratch3 ↦{fullShare} f))
        ∗ (∀ r, (zV c 7 ∗ ((c : Thread nD τ).loc cc0_scratch2 ↦{fullShare} attnV m c) ∗ wWo m c ∗ ((c : Thread nD τ).loc cc0_scratch3 ↦{fullShare} partV m c)) -∗ Q r))
      ⊢ wpc c (k0_part15 (F := F) xM (Memref.isWhole_whole _) wqM (Memref.isWhole_whole _) woM (Memref.isWhole_whole _) khM (Memref.isWhole_whole _) vhM (Memref.isWhole_whole _) oM (Memref.isWhole_whole _) kM (Memref.isWhole_whole _) vM (Memref.isWhole_whole _) atM (Memref.isWhole_whole _) paM (Memref.isWhole_whole _) rsM (Memref.isWhole_whole _) rdM (Memref.isWhole_whole _) cc0_scratch6 cc0_scratch7 cc0_scratch8 cc0_scratch9 cc0_scratch10 v14 v25 v36 (k0_pay22 (qV m c)) (k0_pay23 (upH (kV m c 7))) (constant S256x4096 .f32 0x00000000#32)) Q := by
  rw [k0_part15_eq_skeleton]; unfold k0_part15_skel
  simp only [Prog.lift, Prog.bind_op, Prog.bind_ret, Prog.pure_eq_ret, wp_ret]
  unfold wWo
  iintro ⟨⟨Hd, ⟨H0, H1, H2, H3, H4, H5, H6⟩, HW, Hp⟩, Hk⟩
  iapply (step_out (h := 7) m c rfl rfl (head7 (qV m c) (kV m c 7) (vV m c 7))) $$ Hd; iintro ⟨Hz, H7⟩
  ihave HA := (Entails.of_eq ((bigSep8 (fun h => (aD m c h : sProp 𝕄))).symm.trans (at_join m c))) $$ [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6] <;> iassumption
  ihave HA := (Entails.of_eq (wX_eq c cc0_scratch2 (by decide) inb_S256x1024_S256x1024_0_0 (attnV m c))) $$ HA
  iapply (step_load (s := S256x1024) c ![0, 0] rfl inb_S256x1024_S256x1024_0_0) $$ HA; iintro HA
  iapply (step_load (s := S1024x1024) c ![0, 0] rfl inb_S1024x1024_S1024x1024_0_0) $$ HW; iintro HW
  ihave Hp := (Entails.of_eq (hv_whole c cc0_scratch3 (by decide) inb_S256x1024_S256x1024_0_0).symm) $$ Hp
  iapply (step_put (s := S256x1024) c ![0, 0] rfl inb_S256x1024_S256x1024_0_0 (partV m c) rfl) $$ Hp; iintro Hp
  ihave HA := (Entails.of_eq (wX_eq c cc0_scratch2 (by decide) inb_S256x1024_S256x1024_0_0 (attnV m c)).symm) $$ HA
  ihave Hp := (Entails.of_eq (wX_eq c cc0_scratch3 (by decide) inb_S256x1024_S256x1024_0_0 (partV m c)).symm) $$ Hp
  iapply (ret c)
  iapply Hk
  isplitl [Hz]; · iexact Hz
  isplitl [HA]; · iexact HA
  isplitl [HW]; · iexact HW
  iexact Hp

end Cert.Pf
-- ==== Proof.BodyB.lean ====
/-
The second half of the body: the two exchanges.
-/
module

public import proofs.«01_k».proof.Proof.BodyA

@[expose] public section

noncomputable section

namespace Cert.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- What the first exchange's send uses, -/
def rsI (s : Fin 3) (b : Fin 2) : sProp 𝕄 :=
  iprop(rd c (paB (tg c s) b).view fullShare (blk m c (tg c s) b) ∗ hv (tg c s) (rsB s.succ b).view ∗ sd c (0, s, b) (1, s, b))
/-- and the second's, the reduced rows apart. -/
def agI (s : Fin 3) (b : Fin 2) : sProp 𝕄 := iprop(hv (tg c s) (oB c b).view ∗ sd c (2, s, b) (3, s, b))
/-- What a wait leaves. -/
def got (x : XI) : sProp 𝕄 := iprop(zx c x ∗ xPay m c x)

theorem step_rsI (s : Fin 3) (b : Fin 2) {n : Dev nD} (hn : n = tg c s)
    {src dst : Memref sig .tc .vmem S32x1024 .f32} {sS sR : SemLoc sig}
    {hsc : dst.view.ref.isScScratch = false} {h1 : src.view.WordExact} {h2 : dst.view.WordExact}
    {h3 : DmaTarget.Typed (nD := nD) .vmem sR (.remote (p := (c : Thread nD τ).2) (Dev.tc n : Thread nD τ) dst sS hsc)}
    (hs : src = paB (tg c s) b) (hd : dst = rsB s.succ b) (hx : sS = .dma (xsem (0, s, b))) (hy : sR = .dma (xsem (1, s, b))) (l : List Due)
    {α : Type} {Q : α → sProp 𝕄} {k : PUnit → Prog (TpuEff nD τ sig (Elt F) Λ₀ .tc) α} :
    iprop(recs m K ∗ rsI m c s b ∗ ow c (.inr (1, s, b) :: l))
      ⊢ iprop((iprop(ex c (0, s, b) ∗ ow c l) -∗ wpc c (k ⟨⟩) Q)
          -∗ wpc c (.op (.enqueueDma src (.remote (Dev.tc n : Thread nD τ) dst sS hsc) sR h1 h2 h3) k) Q) := by
  unfold rsI
  iintro ⟨HR, ⟨Hs, Hd, Ht⟩, HO⟩
  iapply (step_rs m K c s b hn hs hd hx hy l)
  isplitl [HR]; · iexact HR
  isplitl [Hs]; · iexact Hs
  isplitl [Hd]; · iexact Hd
  isplitl [Ht] <;> iassumption

theorem step_agI (s : Fin 3) (b : Fin 2) {n : Dev nD} (hn : n = tg c s)
    {src dst : Memref sig .tc .vmem S32x1024 .f32} {sS sR : SemLoc sig}
    {hsc : dst.view.ref.isScScratch = false} {h1 : src.view.WordExact} {h2 : dst.view.WordExact}
    {h3 : DmaTarget.Typed (nD := nD) .vmem sR (.remote (p := (c : Thread nD τ).2) (Dev.tc n : Thread nD τ) dst sS hsc)}
    (hs : src = rdB b) (hd : dst = oB c b) (hx : sS = .dma (xsem (2, s, b))) (hy : sR = .dma (xsem (3, s, b))) (l : List Due)
    {α : Type} {Q : α → sProp 𝕄} {k : PUnit → Prog (TpuEff nD τ sig (Elt F) Λ₀ .tc) α} :
    iprop(recs m K ∗ rd c (rdB b).view (sh s) (redV m c b) ∗ agI c s b ∗ ow c (.inr (3, s, b) :: l))
      ⊢ iprop((iprop(ex c (2, s, b) ∗ ow c l) -∗ wpc c (k ⟨⟩) Q)
          -∗ wpc c (.op (.enqueueDma src (.remote (Dev.tc n : Thread nD τ) dst sS hsc) sR h1 h2 h3) k) Q) := by
  unfold agI
  iintro ⟨HR, Hs, ⟨Hd, Ht⟩, HO⟩
  iapply (step_ag m K c s b hn hs hd hx hy l)
  isplitl [HR]; · iexact HR
  isplitl [Hs]; · iexact Hs
  isplitl [Hd]; · iexact Hd
  isplitl [Ht] <;> iassumption

theorem crPa (off p h) : (paM.slice (Rect.unit (s := S256x1024) off S32x1024.size p) h).view.dmaCredit = N := rfl
theorem crRs (off p h h') : ((rsM.slice (Rect.unit (s := S4x2x32x1024) off S1x1x32x1024.size p) h).squeeze S32x1024 h').view.dmaCredit = N := rfl
theorem crRd (off p h) : (rdM.slice (Rect.unit (s := S64x1024) off S32x1024.size p) h).view.dmaCredit = N := rfl
theorem crO (off p h h') : ((oM.slice (Rect.unit (s := S1x256x1024) off S1x32x1024.size p) h).squeeze S32x1024 h').view.dmaCredit = N := rfl

theorem step_got (x : XI) {src dst : Memref sig .tc .vmem S32x1024 .f32}
    {sem : DmaSem sig} {h1 : src.view.WordExact} {h2 : dst.view.WordExact} (hsm : sem = xsem x) (hN : dst.view.dmaCredit = N)
    (l : List Due) (hl : ∀ d ∈ l, lvS (.dma (xsem x)) < dlv d)
    {α : Type} {Q : α → sProp 𝕄} {k : PUnit → Prog (TpuEff nD τ sig (Elt F) Λ₀ .tc) α} :
    iprop(recs m K ∗ ex c x ∗ ow c l)
      ⊢ iprop((iprop(got m c x ∗ ow c l) -∗ wpc c (k ⟨⟩) Q)
          -∗ wpc c (.op (.waitDma2 sem src dst h1 h2) k) Q) := by
  unfold got
  iintro HH Hk
  iapply (step_wait m K c x hsm hN l hl) $$ HH
  iintro ⟨HO, Hz, Hp⟩
  iapply Hk
  isplitr [HO]
  · isplitl [Hz] <;> iassumption
  iexact HO

/-! ## The reduction's payloads -/

abbrev upR (v : Vec F S32x1024 .f32) : Vec F S1x1x32x1024 .f32 := up (s := S1x1x32x1024) (by decide) v
abbrev upO (v : Vec F S32x1024 .f32) : Vec F S1x32x1024 .f32 := up (s := S1x32x1024) (by decide) v

theorem red26 (b : Fin 2) : k0_pay26 (blk m c c b) (upR (blk m (pl c 0) c b)) (upR (blk m (pl c 1) c b)) (upR (blk m (pl c 2) c b)) = redV m c b := by
  simp only [k0_pay26, upR, shapeCast_up]; rfl
theorem pay27_eq (v : FVec F S32x1024 .f32) : k0_pay27 v = v := by simp only [k0_pay27, shapeCast_self]
theorem up_eq (v : FVec F S32x1024 .f32) (h : S32x1024.ShapeCasts S1x32x1024) : shapeCast S1x32x1024 v h = upO v := by
  conv_lhs => rw [← shapeCast_up (s := S1x32x1024) (by decide) v (by decide)]
  exact shapeCast_shapeCast _ _ _
theorem pay28_eq (v : FVec F S32x1024 .f32) : k0_pay28 v = upO v := by simp only [k0_pay28]; exact up_eq v _
theorem red30 (b : Fin 2) : k0_pay30 (blk m c c b) (upR (blk m (pl c 0) c b)) (upR (blk m (pl c 1) c b)) (upR (blk m (pl c 2) c b)) = redV m c b := by
  simp only [k0_pay30, k0_pay29, upR, shapeCast_up, shapeCast_self]; rfl
theorem red31 (b : Fin 2) : k0_pay31 (blk m c c b) (upR (blk m (pl c 0) c b)) (upR (blk m (pl c 1) c b)) (upR (blk m (pl c 2) c b)) = upO (redV m c b) := by
  refine Eq.trans ?_ (up_eq (redV m c b) (by decide))
  simp only [k0_pay31, k0_pay29, upR, shapeCast_up]; rfl

/-- The landed blocks of a half, and the device's own. -/
def lnd (b : Fin 2) : sProp 𝕄 := iprop(rd c (paB c b).view fullShare (blk m c c b) ∗ rd c (rsB (0 : Fin 3).succ b).view fullShare (blk m (pl c 0) c b)
    ∗ rd c (rsB (1 : Fin 3).succ b).view fullShare (blk m (pl c 1) c b) ∗ rd c (rsB (2 : Fin 3).succ b).view fullShare (blk m (pl c 2) c b))

theorem part16 (v2 v14 v25 v36 c64 : BitVec 32) {Q : PUnit → sProp 𝕄} :
    iprop((recs m K ∗ rsI m c 0 0 ∗ ow c (D 3)) ∗ ((ex c (0, 0, 0) ∗ ow c (D 4)) -∗ Q ⟨⟩))
      ⊢ wpc c (k0_part16 (F := F) xM (Memref.isWhole_whole _) wqM (Memref.isWhole_whole _) woM (Memref.isWhole_whole _) khM (Memref.isWhole_whole _) vhM (Memref.isWhole_whole _) oM (Memref.isWhole_whole _) kM (Memref.isWhole_whole _) vM (Memref.isWhole_whole _) atM (Memref.isWhole_whole _) paM (Memref.isWhole_whole _) rsM (Memref.isWhole_whole _) rdM (Memref.isWhole_whole _) cc0_scratch6 cc0_scratch7 cc0_scratch8 cc0_scratch9 cc0_scratch10 c v2 v14 v25 v36 c64) Q := by
  rw [k0_part16_eq_skeleton]; unfold k0_part16_skel
  simp only [Prog.lift, Prog.bind_op, Prog.bind_ret, Prog.pure_eq_ret, wp_ret]
  iintro ⟨⟨#HR, HR00, HO⟩, Hk⟩
  iapply (step_rsI m K c 0 0 (dev4_eq c) (pa_slice_eq _ _ (off2_0 c) _) rfl rfl rfl (D 4)) $$ [HR00 HO]
  · isplitr; · iexact HR
    isplitl [HR00]; · iexact HR00
    iexact HO
  iintro ⟨HX00, HO⟩
  iapply (ret c)
  iapply Hk
  isplitl [HX00]; · iexact HX00
  iexact HO

theorem part17 (v14 v25 v36 : BitVec 32) {Q : (Σ' (v483 : BitVec 32), BitVec 32) → sProp 𝕄} :
    iprop((recs m K ∗ rsI m c 1 0 ∗ rsI m c 2 0 ∗ rsI m c 0 1 ∗ ow c (D 4)) ∗ (∀ r, (ex c (0, 1, 0) ∗ ex c (0, 2, 0) ∗ ex c (0, 0, 1) ∗ ow c (D 7)) -∗ Q r))
      ⊢ wpc c (k0_part17 (F := F) xM (Memref.isWhole_whole _) wqM (Memref.isWhole_whole _) woM (Memref.isWhole_whole _) khM (Memref.isWhole_whole _) vhM (Memref.isWhole_whole _) oM (Memref.isWhole_whole _) kM (Memref.isWhole_whole _) vM (Memref.isWhole_whole _) atM (Memref.isWhole_whole _) paM (Memref.isWhole_whole _) rsM (Memref.isWhole_whole _) rdM (Memref.isWhole_whole _) cc0_scratch6 cc0_scratch7 cc0_scratch8 cc0_scratch9 cc0_scratch10 c v14 v25 v36) Q := by
  rw [k0_part17_eq_skeleton]; unfold k0_part17_skel
  simp only [Prog.lift, Prog.bind_op, Prog.bind_ret, Prog.pure_eq_ret, wp_ret]
  iintro ⟨⟨#HR, HR10, HR20, HR01, HO⟩, Hk⟩
  iapply (step_rsI m K c 1 0 (dev5_eq c) (pa_slice_eq _ _ (off3_1_0 c) _) rfl rfl rfl (D 5)) $$ [HR10 HO]
  · isplitr; · iexact HR
    isplitl [HR10]; · iexact HR10
    iexact HO
  iintro ⟨HX10, HO⟩
  iapply (step_rsI m K c 2 0 (dev6_eq c) (pa_slice_eq _ _ (off3_2_0 c) _) rfl rfl rfl (D 6)) $$ [HR20 HO]
  · isplitr; · iexact HR
    isplitl [HR20]; · iexact HR20
    iexact HO
  iintro ⟨HX20, HO⟩
  iapply (step_rsI m K c 0 1 (dev7_eq c) (pa_slice_eq _ _ (off2_1 c) _) rfl rfl rfl (D 7)) $$ [HR01 HO]
  · isplitr; · iexact HR
    isplitl [HR01]; · iexact HR01
    iexact HO
  iintro ⟨HX01, HO⟩
  iapply (ret c)
  iapply Hk
  isplitl [HX10]; · iexact HX10
  isplitl [HX20]; · iexact HX20
  isplitl [HX01]; · iexact HX01
  iexact HO

theorem part18 (v14 v25 v36 v483 c0 : BitVec 32) {Q : BitVec 32 → sProp 𝕄} :
    iprop((recs m K ∗ rsI m c 1 1 ∗ rsI m c 2 1 ∗ ex c (1, 0, 0) ∗ ow c (D 7)) ∗ (∀ r, (ex c (0, 1, 1) ∗ ex c (0, 2, 1) ∗ got m c (1, 0, 0) ∗ ow c (D 9)) -∗ Q r))
      ⊢ wpc c (k0_part18 (F := F) xM (Memref.isWhole_whole _) wqM (Memref.isWhole_whole _) woM (Memref.isWhole_whole _) khM (Memref.isWhole_whole _) vhM (Memref.isWhole_whole _) oM (Memref.isWhole_whole _) kM (Memref.isWhole_whole _) vM (Memref.isWhole_whole _) atM (Memref.isWhole_whole _) paM (Memref.isWhole_whole _) rsM (Memref.isWhole_whole _) rdM (Memref.isWhole_whole _) cc0_scratch6 cc0_scratch7 cc0_scratch8 cc0_scratch9 cc0_scratch10 c v14 v25 v36 v483 c0) Q := by
  rw [k0_part18_eq_skeleton]; unfold k0_part18_skel
  simp only [Prog.lift, Prog.bind_op, Prog.bind_ret, Prog.pure_eq_ret, wp_ret]
  iintro ⟨⟨#HR, HR11, HR21, HE100, HO⟩, Hk⟩
  iapply (step_rsI m K c 1 1 (dev8_eq c) (pa_slice_eq _ _ (off3_1_1 c) _) rfl rfl rfl (D 8)) $$ [HR11 HO]
  · isplitr; · iexact HR
    isplitl [HR11]; · iexact HR11
    iexact HO
  iintro ⟨HX11, HO⟩
  iapply (step_rsI m K c 2 1 (dev9_eq c) (pa_slice_eq _ _ (off3_2_1 c) _) rfl rfl rfl (D 9)) $$ [HR21 HO]
  · isplitr; · iexact HR
    isplitl [HR21]; · iexact HR21
    iexact HO
  iintro ⟨HX21, HO⟩
  iapply (step_got m K c (1, 0, 0) rfl (crRs _ _ _ _) (D 9) (by decide)) $$ [HE100 HO]
  · isplitr; · iexact HR
    isplitl [HE100]; · iexact HE100
    iexact HO
  iintro ⟨HG100, HO⟩
  iapply (ret c)
  iapply Hk
  isplitl [HX11]; · iexact HX11
  isplitl [HX21]; · iexact HX21
  isplitl [HG100]; · iexact HG100
  iexact HO

theorem xPay1 (s : Fin 3) (b : Fin 2) : xPay m c (1, s, b) = rd c (rsB s.succ b).view fullShare (blk m (pl c s) c b) := rfl

theorem part19 (v2 v25 v508 : BitVec 32) {Q : (FVec F S32x1024 .f32) → sProp 𝕄} :
    iprop((recs m K ∗ rd c (paB c 0).view fullShare (blk m c c 0) ∗ got m c (1, 0, 0) ∗ ex c (1, 1, 0) ∗ ex c (1, 2, 0) ∗ ow c (D 9)) ∗ (((zx c (1, 0, 0) ∗ zx c (1, 1, 0) ∗ zx c (1, 2, 0)) ∗ lnd m c 0 ∗ ow c (D 9)) -∗ Q (k0_pay26 (blk m c c 0) (upR (blk m (pl c 0) c 0)) (upR (blk m (pl c 1) c 0)) (upR (blk m (pl c 2) c 0)))))
      ⊢ wpc c (k0_part19 (F := F) xM (Memref.isWhole_whole _) wqM (Memref.isWhole_whole _) woM (Memref.isWhole_whole _) khM (Memref.isWhole_whole _) vhM (Memref.isWhole_whole _) oM (Memref.isWhole_whole _) kM (Memref.isWhole_whole _) vM (Memref.isWhole_whole _) atM (Memref.isWhole_whole _) paM (Memref.isWhole_whole _) rsM (Memref.isWhole_whole _) rdM (Memref.isWhole_whole _) cc0_scratch6 cc0_scratch7 cc0_scratch8 cc0_scratch9 cc0_scratch10 c v2 v25 v508) Q := by
  rw [k0_part19_eq_skeleton]; unfold k0_part19_skel
  simp only [Prog.lift, Prog.bind_op, Prog.bind_ret, Prog.pure_eq_ret, wp_ret]
  iintro ⟨⟨#HR, Hown, HG100, HE110, HE120, HO⟩, Hk⟩
  iapply (step_got m K c (1, 1, 0) rfl (crRs _ _ _ _) (D 9) (by decide)) $$ [HE110 HO]
  · isplitr; · iexact HR
    isplitl [HE110]; · iexact HE110
    iexact HO
  iintro ⟨HG110, HO⟩
  iapply (step_got m K c (1, 2, 0) rfl (crRs _ _ _ _) (D 9) (by decide)) $$ [HE120 HO]
  · isplitr; · iexact HR
    isplitl [HE120]; · iexact HE120
    iexact HO
  iintro ⟨HG120, HO⟩
  unfold got
  icases HG100 with ⟨Hz0, HP0⟩
  icases HG110 with ⟨Hz1, HP1⟩
  icases HG120 with ⟨Hz2, HP2⟩
  ihave HP0 := (Entails.of_eq (xPay1 m c 0 0)) $$ HP0
  ihave HP1 := (Entails.of_eq (xPay1 m c 1 0)) $$ HP1
  ihave HP2 := (Entails.of_eq (xPay1 m c 2 0)) $$ HP2
  iapply (step_load (M := paM) (s := S256x1024) c ![64 * c.val + 32 * (0 : Fin 2).val, 0] (off4_0 c) (paR_inb c 0)) $$ Hown; iintro Hown
  iapply (step_load_sq (M := rsM) (s := S4x2x32x1024) (s' := S32x1024) c ![((0 : Fin 3).succ : Fin 4).val, (0 : Fin 2).val, 0, 0] rfl (rsR_inb ((0 : Fin 3).succ) 0) _) $$ HP0; iintro HP0
  iapply (step_load_sq (M := rsM) (s := S4x2x32x1024) (s' := S32x1024) c ![((1 : Fin 3).succ : Fin 4).val, (0 : Fin 2).val, 0, 0] rfl (rsR_inb ((1 : Fin 3).succ) 0) _) $$ HP1; iintro HP1
  iapply (step_load_sq (M := rsM) (s := S4x2x32x1024) (s' := S32x1024) c ![((2 : Fin 3).succ : Fin 4).val, (0 : Fin 2).val, 0, 0] rfl (rsR_inb ((2 : Fin 3).succ) 0) _) $$ HP2; iintro HP2
  iapply (ret c)
  iapply Hk
  isplitl [Hz0 Hz1 Hz2]; · (isplitl [Hz0]; · iexact Hz0
                            isplitl [Hz1] <;> iassumption)
  isplitl [Hown HP0 HP1 HP2]
  · unfold lnd
    isplitl [Hown]; · iexact Hown
    isplitl [HP0]; · iexact HP0
    isplitl [HP1]; · iexact HP1
    iexact HP2
  iexact HO

theorem part20 (v2 v14 v36 : BitVec 32) {Q : PUnit → sProp 𝕄} :
    iprop((recs m K ∗ hv c (rdB 0).view ∗ hv c (oB c 0).view ∗ agI c 0 0 ∗ agI c 1 0 ∗ ow c (D 9)) ∗ ((ex c (2, 0, 0) ∗ ex c (2, 1, 0) ∗ rd c (oB c 0).view fullShare (redV m c 0) ∗ rd c (rdB 0).view (sh 2) (redV m c 0) ∗ ow c (D 11)) -∗ Q ⟨⟩))
      ⊢ wpc c (k0_part20 (F := F) xM (Memref.isWhole_whole _) wqM (Memref.isWhole_whole _) woM (Memref.isWhole_whole _) khM (Memref.isWhole_whole _) vhM (Memref.isWhole_whole _) oM (Memref.isWhole_whole _) kM (Memref.isWhole_whole _) vM (Memref.isWhole_whole _) atM (Memref.isWhole_whole _) paM (Memref.isWhole_whole _) rsM (Memref.isWhole_whole _) rdM (Memref.isWhole_whole _) cc0_scratch6 cc0_scratch7 cc0_scratch8 cc0_scratch9 cc0_scratch10 c v2 v14 v36 (redV m c 0)) Q := by
  rw [k0_part20_eq_skeleton]; unfold k0_part20_skel
  simp only [Prog.lift, Prog.bind_op, Prog.bind_ret, Prog.pure_eq_ret, wp_ret]
  iintro ⟨⟨#HR, Hr, Ho, HA00, HA10, HO⟩, Hk⟩
  iapply (step_put (M := rdM) (s := S64x1024) c ![32 * (0 : Fin 2).val, 0] rfl (rdR_inb 0) (redV m c 0) (pay27_eq _)) $$ Hr; iintro Hr
  iapply (step_put_sq (M := oM) (s := S1x256x1024) (s' := S32x1024) c ![0, 64 * c.val + 32 * (0 : Fin 2).val, 0] (off5_0 c) (oR_inb c 0) _ (redV m c 0) (pay28_eq _)) $$ Ho; iintro Ho
  ihave Hr := (rd_share c (rdB 0).view (redV m c 0)) $$ Hr
  icases Hr with ⟨HS0, HS1, HS2⟩
  iapply (step_agI m K c 0 0 (dev10_eq c) rfl (o_slice_eq _ _ (off6_0 c) _) rfl rfl (D 10)) $$ [HS0 HA00 HO]
  · isplitr; · iexact HR
    isplitl [HS0]; · iexact HS0
    isplitl [HA00]; · iexact HA00
    iexact HO
  iintro ⟨HX00, HO⟩
  iapply (step_agI m K c 1 0 (dev11_eq c) rfl (o_slice_eq _ _ (off6_0 c) _) rfl rfl (D 11)) $$ [HS1 HA10 HO]
  · isplitr; · iexact HR
    isplitl [HS1]; · iexact HS1
    isplitl [HA10]; · iexact HA10
    iexact HO
  iintro ⟨HX10, HO⟩
  iapply (ret c)
  iapply Hk
  isplitl [HX00]; · iexact HX00
  isplitl [HX10]; · iexact HX10
  isplitl [Ho]; · iexact Ho
  isplitl [HS2]; · iexact HS2
  iexact HO

theorem part21 (v14 v25 v36 : BitVec 32) {Q : BitVec 32 → sProp 𝕄} :
    iprop((recs m K ∗ agI c 2 0 ∗ rd c (rdB 0).view (sh 2) (redV m c 0) ∗ ex c (1, 0, 1) ∗ ex c (1, 1, 1) ∗ ow c (D 11)) ∗ (∀ r, (ex c (2, 2, 0) ∗ got m c (1, 0, 1) ∗ got m c (1, 1, 1) ∗ ow c (D 12)) -∗ Q r))
      ⊢ wpc c (k0_part21 (F := F) xM (Memref.isWhole_whole _) wqM (Memref.isWhole_whole _) woM (Memref.isWhole_whole _) khM (Memref.isWhole_whole _) vhM (Memref.isWhole_whole _) oM (Memref.isWhole_whole _) kM (Memref.isWhole_whole _) vM (Memref.isWhole_whole _) atM (Memref.isWhole_whole _) paM (Memref.isWhole_whole _) rsM (Memref.isWhole_whole _) rdM (Memref.isWhole_whole _) cc0_scratch6 cc0_scratch7 cc0_scratch8 cc0_scratch9 cc0_scratch10 c v14 v25 v36) Q := by
  rw [k0_part21_eq_skeleton]; unfold k0_part21_skel
  simp only [Prog.lift, Prog.bind_op, Prog.bind_ret, Prog.pure_eq_ret, wp_ret]
  iintro ⟨⟨#HR, HA20, HS2, HE101, HE111, HO⟩, Hk⟩
  iapply (step_agI m K c 2 0 (dev12_eq c) rfl (o_slice_eq _ _ (off6_0 c) _) rfl rfl (D 12)) $$ [HS2 HA20 HO]
  · isplitr; · iexact HR
    isplitl [HS2]; · iexact HS2
    isplitl [HA20]; · iexact HA20
    iexact HO
  iintro ⟨HX20, HO⟩
  iapply (step_got m K c (1, 0, 1) rfl (crRs _ _ _ _) (D 12) (by decide)) $$ [HE101 HO]
  · isplitr; · iexact HR
    isplitl [HE101]; · iexact HE101
    iexact HO
  iintro ⟨HG101, HO⟩
  iapply (step_got m K c (1, 1, 1) rfl (crRs _ _ _ _) (D 12) (by decide)) $$ [HE111 HO]
  · isplitr; · iexact HR
    isplitl [HE111]; · iexact HE111
    iexact HO
  iintro ⟨HG111, HO⟩
  iapply (ret c)
  iapply Hk
  isplitl [HX20]; · iexact HX20
  isplitl [HG101]; · iexact HG101
  isplitl [HG111]; · iexact HG111
  iexact HO

theorem part22 (v2 v25 c1 : BitVec 32) {Q : PUnit → sProp 𝕄} :
    iprop((recs m K ∗ rd c (paB c 1).view fullShare (blk m c c 1) ∗ got m c (1, 0, 1) ∗ got m c (1, 1, 1) ∗ ex c (1, 2, 1) ∗ hv c (rdB 1).view ∗ hv c (oB c 1).view ∗ ow c (D 12)) ∗ (((zx c (1, 0, 1) ∗ zx c (1, 1, 1) ∗ zx c (1, 2, 1)) ∗ lnd m c 1 ∗ rd c (rdB 1).view fullShare (redV m c 1) ∗ rd c (oB c 1).view fullShare (redV m c 1) ∗ ow c (D 12)) -∗ Q ⟨⟩))
      ⊢ wpc c (k0_part22 (F := F) xM (Memref.isWhole_whole _) wqM (Memref.isWhole_whole _) woM (Memref.isWhole_whole _) khM (Memref.isWhole_whole _) vhM (Memref.isWhole_whole _) oM (Memref.isWhole_whole _) kM (Memref.isWhole_whole _) vM (Memref.isWhole_whole _) atM (Memref.isWhole_whole _) paM (Memref.isWhole_whole _) rsM (Memref.isWhole_whole _) rdM (Memref.isWhole_whole _) cc0_scratch6 cc0_scratch7 cc0_scratch8 cc0_scratch9 cc0_scratch10 c v2 v25 c1) Q := by
  rw [k0_part22_eq_skeleton]; unfold k0_part22_skel
  simp only [Prog.lift, Prog.bind_op, Prog.bind_ret, Prog.pure_eq_ret, wp_ret]
  iintro ⟨⟨#HR, Hown, HG101, HG111, HE121, Hr, Ho, HO⟩, Hk⟩
  iapply (step_got m K c (1, 2, 1) rfl (crRs _ _ _ _) (D 12) (by decide)) $$ [HE121 HO]
  · isplitr; · iexact HR
    isplitl [HE121]; · iexact HE121
    iexact HO
  iintro ⟨HG121, HO⟩
  unfold got
  icases HG101 with ⟨Hz0, HP0⟩
  icases HG111 with ⟨Hz1, HP1⟩
  icases HG121 with ⟨Hz2, HP2⟩
  ihave HP0 := (Entails.of_eq (xPay1 m c 0 1)) $$ HP0
  ihave HP1 := (Entails.of_eq (xPay1 m c 1 1)) $$ HP1
  ihave HP2 := (Entails.of_eq (xPay1 m c 2 1)) $$ HP2
  iapply (step_load (M := paM) (s := S256x1024) c ![64 * c.val + 32 * (1 : Fin 2).val, 0] (off4_1 c) (paR_inb c 1)) $$ Hown; iintro Hown
  iapply (step_load_sq (M := rsM) (s := S4x2x32x1024) (s' := S32x1024) c ![((0 : Fin 3).succ : Fin 4).val, (1 : Fin 2).val, 0, 0] rfl (rsR_inb ((0 : Fin 3).succ) 1) _) $$ HP0; iintro HP0
  iapply (step_load_sq (M := rsM) (s := S4x2x32x1024) (s' := S32x1024) c ![((1 : Fin 3).succ : Fin 4).val, (1 : Fin 2).val, 0, 0] rfl (rsR_inb ((1 : Fin 3).succ) 1) _) $$ HP1; iintro HP1
  iapply (step_load_sq (M := rsM) (s := S4x2x32x1024) (s' := S32x1024) c ![((2 : Fin 3).succ : Fin 4).val, (1 : Fin 2).val, 0, 0] rfl (rsR_inb ((2 : Fin 3).succ) 1) _) $$ HP2; iintro HP2
  iapply (step_put (M := rdM) (s := S64x1024) c ![32 * (1 : Fin 2).val, 0] rfl (rdR_inb 1) (redV m c 1) (red30 m c 1)) $$ Hr; iintro Hr
  iapply (step_put_sq (M := oM) (s := S1x256x1024) (s' := S32x1024) c ![0, 64 * c.val + 32 * (1 : Fin 2).val, 0] (off5_1 c) (oR_inb c 1) _ (redV m c 1) (red31 m c 1)) $$ Ho; iintro Ho
  iapply (ret c)
  iapply Hk
  isplitl [Hz0 Hz1 Hz2]; · (isplitl [Hz0]; · iexact Hz0
                            isplitl [Hz1] <;> iassumption)
  isplitl [Hown HP0 HP1 HP2]
  · unfold lnd
    isplitl [Hown]; · iexact Hown
    isplitl [HP0]; · iexact HP0
    isplitl [HP1]; · iexact HP1
    iexact HP2
  isplitl [Hr]; · iexact Hr
  isplitl [Ho]; · iexact Ho
  iexact HO

theorem part23 (v14 v25 v36 : BitVec 32) {Q : PUnit → sProp 𝕄} :
    iprop((recs m K ∗ rd c (rdB 1).view fullShare (redV m c 1) ∗ agI c 0 1 ∗ agI c 1 1 ∗ agI c 2 1 ∗ ow c (D 12)) ∗ ((ex c (2, 0, 1) ∗ ex c (2, 1, 1) ∗ ex c (2, 2, 1) ∗ ow c (D 15)) -∗ Q ⟨⟩))
      ⊢ wpc c (k0_part23 (F := F) xM (Memref.isWhole_whole _) wqM (Memref.isWhole_whole _) woM (Memref.isWhole_whole _) khM (Memref.isWhole_whole _) vhM (Memref.isWhole_whole _) oM (Memref.isWhole_whole _) kM (Memref.isWhole_whole _) vM (Memref.isWhole_whole _) atM (Memref.isWhole_whole _) paM (Memref.isWhole_whole _) rsM (Memref.isWhole_whole _) rdM (Memref.isWhole_whole _) cc0_scratch6 cc0_scratch7 cc0_scratch8 cc0_scratch9 cc0_scratch10 c v14 v25 v36) Q := by
  rw [k0_part23_eq_skeleton]; unfold k0_part23_skel
  simp only [Prog.lift, Prog.bind_op, Prog.bind_ret, Prog.pure_eq_ret, wp_ret]
  iintro ⟨⟨#HR, Hr, HA01, HA11, HA21, HO⟩, Hk⟩
  ihave Hr := (rd_share c (rdB 1).view (redV m c 1)) $$ Hr
  icases Hr with ⟨HS0, HS1, HS2⟩
  iapply (step_agI m K c 0 1 (dev13_eq c) rfl (o_slice_eq _ _ (off6_1 c) _) rfl rfl (D 13)) $$ [HS0 HA01 HO]
  · isplitr; · iexact HR
    isplitl [HS0]; · iexact HS0
    isplitl [HA01]; · iexact HA01
    iexact HO
  iintro ⟨HX01, HO⟩
  iapply (step_agI m K c 1 1 (dev14_eq c) rfl (o_slice_eq _ _ (off6_1 c) _) rfl rfl (D 14)) $$ [HS1 HA11 HO]
  · isplitr; · iexact HR
    isplitl [HS1]; · iexact HS1
    isplitl [HA11]; · iexact HA11
    iexact HO
  iintro ⟨HX11, HO⟩
  iapply (step_agI m K c 2 1 (dev15_eq c) rfl (o_slice_eq _ _ (off6_1 c) _) rfl rfl (D 15)) $$ [HS2 HA21 HO]
  · isplitr; · iexact HR
    isplitl [HS2]; · iexact HS2
    isplitl [HA21]; · iexact HA21
    iexact HO
  iintro ⟨HX21, HO⟩
  iapply (ret c)
  iapply Hk
  isplitl [HX01]; · iexact HX01
  isplitl [HX11]; · iexact HX11
  isplitl [HX21]; · iexact HX21
  iexact HO

theorem part24 (v14 v25 v36 : BitVec 32) {Q : PUnit → sProp 𝕄} :
    iprop((recs m K ∗ ex c (3, 0, 0) ∗ ex c (3, 1, 0) ∗ ex c (3, 2, 0) ∗ ow c (D 15)) ∗ ((got m c (3, 0, 0) ∗ got m c (3, 1, 0) ∗ got m c (3, 2, 0) ∗ ow c (D 15)) -∗ Q ⟨⟩))
      ⊢ wpc c (k0_part24 (F := F) xM (Memref.isWhole_whole _) wqM (Memref.isWhole_whole _) woM (Memref.isWhole_whole _) khM (Memref.isWhole_whole _) vhM (Memref.isWhole_whole _) oM (Memref.isWhole_whole _) kM (Memref.isWhole_whole _) vM (Memref.isWhole_whole _) atM (Memref.isWhole_whole _) paM (Memref.isWhole_whole _) rsM (Memref.isWhole_whole _) rdM (Memref.isWhole_whole _) cc0_scratch6 cc0_scratch7 cc0_scratch8 cc0_scratch9 cc0_scratch10 c v14 v25 v36) Q := by
  rw [k0_part24_eq_skeleton]; unfold k0_part24_skel
  simp only [Prog.lift, Prog.bind_op, Prog.bind_ret, Prog.pure_eq_ret, wp_ret]
  iintro ⟨⟨#HR, HE300, HE310, HE320, HO⟩, Hk⟩
  iapply (step_got m K c (3, 0, 0) rfl (crO _ _ _ _) (D 15) (by decide)) $$ [HE300 HO]
  · isplitr; · iexact HR
    isplitl [HE300]; · iexact HE300
    iexact HO
  iintro ⟨HG300, HO⟩
  iapply (step_got m K c (3, 1, 0) rfl (crO _ _ _ _) (D 15) (by decide)) $$ [HE310 HO]
  · isplitr; · iexact HR
    isplitl [HE310]; · iexact HE310
    iexact HO
  iintro ⟨HG310, HO⟩
  iapply (step_got m K c (3, 2, 0) rfl (crO _ _ _ _) (D 15) (by decide)) $$ [HE320 HO]
  · isplitr; · iexact HR
    isplitl [HE320]; · iexact HE320
    iexact HO
  iintro ⟨HG320, HO⟩
  iapply (ret c)
  iapply Hk
  isplitl [HG300]; · iexact HG300
  isplitl [HG310]; · iexact HG310
  isplitl [HG320]; · iexact HG320
  iexact HO

theorem part25  {Q : PUnit → sProp 𝕄} :
    iprop((recs m K ∗ ex c (0, 0, 0) ∗ ex c (0, 1, 0) ∗ ex c (0, 2, 0) ∗ ex c (2, 0, 0) ∗ ow c (D 15)) ∗ ((got m c (0, 0, 0) ∗ got m c (0, 1, 0) ∗ got m c (0, 2, 0) ∗ got m c (2, 0, 0) ∗ ow c (D 15)) -∗ Q ⟨⟩))
      ⊢ wpc c (k0_part25 (F := F) xM (Memref.isWhole_whole _) wqM (Memref.isWhole_whole _) woM (Memref.isWhole_whole _) khM (Memref.isWhole_whole _) vhM (Memref.isWhole_whole _) oM (Memref.isWhole_whole _) kM (Memref.isWhole_whole _) vM (Memref.isWhole_whole _) atM (Memref.isWhole_whole _) paM (Memref.isWhole_whole _) rsM (Memref.isWhole_whole _) rdM (Memref.isWhole_whole _) cc0_scratch6 cc0_scratch7 cc0_scratch8 cc0_scratch9 cc0_scratch10 c) Q := by
  rw [k0_part25_eq_skeleton]; unfold k0_part25_skel
  simp only [Prog.lift, Prog.bind_op, Prog.bind_ret, Prog.pure_eq_ret, wp_ret]
  iintro ⟨⟨#HR, HE000, HE010, HE020, HE200, HO⟩, Hk⟩
  iapply (step_got m K c (0, 0, 0) rfl (crPa _ _ _) (D 15) (by decide)) $$ [HE000 HO]
  · isplitr; · iexact HR
    isplitl [HE000]; · iexact HE000
    iexact HO
  iintro ⟨HG000, HO⟩
  iapply (step_got m K c (0, 1, 0) rfl (crPa _ _ _) (D 15) (by decide)) $$ [HE010 HO]
  · isplitr; · iexact HR
    isplitl [HE010]; · iexact HE010
    iexact HO
  iintro ⟨HG010, HO⟩
  iapply (step_got m K c (0, 2, 0) rfl (crPa _ _ _) (D 15) (by decide)) $$ [HE020 HO]
  · isplitr; · iexact HR
    isplitl [HE020]; · iexact HE020
    iexact HO
  iintro ⟨HG020, HO⟩
  iapply (step_got m K c (2, 0, 0) rfl (crRd _ _ _) (D 15) (by decide)) $$ [HE200 HO]
  · isplitr; · iexact HR
    isplitl [HE200]; · iexact HE200
    iexact HO
  iintro ⟨HG200, HO⟩
  iapply (ret c)
  iapply Hk
  isplitl [HG000]; · iexact HG000
  isplitl [HG010]; · iexact HG010
  isplitl [HG020]; · iexact HG020
  isplitl [HG200]; · iexact HG200
  iexact HO

theorem part26 (v14 v36 : BitVec 32) {Q : PUnit → sProp 𝕄} :
    iprop((recs m K ∗ ex c (2, 1, 0) ∗ ex c (2, 2, 0) ∗ ex c (3, 0, 1) ∗ ex c (3, 1, 1) ∗ ow c (D 15)) ∗ ((got m c (2, 1, 0) ∗ got m c (2, 2, 0) ∗ got m c (3, 0, 1) ∗ got m c (3, 1, 1) ∗ ow c (D 15)) -∗ Q ⟨⟩))
      ⊢ wpc c (k0_part26 (F := F) xM (Memref.isWhole_whole _) wqM (Memref.isWhole_whole _) woM (Memref.isWhole_whole _) khM (Memref.isWhole_whole _) vhM (Memref.isWhole_whole _) oM (Memref.isWhole_whole _) kM (Memref.isWhole_whole _) vM (Memref.isWhole_whole _) atM (Memref.isWhole_whole _) paM (Memref.isWhole_whole _) rsM (Memref.isWhole_whole _) rdM (Memref.isWhole_whole _) cc0_scratch6 cc0_scratch7 cc0_scratch8 cc0_scratch9 cc0_scratch10 c v14 v36) Q := by
  rw [k0_part26_eq_skeleton]; unfold k0_part26_skel
  simp only [Prog.lift, Prog.bind_op, Prog.bind_ret, Prog.pure_eq_ret, wp_ret]
  iintro ⟨⟨#HR, HE210, HE220, HE301, HE311, HO⟩, Hk⟩
  iapply (step_got m K c (2, 1, 0) rfl (crRd _ _ _) (D 15) (by decide)) $$ [HE210 HO]
  · isplitr; · iexact HR
    isplitl [HE210]; · iexact HE210
    iexact HO
  iintro ⟨HG210, HO⟩
  iapply (step_got m K c (2, 2, 0) rfl (crRd _ _ _) (D 15) (by decide)) $$ [HE220 HO]
  · isplitr; · iexact HR
    isplitl [HE220]; · iexact HE220
    iexact HO
  iintro ⟨HG220, HO⟩
  iapply (step_got m K c (3, 0, 1) rfl (crO _ _ _ _) (D 15) (by decide)) $$ [HE301 HO]
  · isplitr; · iexact HR
    isplitl [HE301]; · iexact HE301
    iexact HO
  iintro ⟨HG301, HO⟩
  iapply (step_got m K c (3, 1, 1) rfl (crO _ _ _ _) (D 15) (by decide)) $$ [HE311 HO]
  · isplitr; · iexact HR
    isplitl [HE311]; · iexact HE311
    iexact HO
  iintro ⟨HG311, HO⟩
  iapply (ret c)
  iapply Hk
  isplitl [HG210]; · iexact HG210
  isplitl [HG220]; · iexact HG220
  isplitl [HG301]; · iexact HG301
  isplitl [HG311]; · iexact HG311
  iexact HO

theorem part27 (v25 : BitVec 32) {Q : PUnit → sProp 𝕄} :
    iprop((recs m K ∗ ex c (3, 2, 1) ∗ ex c (0, 0, 1) ∗ ex c (0, 1, 1) ∗ ow c (D 15)) ∗ ((got m c (3, 2, 1) ∗ got m c (0, 0, 1) ∗ got m c (0, 1, 1) ∗ ow c (D 15)) -∗ Q ⟨⟩))
      ⊢ wpc c (k0_part27 (F := F) xM (Memref.isWhole_whole _) wqM (Memref.isWhole_whole _) woM (Memref.isWhole_whole _) khM (Memref.isWhole_whole _) vhM (Memref.isWhole_whole _) oM (Memref.isWhole_whole _) kM (Memref.isWhole_whole _) vM (Memref.isWhole_whole _) atM (Memref.isWhole_whole _) paM (Memref.isWhole_whole _) rsM (Memref.isWhole_whole _) rdM (Memref.isWhole_whole _) cc0_scratch6 cc0_scratch7 cc0_scratch8 cc0_scratch9 cc0_scratch10 c v25) Q := by
  rw [k0_part27_eq_skeleton]; unfold k0_part27_skel
  simp only [Prog.lift, Prog.bind_op, Prog.bind_ret, Prog.pure_eq_ret, wp_ret]
  iintro ⟨⟨#HR, HE321, HE001, HE011, HO⟩, Hk⟩
  iapply (step_got m K c (3, 2, 1) rfl (crO _ _ _ _) (D 15) (by decide)) $$ [HE321 HO]
  · isplitr; · iexact HR
    isplitl [HE321]; · iexact HE321
    iexact HO
  iintro ⟨HG321, HO⟩
  iapply (step_got m K c (0, 0, 1) rfl (crPa _ _ _) (D 15) (by decide)) $$ [HE001 HO]
  · isplitr; · iexact HR
    isplitl [HE001]; · iexact HE001
    iexact HO
  iintro ⟨HG001, HO⟩
  iapply (step_got m K c (0, 1, 1) rfl (crPa _ _ _) (D 15) (by decide)) $$ [HE011 HO]
  · isplitr; · iexact HR
    isplitl [HE011]; · iexact HE011
    iexact HO
  iintro ⟨HG011, HO⟩
  iapply (ret c)
  iapply Hk
  isplitl [HG321]; · iexact HG321
  isplitl [HG001]; · iexact HG001
  isplitl [HG011]; · iexact HG011
  iexact HO

end Cert.Pf
-- ==== Proof.Body.lean ====
/-
The body whole: its parts one after the other.
-/
module

public import proofs.«01_k».proof.Proof.BodyB

@[expose] public section

noncomputable section

namespace Cert.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CI → ℕ) (c : Dev nD)

theorem bindc {α β : Type} (p : Prog (TpuEff nD τ sig (Elt F) Λ₀ .tc) α) (k : α → Prog (TpuEff nD τ sig (Elt F) Λ₀ .tc) β) (Q : β → sProp 𝕄) :
    wpc c p (fun a => wpc c (k a) Q) ⊢ wpc c (p >>= k) Q := Entails.of_eq (wp_bind _ _ _ p k Q).symm

theorem part1 {Q : (Σ' (d0 : Dev nD) (v2 : BitVec 32) (v14 : BitVec 32) (v25 : BitVec 32) (v28 : BitVec 32) (v29 : BitVec 32), BitVec 1) → sProp 𝕄} :
    iprop(∀ r, Q ⟨c, r⟩) ⊢ wpc c (k0_part1 (F := F) xM (Memref.isWhole_whole _) wqM (Memref.isWhole_whole _) woM (Memref.isWhole_whole _) khM (Memref.isWhole_whole _) vhM (Memref.isWhole_whole _) oM (Memref.isWhole_whole _) kM (Memref.isWhole_whole _) vM (Memref.isWhole_whole _) atM (Memref.isWhole_whole _) paM (Memref.isWhole_whole _) rsM (Memref.isWhole_whole _) rdM (Memref.isWhole_whole _) cc0_scratch6 cc0_scratch7 cc0_scratch8 cc0_scratch9 cc0_scratch10) Q := by
  rw [k0_part1_eq_skeleton]; unfold k0_part1_skel
  simp only [Prog.lift, Prog.bind_op, Prog.bind_ret, Prog.pure_eq_ret]
  iintro H
  simp only [wp_deviceId]
  iapply (ret c)
  iapply H

/-- The twelve sends' own tokens. -/
def sds : sProp 𝕄 := iprop(sd c (0, 0, 0) (1, 0, 0) ∗ sd c (0, 1, 0) (1, 1, 0) ∗ sd c (0, 2, 0) (1, 2, 0) ∗ sd c (0, 0, 1) (1, 0, 1) ∗ sd c (0, 1, 1) (1, 1, 1) ∗ sd c (0, 2, 1) (1, 2, 1)
    ∗ sd c (2, 0, 0) (3, 0, 0) ∗ sd c (2, 1, 0) (3, 1, 0) ∗ sd c (2, 2, 0) (3, 2, 0) ∗ sd c (2, 0, 1) (3, 0, 1) ∗ sd c (2, 1, 1) (3, 1, 1) ∗ sd c (2, 2, 1) (3, 2, 1))

theorem pa_pieces : ((c : Thread nD τ).loc cc0_scratch3 ↦{fullShare} partV m c : sProp 𝕄)
    ⊢ iprop(rd c (paB c 0).view fullShare (blk m c c 0) ∗ rd c (paB c 1).view fullShare (blk m c c 1)
      ∗ rd c (paB (tg c 0) 0).view fullShare (blk m c (tg c 0) 0) ∗ rd c (paB (tg c 1) 0).view fullShare (blk m c (tg c 1) 0) ∗ rd c (paB (tg c 2) 0).view fullShare (blk m c (tg c 2) 0) ∗ rd c (paB (tg c 0) 1).view fullShare (blk m c (tg c 0) 1) ∗ rd c (paB (tg c 1) 1).view fullShare (blk m c (tg c 1) 1) ∗ rd c (paB (tg c 2) 1).view fullShare (blk m c (tg c 2) 1)) :=
  Entails.of_eq ((pa_split m c).trans (bigSep_univ_eq_bigSepL [(c, 0), (c, 1), (tg c 0, 0), (tg c 1, 0), (tg c 2, 0), (tg c 0, 1), (tg c 1, 1), (tg c 2, 1)] (by revert c; decide) (by revert c; decide) _))

/-- The partial product split, and with what the barrier brought every send ready. -/
theorem mk_sends : iprop(((c : Thread nD τ).loc cc0_scratch3 ↦{fullShare} partV m c) ∗ (barPay c 0 ∗ barPay c 1 ∗ barPay c 2) ∗ sds c)
    ⊢ iprop((rd c (paB c 0).view fullShare (blk m c c 0) ∗ rd c (paB c 1).view fullShare (blk m c c 1))
      ∗ (rsI m c 0 0 ∗ rsI m c 1 0 ∗ rsI m c 2 0 ∗ rsI m c 0 1 ∗ rsI m c 1 1 ∗ rsI m c 2 1) ∗ agI c 0 0 ∗ agI c 1 0 ∗ agI c 2 0 ∗ agI c 0 1 ∗ agI c 1 1 ∗ agI c 2 1) := by
  unfold barPay sds rsI agI
  iintro ⟨Hp, ⟨⟨B00, B01, C00, C01⟩, ⟨B10, B11, C10, C11⟩, B20, B21, C20, C21⟩, S00, S10, S20, S01, S11, S21, T00, T10, T20, T01, T11, T21⟩
  ihave Hp := (pa_pieces m c) $$ Hp
  icases Hp with ⟨P0, P1, R00, R10, R20, R01, R11, R21⟩
  isplitl [P0 P1]; · (isplitl [P0] <;> iassumption)
  isplitl [R00 B00 S00 R10 B10 S10 R20 B20 S20 R01 B01 S01 R11 B11 S11 R21 B21 S21]
  · isplitl [R00 B00 S00]
    · (isplitl [R00]; (iexact R00); isplitl [B00]; (iexact B00); iexact S00)
    isplitl [R10 B10 S10]
    · (isplitl [R10]; (iexact R10); isplitl [B10]; (iexact B10); iexact S10)
    isplitl [R20 B20 S20]
    · (isplitl [R20]; (iexact R20); isplitl [B20]; (iexact B20); iexact S20)
    isplitl [R01 B01 S01]
    · (isplitl [R01]; (iexact R01); isplitl [B01]; (iexact B01); iexact S01)
    isplitl [R11 B11 S11]
    · (isplitl [R11]; (iexact R11); isplitl [B11]; (iexact B11); iexact S11)
    (isplitl [R21]; (iexact R21); isplitl [B21]; (iexact B21); iexact S21)
  isplitl [C00 T00]
  · (isplitl [C00]; (iexact C00); iexact T00)
  isplitl [C10 T10]
  · (isplitl [C10]; (iexact C10); iexact T10)
  isplitl [C20 T20]
  · (isplitl [C20]; (iexact C20); iexact T20)
  isplitl [C01 T01]
  · (isplitl [C01]; (iexact C01); iexact T01)
  isplitl [C11 T11]
  · (isplitl [C11]; (iexact C11); iexact T11)
  (isplitl [C21]; (iexact C21); iexact T21)

/-- What the body takes, -/
def Pre : sProp 𝕄 := iprop((wX m c ∗ wWq m c ∗ wWo m c) ∗ (lK m c 0 ∗ lK m c 1 ∗ lK m c 2 ∗ lK m c 3 ∗ lK m c 4 ∗ lK m c 5 ∗ lK m c 6 ∗ lK m c 7) ∗ (lV m c 0 ∗ lV m c 1 ∗ lV m c 2 ∗ lV m c 3 ∗ lV m c 4 ∗ lV m c 5 ∗ lV m c 6 ∗ lV m c 7) ∗ (aU c 0 ∗ aU c 1 ∗ aU c 2 ∗ aU c 3 ∗ aU c 4 ∗ aU c 5 ∗ aU c 6 ∗ aU c 7) ∗ (∃ f, (c : Thread nD τ).loc cc0_scratch3 ↦{fullShare} f) ∗ (sg c 0 ∗ sg c 1 ∗ sg c 2) ∗ bw c ∗ sds c ∗ (ex c (1, 0, 0) ∗ ex c (1, 1, 0) ∗ ex c (1, 2, 0) ∗ ex c (1, 0, 1) ∗ ex c (1, 1, 1) ∗ ex c (1, 2, 1)) ∗ (ex c (3, 0, 0) ∗ ex c (3, 1, 0) ∗ ex c (3, 2, 0) ∗ ex c (3, 0, 1) ∗ ex c (3, 1, 1) ∗ ex c (3, 2, 1)) ∗ (hv c (rdB 0).view ∗ hv c (rdB 1).view ∗ hv c (oB c 0).view ∗ hv c (oB c 1).view))
/-- what it leaves, the last two waits' cells apart, -/
def Post28 : sProp 𝕄 := iprop((wX m c ∗ wWq m c ∗ wWo m c) ∗ (zK c 0 ∗ zK c 1 ∗ zK c 2 ∗ zK c 3 ∗ zK c 4 ∗ zK c 5 ∗ zK c 6 ∗ zK c 7) ∗ (zV c 0 ∗ zV c 1 ∗ zV c 2 ∗ zV c 3 ∗ zV c 4 ∗ zV c 5 ∗ zV c 6 ∗ zV c 7) ∗ ((c : Thread nD τ).loc cc0_scratch2 ↦{fullShare} attnV m c) ∗ (got m c (0, 0, 0) ∗ got m c (0, 1, 0) ∗ got m c (0, 2, 0) ∗ got m c (0, 0, 1) ∗ got m c (0, 1, 1) ∗ got m c (0, 2, 1)) ∗ (got m c (2, 0, 0) ∗ got m c (2, 1, 0) ∗ got m c (2, 2, 0) ∗ got m c (2, 0, 1)) ∗ (got m c (3, 0, 0) ∗ got m c (3, 1, 0) ∗ got m c (3, 2, 0) ∗ got m c (3, 0, 1) ∗ got m c (3, 1, 1) ∗ got m c (3, 2, 1)) ∗ ((zx c (1, 0, 0) ∗ zx c (1, 1, 0) ∗ zx c (1, 2, 0)) ∗ (zx c (1, 0, 1) ∗ zx c (1, 1, 1) ∗ zx c (1, 2, 1))) ∗ (lnd m c 0 ∗ lnd m c 1) ∗ (rd c (oB c 0).view fullShare (redV m c 0) ∗ rd c (oB c 1).view fullShare (redV m c 1)) ∗ semVal (barC c) 0)
/-- and those with them. -/
def Post : sProp 𝕄 := iprop(Post28 m c ∗ got m c (2, 1, 1) ∗ got m c (2, 2, 1))

theorem part28 {Q : Dev nD → sProp 𝕄} :
    iprop((recs m K ∗ Pre m c ∗ ow c (D 0)) ∗ (Post28 m c ∗ ex c (2, 1, 1) ∗ ex c (2, 2, 1) ∗ ow c (D 15) -∗ Q c))
      ⊢ wpc c (k0_part28 (F := F) xM (Memref.isWhole_whole _) wqM (Memref.isWhole_whole _) woM (Memref.isWhole_whole _) khM (Memref.isWhole_whole _) vhM (Memref.isWhole_whole _) oM (Memref.isWhole_whole _) kM (Memref.isWhole_whole _) vM (Memref.isWhole_whole _) atM (Memref.isWhole_whole _) paM (Memref.isWhole_whole _) rsM (Memref.isWhole_whole _) rdM (Memref.isWhole_whole _) cc0_scratch6 cc0_scratch7 cc0_scratch8 cc0_scratch9 cc0_scratch10) Q := by
  rw [k0_part28_eq_skeleton]; unfold k0_part28_skel
  simp only [Prog.lift, Prog.pure_eq_ret]
  unfold Pre
  iintro ⟨⟨#HR, ⟨⟨HX, HW, HWo⟩, ⟨HK0, HK1, HK2, HK3, HK4, HK5, HK6, HK7⟩, ⟨HV0, HV1, HV2, HV3, HV4, HV5, HV6, HV7⟩, ⟨HA0, HA1, HA2, HA3, HA4, HA5, HA6, HA7⟩, Hpa, ⟨Hs0, Hs1, Hs2⟩, Hb, Hsd, ⟨HE100, HE110, HE120, HE101, HE111, HE121⟩, ⟨HE300, HE310, HE320, HE301, HE311, HE321⟩, ⟨Hr0, Hr1, Ho0, Ho1⟩⟩, HO⟩, Hk⟩
  iapply (bindc c)
  iapply (part1 c)
  iintro %r
  obtain ⟨v2, v14, v25, v28, v29, v34⟩ := r
  dsimp only
  iapply (bindc c)
  iapply (part2 m c v2 v28 v29 v34)
  isplitl [HK0 HV0 HK1]
  · isplitl [HK0]
    · iexact HK0
    isplitl [HV0]
    · iexact HV0
    iexact HK1
  iintro %r
  iintro ⟨HK0, HV0, HK1⟩
  obtain ⟨v36, v37⟩ := r
  try dsimp only
  iapply (bindc c)
  iapply (part3 m c v37)
  isplitl [HV1 HK2 HV2]
  · isplitl [HV1]
    · iexact HV1
    isplitl [HK2]
    · iexact HK2
    iexact HV2
  iintro ⟨HV1, HK2, HV2⟩
  try dsimp only
  iapply (bindc c)
  iapply (part4 m c v37)
  isplitl [HK3 HV3 HK4 HV4]
  · isplitl [HK3]
    · iexact HK3
    isplitl [HV3]
    · iexact HV3
    isplitl [HK4]
    · iexact HK4
    iexact HV4
  iintro ⟨HK3, HV3, HK4, HV4⟩
  try dsimp only
  iapply (bindc c)
  iapply (part5 m c v37)
  isplitl [HK5 HV5 HK6]
  · isplitl [HK5]
    · iexact HK5
    isplitl [HV5]
    · iexact HV5
    iexact HK6
  iintro ⟨HK5, HV5, HK6⟩
  try dsimp only
  iapply (bindc c)
  iapply (part6 m K c v14 v25 v36 v37)
  isplitl [HV6 HK7 HV7 Hs0 Hs1 Hs2 Hb HO]
  · isplitr; · iexact HR
    isplitl [HV6 HK7 HV7]
    · isplitl [HV6]
      · iexact HV6
      isplitl [HK7]
      · iexact HK7
      iexact HV7
    isplitl [Hs0 Hs1 Hs2]
    · isplitl [Hs0]
      · iexact Hs0
      isplitl [Hs1]
      · iexact Hs1
      iexact Hs2
    isplitl [Hb]
    · iexact Hb
    iexact HO
  iintro ⟨⟨HV6, HK7, HV7⟩, HO, Hz, Hbp0, Hbp1, Hbp2⟩
  try dsimp only
  iapply (bindc c)
  iapply (part7 m K c)
  isplitl [HX HW HK0 HV0 HO]
  · isplitr; · iexact HR
    isplitl [HX HW]
    · isplitl [HX]
      · iexact HX
      iexact HW
    isplitl [HK0 HV0]
    · isplitl [HK0]
      · iexact HK0
      iexact HV0
    iexact HO
  iintro ⟨⟨HX, HW⟩, ⟨HzK0, HV0⟩, HO⟩
  try dsimp only
  iapply (bindc c)
  iapply (part8 m K c)
  isplitl [HV0 HA0 HK1 HV1 HO]
  · isplitr; · iexact HR
    isplitl [HV0 HA0]
    · isplitl [HV0]
      · iexact HV0
      iexact HA0
    isplitl [HK1 HV1]
    · isplitl [HK1]
      · iexact HK1
      iexact HV1
    iexact HO
  iintro ⟨⟨HzV0, HA0⟩, ⟨HzK1, HV1⟩, HO⟩
  try dsimp only
  iapply (bindc c)
  iapply (part9 m K c)
  isplitl [HV1 HA1 HK2 HV2 HO]
  · isplitr; · iexact HR
    isplitl [HV1 HA1]
    · isplitl [HV1]
      · iexact HV1
      iexact HA1
    isplitl [HK2 HV2]
    · isplitl [HK2]
      · iexact HK2
      iexact HV2
    iexact HO
  iintro ⟨⟨HzV1, HA1⟩, ⟨HzK2, HV2⟩, HO⟩
  try dsimp only
  iapply (bindc c)
  iapply (part10 m K c)
  isplitl [HV2 HA2 HK3 HV3 HO]
  · isplitr; · iexact HR
    isplitl [HV2 HA2]
    · isplitl [HV2]
      · iexact HV2
      iexact HA2
    isplitl [HK3 HV3]
    · isplitl [HK3]
      · iexact HK3
      iexact HV3
    iexact HO
  iintro ⟨⟨HzV2, HA2⟩, ⟨HzK3, HV3⟩, HO⟩
  try dsimp only
  iapply (bindc c)
  iapply (part11 m K c)
  isplitl [HV3 HA3 HK4 HV4 HO]
  · isplitr; · iexact HR
    isplitl [HV3 HA3]
    · isplitl [HV3]
      · iexact HV3
      iexact HA3
    isplitl [HK4 HV4]
    · isplitl [HK4]
      · iexact HK4
      iexact HV4
    iexact HO
  iintro ⟨⟨HzV3, HA3⟩, ⟨HzK4, HV4⟩, HO⟩
  try dsimp only
  iapply (bindc c)
  iapply (part12 m K c)
  isplitl [HV4 HA4 HK5 HV5 HO]
  · isplitr; · iexact HR
    isplitl [HV4 HA4]
    · isplitl [HV4]
      · iexact HV4
      iexact HA4
    isplitl [HK5 HV5]
    · isplitl [HK5]
      · iexact HK5
      iexact HV5
    iexact HO
  iintro ⟨⟨HzV4, HA4⟩, ⟨HzK5, HV5⟩, HO⟩
  try dsimp only
  iapply (bindc c)
  iapply (part13 m K c)
  isplitl [HV5 HA5 HK6 HV6 HO]
  · isplitr; · iexact HR
    isplitl [HV5 HA5]
    · isplitl [HV5]
      · iexact HV5
      iexact HA5
    isplitl [HK6 HV6]
    · isplitl [HK6]
      · iexact HK6
      iexact HV6
    iexact HO
  iintro ⟨⟨HzV5, HA5⟩, ⟨HzK6, HV6⟩, HO⟩
  try dsimp only
  iapply (bindc c)
  iapply (part14 m K c)
  isplitl [HV6 HA6 HK7 HV7 HO]
  · isplitr; · iexact HR
    isplitl [HV6 HA6]
    · isplitl [HV6]
      · iexact HV6
      iexact HA6
    isplitl [HK7 HV7]
    · isplitl [HK7]
      · iexact HK7
      iexact HV7
    iexact HO
  iintro ⟨⟨HzV6, HA6⟩, ⟨HzK7, HV7⟩, HO⟩
  try dsimp only
  iapply (bindc c)
  iapply (part15 m c v14 v25 v36)
  isplitl [HV7 HA7 HA0 HA1 HA2 HA3 HA4 HA5 HA6 HWo Hpa]
  · isplitl [HV7 HA7]
    · isplitl [HV7]
      · iexact HV7
      iexact HA7
    isplitl [HA0 HA1 HA2 HA3 HA4 HA5 HA6]
    · isplitl [HA0]
      · iexact HA0
      isplitl [HA1]
      · iexact HA1
      isplitl [HA2]
      · iexact HA2
      isplitl [HA3]
      · iexact HA3
      isplitl [HA4]
      · iexact HA4
      isplitl [HA5]
      · iexact HA5
      iexact HA6
    isplitl [HWo]
    · iexact HWo
    iexact Hpa
  iintro %c64
  iintro ⟨HzV7, HA, HWo, Hpa⟩
  try dsimp only
  ihave Hall := (mk_sends m c) $$ [Hpa Hbp0 Hbp1 Hbp2 Hsd]
  · isplitl [Hpa]; · iexact Hpa
    isplitl [Hbp0 Hbp1 Hbp2]
    · isplitl [Hbp0]; · iexact Hbp0
      isplitl [Hbp1] <;> iassumption
    iexact Hsd
  icases Hall with ⟨⟨Hp0, Hp1⟩, ⟨HR00, HR10, HR20, HR01, HR11, HR21⟩, HI00, HI10, HI20, HI01, HI11, HI21⟩
  iapply (bindc c)
  iapply (part16 m K c v2 v14 v25 v36 c64)
  isplitl [HR00 HO]
  · isplitr; · iexact HR
    isplitl [HR00]
    · iexact HR00
    iexact HO
  iintro ⟨HX00, HO⟩
  try dsimp only
  iapply (bindc c)
  iapply (part17 m K c v14 v25 v36)
  isplitl [HR10 HR20 HR01 HO]
  · isplitr; · iexact HR
    isplitl [HR10]
    · iexact HR10
    isplitl [HR20]
    · iexact HR20
    isplitl [HR01]
    · iexact HR01
    iexact HO
  iintro %r
  iintro ⟨HX10, HX20, HX01, HO⟩
  obtain ⟨v483, c0⟩ := r
  try dsimp only
  iapply (bindc c)
  iapply (part18 m K c v14 v25 v36 v483 c0)
  isplitl [HR11 HR21 HE100 HO]
  · isplitr; · iexact HR
    isplitl [HR11]
    · iexact HR11
    isplitl [HR21]
    · iexact HR21
    isplitl [HE100]
    · iexact HE100
    iexact HO
  iintro %v508
  iintro ⟨HX11, HX21, HG100, HO⟩
  try dsimp only
  iapply (bindc c)
  iapply (part19 m K c v2 v25 v508)
  isplitl [Hp0 HG100 HE110 HE120 HO]
  · isplitr; · iexact HR
    isplitl [Hp0]
    · iexact Hp0
    isplitl [HG100]
    · iexact HG100
    isplitl [HE110]
    · iexact HE110
    isplitl [HE120]
    · iexact HE120
    iexact HO
  iintro ⟨HZ0, HL0, HO⟩
  try dsimp only
  rw [red26 m c 0]
  iapply (bindc c)
  iapply (part20 m K c v2 v14 v36)
  isplitl [Hr0 Ho0 HI00 HI10 HO]
  · isplitr; · iexact HR
    isplitl [Hr0]
    · iexact Hr0
    isplitl [Ho0]
    · iexact Ho0
    isplitl [HI00]
    · iexact HI00
    isplitl [HI10]
    · iexact HI10
    iexact HO
  iintro ⟨HY00, HY10, Ho0, HS2, HO⟩
  try dsimp only
  iapply (bindc c)
  iapply (part21 m K c v14 v25 v36)
  isplitl [HI20 HS2 HE101 HE111 HO]
  · isplitr; · iexact HR
    isplitl [HI20]
    · iexact HI20
    isplitl [HS2]
    · iexact HS2
    isplitl [HE101]
    · iexact HE101
    isplitl [HE111]
    · iexact HE111
    iexact HO
  iintro %c1
  iintro ⟨HY20, HG101, HG111, HO⟩
  try dsimp only
  iapply (bindc c)
  iapply (part22 m K c v2 v25 c1)
  isplitl [Hp1 HG101 HG111 HE121 Hr1 Ho1 HO]
  · isplitr; · iexact HR
    isplitl [Hp1]
    · iexact Hp1
    isplitl [HG101]
    · iexact HG101
    isplitl [HG111]
    · iexact HG111
    isplitl [HE121]
    · iexact HE121
    isplitl [Hr1]
    · iexact Hr1
    isplitl [Ho1]
    · iexact Ho1
    iexact HO
  iintro ⟨HZ1, HL1, Hr1, Ho1, HO⟩
  try dsimp only
  iapply (bindc c)
  iapply (part23 m K c v14 v25 v36)
  isplitl [Hr1 HI01 HI11 HI21 HO]
  · isplitr; · iexact HR
    isplitl [Hr1]
    · iexact Hr1
    isplitl [HI01]
    · iexact HI01
    isplitl [HI11]
    · iexact HI11
    isplitl [HI21]
    · iexact HI21
    iexact HO
  iintro ⟨HY01, HY11, HY21, HO⟩
  try dsimp only
  iapply (bindc c)
  iapply (part24 m K c v14 v25 v36)
  isplitl [HE300 HE310 HE320 HO]
  · isplitr; · iexact HR
    isplitl [HE300]
    · iexact HE300
    isplitl [HE310]
    · iexact HE310
    isplitl [HE320]
    · iexact HE320
    iexact HO
  iintro ⟨HG300, HG310, HG320, HO⟩
  try dsimp only
  iapply (bindc c)
  iapply (part25 m K c)
  isplitl [HX00 HX10 HX20 HY00 HO]
  · isplitr; · iexact HR
    isplitl [HX00]
    · iexact HX00
    isplitl [HX10]
    · iexact HX10
    isplitl [HX20]
    · iexact HX20
    isplitl [HY00]
    · iexact HY00
    iexact HO
  iintro ⟨HG000, HG010, HG020, HG200, HO⟩
  try dsimp only
  iapply (bindc c)
  iapply (part26 m K c v14 v36)
  isplitl [HY10 HY20 HE301 HE311 HO]
  · isplitr; · iexact HR
    isplitl [HY10]
    · iexact HY10
    isplitl [HY20]
    · iexact HY20
    isplitl [HE301]
    · iexact HE301
    isplitl [HE311]
    · iexact HE311
    iexact HO
  iintro ⟨HG210, HG220, HG301, HG311, HO⟩
  try dsimp only
  iapply (bindc c)
  iapply (part27 m K c v25)
  isplitl [HE321 HX01 HX11 HO]
  · isplitr; · iexact HR
    isplitl [HE321]
    · iexact HE321
    isplitl [HX01]
    · iexact HX01
    isplitl [HX11]
    · iexact HX11
    iexact HO
  iintro ⟨HG321, HG001, HG011, HO⟩
  try dsimp only
  simp only [Prog.bind_op, Prog.bind_ret]
  iapply (step_got m K c (0, 2, 1) rfl (crPa _ _ _) (D 15) (by decide)) $$ [HX21 HO]
  · isplitr; · iexact HR
    isplitl [HX21]; · iexact HX21
    iexact HO
  iintro ⟨HG021, HO⟩
  iapply (step_got m K c (2, 0, 1) rfl (crRd _ _ _) (D 15) (by decide)) $$ [HY01 HO]
  · isplitr; · iexact HR
    isplitl [HY01]; · iexact HY01
    iexact HO
  iintro ⟨HG201, HO⟩
  iapply (ret c)
  iapply Hk
  unfold Post28
  isplitl [HX HW HWo HzK0 HzK1 HzK2 HzK3 HzK4 HzK5 HzK6 HzK7 HzV0 HzV1 HzV2 HzV3 HzV4 HzV5 HzV6 HzV7 HA HG000 HG010 HG020 HG001 HG011 HG021 HG200 HG210 HG220 HG201 HG300 HG310 HG320 HG301 HG311 HG321 HZ0 HZ1 HL0 HL1 Ho0 Ho1 Hz]
  · isplitl [HX HW HWo]
    · isplitl [HX]
      · iexact HX
      isplitl [HW]
      · iexact HW
      iexact HWo
    isplitl [HzK0 HzK1 HzK2 HzK3 HzK4 HzK5 HzK6 HzK7]
    · isplitl [HzK0]
      · iexact HzK0
      isplitl [HzK1]
      · iexact HzK1
      isplitl [HzK2]
      · iexact HzK2
      isplitl [HzK3]
      · iexact HzK3
      isplitl [HzK4]
      · iexact HzK4
      isplitl [HzK5]
      · iexact HzK5
      isplitl [HzK6]
      · iexact HzK6
      iexact HzK7
    isplitl [HzV0 HzV1 HzV2 HzV3 HzV4 HzV5 HzV6 HzV7]
    · isplitl [HzV0]
      · iexact HzV0
      isplitl [HzV1]
      · iexact HzV1
      isplitl [HzV2]
      · iexact HzV2
      isplitl [HzV3]
      · iexact HzV3
      isplitl [HzV4]
      · iexact HzV4
      isplitl [HzV5]
      · iexact HzV5
      isplitl [HzV6]
      · iexact HzV6
      iexact HzV7
    isplitl [HA]
    · iexact HA
    isplitl [HG000 HG010 HG020 HG001 HG011 HG021]
    · isplitl [HG000]
      · iexact HG000
      isplitl [HG010]
      · iexact HG010
      isplitl [HG020]
      · iexact HG020
      isplitl [HG001]
      · iexact HG001
      isplitl [HG011]
      · iexact HG011
      iexact HG021
    isplitl [HG200 HG210 HG220 HG201]
    · isplitl [HG200]
      · iexact HG200
      isplitl [HG210]
      · iexact HG210
      isplitl [HG220]
      · iexact HG220
      iexact HG201
    isplitl [HG300 HG310 HG320 HG301 HG311 HG321]
    · isplitl [HG300]
      · iexact HG300
      isplitl [HG310]
      · iexact HG310
      isplitl [HG320]
      · iexact HG320
      isplitl [HG301]
      · iexact HG301
      isplitl [HG311]
      · iexact HG311
      iexact HG321
    isplitl [HZ0 HZ1]
    · isplitl [HZ0]
      · iexact HZ0
      iexact HZ1
    isplitl [HL0 HL1]
    · isplitl [HL0]
      · iexact HL0
      iexact HL1
    isplitl [Ho0 Ho1]
    · isplitl [Ho0]
      · iexact Ho0
      iexact Ho1
    iexact Hz
  isplitl [HY11]
  · iexact HY11
  isplitl [HY21]
  · iexact HY21
  iexact HO

/-- The body, on any device. -/
theorem body {Q : PUnit → sProp 𝕄} :
    iprop((recs m K ∗ Pre m c ∗ ow c (D 0)) ∗ ((Post m c ∗ ow c (D 15)) -∗ Q ⟨⟩))
      ⊢ wpc c (cc0_body (F := F) xM (Memref.isWhole_whole _) wqM (Memref.isWhole_whole _) woM (Memref.isWhole_whole _) khM (Memref.isWhole_whole _) vhM (Memref.isWhole_whole _) oM (Memref.isWhole_whole _) kM (Memref.isWhole_whole _) vM (Memref.isWhole_whole _) atM (Memref.isWhole_whole _) paM (Memref.isWhole_whole _) rsM (Memref.isWhole_whole _) rdM (Memref.isWhole_whole _) cc0_scratch6 cc0_scratch7 cc0_scratch8 cc0_scratch9 cc0_scratch10) Q := by
  rw [cc0_body_eq_skeleton]; unfold cc0_body_skel
  simp only [Prog.lift, Prog.pure_eq_ret]
  iintro ⟨⟨#HR, HP, HO⟩, Hk⟩
  iapply (bindc c)
  iapply (part28 m K c)
  isplitl [HP HO]
  · isplitr; · iexact HR
    isplitl [HP]; · iexact HP
    iexact HO
  iintro ⟨HP, HY11, HY21, HO⟩
  simp only [Prog.bind_op, Prog.bind_ret]
  iapply (step_got m K c (2, 1, 1) rfl (crRd _ _ _) (D 15) (by decide)) $$ [HY11 HO]
  · isplitr; · iexact HR
    isplitl [HY11]; · iexact HY11
    iexact HO
  iintro ⟨HG211, HO⟩
  iapply (step_got m K c (2, 2, 1) rfl (crRd _ _ _) (D 15) (by decide)) $$ [HY21 HO]
  · isplitr; · iexact HR
    isplitl [HY21]; · iexact HY21
    iexact HO
  iintro ⟨HG221, HO⟩
  iapply (ret c)
  iapply Hk
  unfold Post
  isplitl [HP HG211 HG221]
  · isplitl [HP]
    · iexact HP
    isplitl [HG211]
    · iexact HG211
    iexact HG221
  iexact HO

end Cert.Pf
-- ==== Proof.Pieces.lean ====
/-
What a device holds at the launch, cut into what the body takes; and what the body leaves, joined again.
-/
module

public import proofs.«01_k».proof.Proof.Body

@[expose] public section

noncomputable section

namespace Cert.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- A buffer whole, at some contents. -/
abbrev buf (b : Ref sig .tc) : sProp 𝕄 := iprop(∃ f, (c : Thread nD τ).loc b ↦{fullShare} f)

/-- Some contents of a buffer. -/
def partV0 (b : Ref sig .tc) : Buf (Elt F) ((c : Thread nD τ).loc b) := m ((c : Thread nD τ).loc b)

/-! ## Families of views that tile a buffer -/

theorem blocks_split {ℓ : Loc nD τ sig} {B : Type} [Fintype B] [DecidableEq B] (I : B → Finset (Idx ℓ)) (hd : ∀ b b', b ≠ b' → Disjoint (I b) (I b'))
    (Φ : B → sProp 𝕄) (h : ∀ b, Φ b = iprop(∃ f, ℓ ↦[I b]{fullShare} f)) :
    iprop(∃ f, ℓ ↦{fullShare} f) ⊢ bigSep Finset.univ Φ := by
  rw [funext h]
  exact (Ring.fam_split_ex I hd).trans sep_elim_left

theorem blocks_join {ℓ : Loc nD τ sig} {B : Type} [Fintype B] [DecidableEq B] (I : B → Finset (Idx ℓ)) (hd : ∀ b b', b ≠ b' → Disjoint (I b) (I b'))
    (hc : ∀ i, ∃ b, i ∈ I b) (f₀ : Buf (Elt F) ℓ)
    (Φ : B → sProp 𝕄) (h : ∀ b, Φ b = iprop(∃ f, ℓ ↦[I b]{fullShare} f)) :
    bigSep Finset.univ Φ ⊢ iprop(∃ f, ℓ ↦{fullShare} f) := by
  rw [funext h]
  exact Ring.pointsTo_blocks_join_exists I hd (Finset.eq_univ_iff_forall.mpr fun i => by
    obtain ⟨b, hb⟩ := hc i; exact Finset.mem_biUnion.mpr ⟨b, Finset.mem_univ _, hb⟩) f₀

include m in
theorem k_all : (bigSep Finset.univ fun b : Fin 8 => hv c (kB b).view : sProp 𝕄) ⊢ buf c cc0_scratch0 :=
  blocks_join (ℓ := (c : Thread nD τ).loc cc0_scratch0) (fun b : Fin 8 => (kB b).view.set) kB_disj kB_cover (partV0 m c cc0_scratch0) _ fun _ => rfl
theorem k_cut : buf c cc0_scratch0 ⊢ (bigSep Finset.univ fun b : Fin 8 => hv c (kB b).view : sProp 𝕄) :=
  blocks_split (ℓ := (c : Thread nD τ).loc cc0_scratch0) (fun b : Fin 8 => (kB b).view.set) kB_disj _ fun _ => rfl
include m in
theorem v_all : (bigSep Finset.univ fun b : Fin 8 => hv c (vB b).view : sProp 𝕄) ⊢ buf c cc0_scratch1 :=
  blocks_join (ℓ := (c : Thread nD τ).loc cc0_scratch1) (fun b : Fin 8 => (vB b).view.set) vB_disj vB_cover (partV0 m c cc0_scratch1) _ fun _ => rfl
theorem v_cut : buf c cc0_scratch1 ⊢ (bigSep Finset.univ fun b : Fin 8 => hv c (vB b).view : sProp 𝕄) :=
  blocks_split (ℓ := (c : Thread nD τ).loc cc0_scratch1) (fun b : Fin 8 => (vB b).view.set) vB_disj _ fun _ => rfl
include m in
theorem rs_all : (bigSep Finset.univ fun b : Fin 4 × Fin 2 => hv c (rsB b.1 b.2).view : sProp 𝕄) ⊢ buf c cc0_scratch4 :=
  blocks_join (ℓ := (c : Thread nD τ).loc cc0_scratch4) (fun b : Fin 4 × Fin 2 => (rsB b.1 b.2).view.set) rsB_disj rsB_cover (partV0 m c cc0_scratch4) _ fun _ => rfl
theorem rs_cut : buf c cc0_scratch4 ⊢ (bigSep Finset.univ fun b : Fin 4 × Fin 2 => hv c (rsB b.1 b.2).view : sProp 𝕄) :=
  blocks_split (ℓ := (c : Thread nD τ).loc cc0_scratch4) (fun b : Fin 4 × Fin 2 => (rsB b.1 b.2).view.set) rsB_disj _ fun _ => rfl
include m in
theorem rd_all : (bigSep Finset.univ fun b : Fin 2 => hv c (rdB b).view : sProp 𝕄) ⊢ buf c cc0_scratch5 :=
  blocks_join (ℓ := (c : Thread nD τ).loc cc0_scratch5) (fun b : Fin 2 => (rdB b).view.set) rdB_disj rdB_cover (partV0 m c cc0_scratch5) _ fun _ => rfl
theorem rd_cut : buf c cc0_scratch5 ⊢ (bigSep Finset.univ fun b : Fin 2 => hv c (rdB b).view : sProp 𝕄) :=
  blocks_split (ℓ := (c : Thread nD τ).loc cc0_scratch5) (fun b : Fin 2 => (rdB b).view.set) rdB_disj _ fun _ => rfl
include m in
theorem o_all : (bigSep Finset.univ fun b : Fin 4 × Fin 2 => hv c (oB b.1 b.2).view : sProp 𝕄) ⊢ buf c cc0_stg3_0 :=
  blocks_join (ℓ := (c : Thread nD τ).loc cc0_stg3_0) (fun b : Fin 4 × Fin 2 => (oB b.1 b.2).view.set) oB_disj oB_cover (partV0 m c cc0_stg3_0) _ fun _ => rfl
theorem o_cut : buf c cc0_stg3_0 ⊢ (bigSep Finset.univ fun b : Fin 4 × Fin 2 => hv c (oB b.1 b.2).view : sProp 𝕄) :=
  blocks_split (ℓ := (c : Thread nD τ).loc cc0_stg3_0) (fun b : Fin 4 × Fin 2 => (oB b.1 b.2).view.set) oB_disj _ fun _ => rfl
include m in
theorem pa_all : (bigSep Finset.univ fun b : Fin 4 × Fin 2 => hv c (paB b.1 b.2).view : sProp 𝕄) ⊢ buf c cc0_scratch3 :=
  blocks_join (ℓ := (c : Thread nD τ).loc cc0_scratch3) (fun b : Fin 4 × Fin 2 => (paB b.1 b.2).view.set) paB_disj paB_cover (partV0 m c cc0_scratch3) _ fun _ => rfl
theorem pa_cut : buf c cc0_scratch3 ⊢ (bigSep Finset.univ fun b : Fin 4 × Fin 2 => hv c (paB b.1 b.2).view : sProp 𝕄) :=
  blocks_split (ℓ := (c : Thread nD τ).loc cc0_scratch3) (fun b : Fin 4 × Fin 2 => (paB b.1 b.2).view.set) paB_disj _ fun _ => rfl
theorem kh_cut : ((c : Thread nD τ).loc main_arg2 ↦{fullShare.right} m ((c : Thread nD τ).loc main_arg2) : sProp 𝕄)
    ⊢ bigSep Finset.univ fun h : Fin 8 => rd c (khB c h).view fullShare.right (kV m c h) := by
  rw [show (fun h : Fin 8 => rd c (khB c h).view fullShare.right (kV m c h) : Fin 8 → sProp 𝕄)
      = fun h : Fin 8 => ((c : Thread nD τ).loc main_arg2 ↦[(khB c h).view.set]{fullShare.right} m ((c : Thread nD τ).loc main_arg2)) from
    funext fun h => rd_pts c (khB c h).view fullShare.right _ (m ((c : Thread nD τ).loc main_arg2)) rfl]
  exact (Ring.fam_split _ (khB_disj c) _).trans sep_elim_left
theorem vh_cut : ((c : Thread nD τ).loc main_arg3 ↦{fullShare.right} m ((c : Thread nD τ).loc main_arg3) : sProp 𝕄)
    ⊢ bigSep Finset.univ fun h : Fin 8 => rd c (vhB c h).view fullShare.right (vV m c h) := by
  rw [show (fun h : Fin 8 => rd c (vhB c h).view fullShare.right (vV m c h) : Fin 8 → sProp 𝕄)
      = fun h : Fin 8 => ((c : Thread nD τ).loc main_arg3 ↦[(vhB c h).view.set]{fullShare.right} m ((c : Thread nD τ).loc main_arg3)) from
    funext fun h => rd_pts c (vhB c h).view fullShare.right _ (m ((c : Thread nD τ).loc main_arg3)) rfl]
  exact (Ring.fam_split _ (vhB_disj c) _).trans sep_elim_left

/-! ## The ghost state -/

/-- A device's own tokens: its barrier's three and each transfer cell's one; -/
abbrev TI : Type := Fin 3 ⊕ XI
abbrev tokOf (ct : Dev nD × TI) : GSem nD τ sig × ℕ × Fin 3 := match ct.2 with
  | .inl s => (barC ct.1, 0, s) | .inr x => (xC ct.1 x, 0, 0)
def tok (ct : Dev nD × TI) : sProp 𝕄 := dutyTok ER (tokOf ct).1 (tokOf ct).2.1 (tokOf ct).2.2
/-- whose token of that kind a device pays with. -/
def payee (t : TI) (c : Dev nD) : Dev nD := match t with
  | .inl s => tg c (rv s)
  | .inr (0, _, _) => c | .inr (1, s, _) => tg c s | .inr (2, _, _) => c | .inr (3, s, _) => tg c s
def payer (t : TI) (c : Dev nD) : Dev nD := match t with
  | .inl s => pl c (rv s)
  | .inr (0, _, _) => c | .inr (1, s, _) => pl c s | .inr (2, _, _) => c | .inr (3, s, _) => pl c s
def around : Dev nD × TI ≃ Dev nD × TI where
  toFun ct := (payee ct.2 ct.1, ct.2)
  invFun ct := (payer ct.2 ct.1, ct.2)
  left_inv := by decide
  right_inv := by decide

/-- What a device starts with of the exchanges. -/
def gh : sProp 𝕄 := iprop((bigSep Finset.univ fun i : CI => atPos ER (kcell (c, i)) 0 ∅ 0) ∗ bigSep Finset.univ fun t : TI => tok (around (c, t)))
/-- Its credit. -/
def crd : sProp 𝕄 := iprop(cred (tallyAt (barC c) () 3)
  ∗ cred (tallyAt (xC c (1, 0, 0)) () N) ∗ cred (tallyAt (xC c (1, 1, 0)) () N) ∗ cred (tallyAt (xC c (1, 2, 0)) () N) ∗ cred (tallyAt (xC c (1, 0, 1)) () N) ∗ cred (tallyAt (xC c (1, 1, 1)) () N) ∗ cred (tallyAt (xC c (1, 2, 1)) () N)
  ∗ cred (tallyAt (xC c (3, 0, 0)) () N) ∗ cred (tallyAt (xC c (3, 1, 0)) () N) ∗ cred (tallyAt (xC c (3, 2, 0)) () N) ∗ cred (tallyAt (xC c (3, 0, 1)) () N) ∗ cred (tallyAt (xC c (3, 1, 1)) () N) ∗ cred (tallyAt (xC c (3, 2, 1)) () N))
/-- The local copies' cells, at zero. -/
def lsems : sProp 𝕄 := bigSep Finset.univ fun x : Fin 8 × Fin 2 => semVal (lC c x.1 x.2) 0

theorem x_list (Φ : XI → sProp 𝕄) : bigSep Finset.univ Φ = iprop(Φ (0, 0, 0) ∗ Φ (0, 1, 0) ∗ Φ (0, 2, 0) ∗ Φ (0, 0, 1) ∗ Φ (0, 1, 1) ∗ Φ (0, 2, 1) ∗ Φ (1, 0, 0) ∗ Φ (1, 1, 0) ∗ Φ (1, 2, 0) ∗ Φ (1, 0, 1) ∗ Φ (1, 1, 1) ∗ Φ (1, 2, 1) ∗ Φ (2, 0, 0) ∗ Φ (2, 1, 0) ∗ Φ (2, 2, 0) ∗ Φ (2, 0, 1) ∗ Φ (2, 1, 1) ∗ Φ (2, 2, 1) ∗ Φ (3, 0, 0) ∗ Φ (3, 1, 0) ∗ Φ (3, 2, 0) ∗ Φ (3, 0, 1) ∗ Φ (3, 1, 1) ∗ Φ (3, 2, 1)) :=
  bigSep_univ_eq_bigSepL [(0, 0, 0), (0, 1, 0), (0, 2, 0), (0, 0, 1), (0, 1, 1), (0, 2, 1), (1, 0, 0), (1, 1, 0), (1, 2, 0), (1, 0, 1), (1, 1, 1), (1, 2, 1), (2, 0, 0), (2, 1, 0), (2, 2, 0), (2, 0, 1), (2, 1, 1), (2, 2, 1), (3, 0, 0), (3, 1, 0), (3, 2, 0), (3, 0, 1), (3, 1, 1), (3, 2, 1)] (by decide) (by decide) Φ
theorem ci_list (Φ : CI → sProp 𝕄) : bigSep Finset.univ Φ = iprop(Φ none ∗ Φ (some (0, 0, 0)) ∗ Φ (some (0, 1, 0)) ∗ Φ (some (0, 2, 0)) ∗ Φ (some (0, 0, 1)) ∗ Φ (some (0, 1, 1)) ∗ Φ (some (0, 2, 1)) ∗ Φ (some (1, 0, 0)) ∗ Φ (some (1, 1, 0)) ∗ Φ (some (1, 2, 0)) ∗ Φ (some (1, 0, 1)) ∗ Φ (some (1, 1, 1)) ∗ Φ (some (1, 2, 1)) ∗ Φ (some (2, 0, 0)) ∗ Φ (some (2, 1, 0)) ∗ Φ (some (2, 2, 0)) ∗ Φ (some (2, 0, 1)) ∗ Φ (some (2, 1, 1)) ∗ Φ (some (2, 2, 1)) ∗ Φ (some (3, 0, 0)) ∗ Φ (some (3, 1, 0)) ∗ Φ (some (3, 2, 0)) ∗ Φ (some (3, 0, 1)) ∗ Φ (some (3, 1, 1)) ∗ Φ (some (3, 2, 1))) :=
  bigSep_univ_eq_bigSepL [none, some (0, 0, 0), some (0, 1, 0), some (0, 2, 0), some (0, 0, 1), some (0, 1, 1), some (0, 2, 1), some (1, 0, 0), some (1, 1, 0), some (1, 2, 0), some (1, 0, 1), some (1, 1, 1), some (1, 2, 1), some (2, 0, 0), some (2, 1, 0), some (2, 2, 0), some (2, 0, 1), some (2, 1, 1), some (2, 2, 1), some (3, 0, 0), some (3, 1, 0), some (3, 2, 0), some (3, 0, 1), some (3, 1, 1), some (3, 2, 1)] (by decide) (by decide) Φ
theorem ti_list (Φ : TI → sProp 𝕄) : bigSep Finset.univ Φ = iprop(Φ (.inl 0) ∗ Φ (.inl 1) ∗ Φ (.inl 2) ∗ Φ (.inr (0, 0, 0)) ∗ Φ (.inr (0, 1, 0)) ∗ Φ (.inr (0, 2, 0)) ∗ Φ (.inr (0, 0, 1)) ∗ Φ (.inr (0, 1, 1)) ∗ Φ (.inr (0, 2, 1)) ∗ Φ (.inr (1, 0, 0)) ∗ Φ (.inr (1, 1, 0)) ∗ Φ (.inr (1, 2, 0)) ∗ Φ (.inr (1, 0, 1)) ∗ Φ (.inr (1, 1, 1)) ∗ Φ (.inr (1, 2, 1)) ∗ Φ (.inr (2, 0, 0)) ∗ Φ (.inr (2, 1, 0)) ∗ Φ (.inr (2, 2, 0)) ∗ Φ (.inr (2, 0, 1)) ∗ Φ (.inr (2, 1, 1)) ∗ Φ (.inr (2, 2, 1)) ∗ Φ (.inr (3, 0, 0)) ∗ Φ (.inr (3, 1, 0)) ∗ Φ (.inr (3, 2, 0)) ∗ Φ (.inr (3, 0, 1)) ∗ Φ (.inr (3, 1, 1)) ∗ Φ (.inr (3, 2, 1))) :=
  bigSep_univ_eq_bigSepL ([.inl 0, .inl 1, .inl 2, .inr (0, 0, 0), .inr (0, 1, 0), .inr (0, 2, 0), .inr (0, 0, 1), .inr (0, 1, 1), .inr (0, 2, 1), .inr (1, 0, 0), .inr (1, 1, 0), .inr (1, 2, 0), .inr (1, 0, 1), .inr (1, 1, 1), .inr (1, 2, 1), .inr (2, 0, 0), .inr (2, 1, 0), .inr (2, 2, 0), .inr (2, 0, 1), .inr (2, 1, 1), .inr (2, 2, 1), .inr (3, 0, 0), .inr (3, 1, 0), .inr (3, 2, 0), .inr (3, 0, 1), .inr (3, 1, 1), .inr (3, 2, 1)] : List TI) (by decide) (by decide) Φ

theorem tok_b0 : (tok (around (c, .inl 0)) : sProp 𝕄) = dutyTok ER (barC (tg c 2)) 0 (rv 2) := rfl
theorem tok_b1 : (tok (around (c, .inl 1)) : sProp 𝕄) = dutyTok ER (barC (tg c 1)) 0 (rv 1) := rfl
theorem tok_b2 : (tok (around (c, .inl 2)) : sProp 𝕄) = dutyTok ER (barC (tg c 0)) 0 (rv 0) := rfl
theorem tok_x0 (s : Fin 3) (b : Fin 2) : (tok (around (c, .inr (0, s, b))) : sProp 𝕄) = dutyTok ER (xC c (0, s, b)) 0 0 := rfl
theorem tok_x1 (s : Fin 3) (b : Fin 2) : (tok (around (c, .inr (1, s, b))) : sProp 𝕄) = dutyTok ER (xC (tg c s) (1, s, b)) 0 0 := rfl
theorem tok_x2 (s : Fin 3) (b : Fin 2) : (tok (around (c, .inr (2, s, b))) : sProp 𝕄) = dutyTok ER (xC c (2, s, b)) 0 0 := rfl
theorem tok_x3 (s : Fin 3) (b : Fin 2) : (tok (around (c, .inr (3, s, b))) : sProp 𝕄) = dutyTok ER (xC (tg c s) (3, s, b)) 0 0 := rfl
theorem gh_cut : iprop(gh (F := F) c ∗ crd c) ⊢ iprop((dutyTok ER (barC (tg c 0)) 0 (rv 0) ∗ dutyTok ER (barC (tg c 1)) 0 (rv 1) ∗ dutyTok ER (barC (tg c 2)) 0 (rv 2))
    ∗ bw c ∗ sds c ∗ (ex c (1, 0, 0) ∗ ex c (1, 1, 0) ∗ ex c (1, 2, 0) ∗ ex c (1, 0, 1) ∗ ex c (1, 1, 1) ∗ ex c (1, 2, 1)) ∗ (ex c (3, 0, 0) ∗ ex c (3, 1, 0) ∗ ex c (3, 2, 0) ∗ ex c (3, 0, 1) ∗ ex c (3, 1, 1) ∗ ex c (3, 2, 1))) := by
  unfold gh crd bw sds sd ex
  rw [ci_list, ti_list]
  simp only [tok_b0, tok_b1, tok_b2, tok_x0, tok_x1, tok_x2, tok_x3]
  iintro ⟨⟨⟨AB, A000, A010, A020, A001, A011, A021, A100, A110, A120, A101, A111, A121, A200, A210, A220, A201, A211, A221, A300, A310, A320, A301, A311, A321⟩, T2, T1, T0, T000, T010, T020, T001, T011, T021, T100, T110, T120, T101, T111, T121, T200, T210, T220, T201, T211, T221, T300, T310, T320, T301, T311, T321⟩, CB, C100, C110, C120, C101, C111, C121, C300, C310, C320, C301, C311, C321⟩
  isplitl [T0 T1 T2]
  · isplitl [T0]
    · iexact T0
    isplitl [T1]
    · iexact T1
    iexact T2
  isplitl [CB AB]
  · isplitl [CB]
    · iexact CB
    iexact AB
  isplitl [T000 T100 A000 T010 T110 A010 T020 T120 A020 T001 T101 A001 T011 T111 A011 T021 T121 A021 T200 T300 A200 T210 T310 A210 T220 T320 A220 T201 T301 A201 T211 T311 A211 T221 T321 A221]
  · isplitl [T000 T100 A000]
    · isplitl [T000]
      · iexact T000
      isplitl [T100]
      · iexact T100
      iexact A000
    isplitl [T010 T110 A010]
    · isplitl [T010]
      · iexact T010
      isplitl [T110]
      · iexact T110
      iexact A010
    isplitl [T020 T120 A020]
    · isplitl [T020]
      · iexact T020
      isplitl [T120]
      · iexact T120
      iexact A020
    isplitl [T001 T101 A001]
    · isplitl [T001]
      · iexact T001
      isplitl [T101]
      · iexact T101
      iexact A001
    isplitl [T011 T111 A011]
    · isplitl [T011]
      · iexact T011
      isplitl [T111]
      · iexact T111
      iexact A011
    isplitl [T021 T121 A021]
    · isplitl [T021]
      · iexact T021
      isplitl [T121]
      · iexact T121
      iexact A021
    isplitl [T200 T300 A200]
    · isplitl [T200]
      · iexact T200
      isplitl [T300]
      · iexact T300
      iexact A200
    isplitl [T210 T310 A210]
    · isplitl [T210]
      · iexact T210
      isplitl [T310]
      · iexact T310
      iexact A210
    isplitl [T220 T320 A220]
    · isplitl [T220]
      · iexact T220
      isplitl [T320]
      · iexact T320
      iexact A220
    isplitl [T201 T301 A201]
    · isplitl [T201]
      · iexact T201
      isplitl [T301]
      · iexact T301
      iexact A201
    isplitl [T211 T311 A211]
    · isplitl [T211]
      · iexact T211
      isplitl [T311]
      · iexact T311
      iexact A211
    isplitl [T221]
    · iexact T221
    isplitl [T321]
    · iexact T321
    iexact A221
  isplitl [C100 A100 C110 A110 C120 A120 C101 A101 C111 A111 C121 A121]
  · isplitl [C100 A100]
    · isplitl [C100]
      · iexact C100
      iexact A100
    isplitl [C110 A110]
    · isplitl [C110]
      · iexact C110
      iexact A110
    isplitl [C120 A120]
    · isplitl [C120]
      · iexact C120
      iexact A120
    isplitl [C101 A101]
    · isplitl [C101]
      · iexact C101
      iexact A101
    isplitl [C111 A111]
    · isplitl [C111]
      · iexact C111
      iexact A111
    isplitl [C121]
    · iexact C121
    iexact A121
  isplitl [C300 A300]
  · isplitl [C300]
    · iexact C300
    iexact A300
  isplitl [C310 A310]
  · isplitl [C310]
    · iexact C310
    iexact A310
  isplitl [C320 A320]
  · isplitl [C320]
    · iexact C320
    iexact A320
  isplitl [C301 A301]
  · isplitl [C301]
    · iexact C301
    iexact A301
  isplitl [C311 A311]
  · isplitl [C311]
    · iexact C311
    iexact A311
  isplitl [C321]
  · iexact C321
  iexact A321

/-- What a device's body takes, out of its buffers, semaphores and ghost state; slot 0 of the landing buffer stays behind. -/
def keep : sProp 𝕄 := iprop(hv c (rsB 0 0).view ∗ hv c (rsB 0 1).view)
def bufs : sProp 𝕄 := iprop(buf c cc0_scratch0 ∗ buf c cc0_scratch1 ∗ buf c cc0_scratch2 ∗ buf c cc0_scratch3 ∗ buf c cc0_scratch4 ∗ buf c cc0_scratch5)
def stgs : sProp 𝕄 := iprop(((c : Thread nD τ).loc cc0_stg0_0 ↦{fullShare} xV m c) ∗ ((c : Thread nD τ).loc cc0_stg1_0 ↦{fullShare} wqV m c) ∗ ((c : Thread nD τ).loc cc0_stg2_0 ↦{fullShare} woV m c))
def args : sProp 𝕄 := iprop(((c : Thread nD τ).loc main_arg2 ↦{fullShare.right} m ((c : Thread nD τ).loc main_arg2)) ∗ ((c : Thread nD τ).loc main_arg3 ↦{fullShare.right} m ((c : Thread nD τ).loc main_arg3)))

theorem ls_list : (lsems c : sProp 𝕄) = iprop(semVal (lC c 0 0) 0 ∗ semVal (lC c 0 1) 0 ∗ semVal (lC c 1 0) 0 ∗ semVal (lC c 1 1) 0 ∗ semVal (lC c 2 0) 0 ∗ semVal (lC c 2 1) 0 ∗ semVal (lC c 3 0) 0 ∗ semVal (lC c 3 1) 0 ∗ semVal (lC c 4 0) 0 ∗ semVal (lC c 4 1) 0 ∗ semVal (lC c 5 0) 0 ∗ semVal (lC c 5 1) 0 ∗ semVal (lC c 6 0) 0 ∗ semVal (lC c 6 1) 0 ∗ semVal (lC c 7 0) 0 ∗ semVal (lC c 7 1) 0) :=
  bigSep_univ_eq_bigSepL [(0, 0), (0, 1), (1, 0), (1, 1), (2, 0), (2, 1), (3, 0), (3, 1), (4, 0), (4, 1), (5, 0), (5, 1), (6, 0), (6, 1), (7, 0), (7, 1)] (by decide) (by decide) _
theorem rs_list (Φ : Fin 4 × Fin 2 → sProp 𝕄) : bigSep Finset.univ Φ = iprop(Φ (0, 0) ∗ Φ (0, 1) ∗ Φ ((rv 0).succ, 0) ∗ Φ ((rv 1).succ, 0) ∗ Φ ((rv 2).succ, 0) ∗ Φ ((rv 0).succ, 1) ∗ Φ ((rv 1).succ, 1) ∗ Φ ((rv 2).succ, 1)) :=
  bigSep_univ_eq_bigSepL [(0, 0), (0, 1), ((rv 0).succ, 0), ((rv 1).succ, 0), ((rv 2).succ, 0), ((rv 0).succ, 1), ((rv 1).succ, 1), ((rv 2).succ, 1)] (by decide) (by decide) Φ
theorem dev_list (Φ : Fin 4 × Fin 2 → sProp 𝕄) : bigSep Finset.univ Φ = iprop(Φ (c, 0) ∗ Φ (c, 1) ∗ Φ (tg c 0, 0) ∗ Φ (tg c 1, 0) ∗ Φ (tg c 2, 0) ∗ Φ (tg c 0, 1) ∗ Φ (tg c 1, 1) ∗ Φ (tg c 2, 1)) :=
  bigSep_univ_eq_bigSepL [(c, 0), (c, 1), (tg c 0, 0), (tg c 1, 0), (tg c 2, 0), (tg c 0, 1), (tg c 1, 1), (tg c 2, 1)] (by revert c; decide) (by revert c; decide) Φ
theorem rs_list' (Φ : Fin 4 × Fin 2 → sProp 𝕄) : bigSep Finset.univ Φ = iprop(Φ (0, 0) ∗ Φ (0, 1) ∗ Φ ((0 : Fin 3).succ, 0) ∗ Φ ((1 : Fin 3).succ, 0) ∗ Φ ((2 : Fin 3).succ, 0) ∗ Φ ((0 : Fin 3).succ, 1) ∗ Φ ((1 : Fin 3).succ, 1) ∗ Φ ((2 : Fin 3).succ, 1)) :=
  bigSep_univ_eq_bigSepL [(0, 0), (0, 1), ((0 : Fin 3).succ, 0), ((1 : Fin 3).succ, 0), ((2 : Fin 3).succ, 0), ((0 : Fin 3).succ, 1), ((1 : Fin 3).succ, 1), ((2 : Fin 3).succ, 1)] (by decide) (by decide) Φ
theorem dev_list' (Φ : Fin 4 × Fin 2 → sProp 𝕄) : bigSep Finset.univ Φ = iprop(Φ (c, 0) ∗ Φ (c, 1) ∗ Φ (pl c 0, 0) ∗ Φ (pl c 1, 0) ∗ Φ (pl c 2, 0) ∗ Φ (pl c 0, 1) ∗ Φ (pl c 1, 1) ∗ Φ (pl c 2, 1)) :=
  bigSep_univ_eq_bigSepL [(c, 0), (c, 1), (pl c 0, 0), (pl c 1, 0), (pl c 2, 0), (pl c 0, 1), (pl c 1, 1), (pl c 2, 1)] (by revert c; decide) (by revert c; decide) Φ

theorem pa_pieces' : iprop(rd c (paB c 0).view fullShare (blk m c c 0) ∗ rd c (paB c 1).view fullShare (blk m c c 1)
      ∗ rd c (paB (tg c 0) 0).view fullShare (blk m c (tg c 0) 0) ∗ rd c (paB (tg c 1) 0).view fullShare (blk m c (tg c 1) 0) ∗ rd c (paB (tg c 2) 0).view fullShare (blk m c (tg c 2) 0) ∗ rd c (paB (tg c 0) 1).view fullShare (blk m c (tg c 0) 1) ∗ rd c (paB (tg c 1) 1).view fullShare (blk m c (tg c 1) 1) ∗ rd c (paB (tg c 2) 1).view fullShare (blk m c (tg c 2) 1))
    ⊢ bigSep Finset.univ fun b : Fin 4 × Fin 2 => rd c (paB b.1 b.2).view fullShare (blk m c b.1 b.2) :=
  Entails.of_eq (dev_list c (fun b : Fin 4 × Fin 2 => rd c (paB b.1 b.2).view fullShare (blk m c b.1 b.2))).symm

theorem pre_intro : iprop((stgs m c ∗ buf c cc0_stg3_0) ∗ args m c ∗ bufs c ∗ lsems c ∗ gh c ∗ crd c) ⊢ iprop(Pre m c ∗ keep c) := by
  unfold stgs args bufs Pre keep
  rw [ls_list]
  iintro ⟨⟨⟨HX, HW, HWo⟩, Ho⟩, ⟨Hk, Hv⟩, ⟨B0, B1, B2, Hpa, B4, B5⟩, ⟨L00, L01, L10, L11, L20, L21, L30, L31, L40, L41, L50, L51, L60, L61, L70, L71⟩, Hg, Hc⟩
  ihave HG := (gh_cut c) $$ [Hg Hc]
  · isplitl [Hg] <;> iassumption
  icases HG with ⟨⟨T0, T1, T2⟩, Hb, Hsd, ⟨E100, E110, E120, E101, E111, E121⟩, E300, E310, E320, E301, E311, E321⟩
  ihave Ho := ((o_cut c).trans (Entails.of_eq (dev_list c _))) $$ Ho
  icases Ho with ⟨Ho0, Ho1, O00, O10, O20, O01, O11, O21⟩
  ihave B4 := ((rs_cut c).trans (Entails.of_eq (rs_list _))) $$ B4
  icases B4 with ⟨K0, K1, R00, R10, R20, R01, R11, R21⟩
  ihave B5 := ((rd_cut c).trans (Entails.of_eq (bigSep2 _))) $$ B5
  icases B5 with ⟨D0, D1⟩
  ihave B2 := ((at_split c).trans (Entails.of_eq (bigSep8 _))) $$ B2
  icases B2 with ⟨A0, A1, A2, A3, A4, A5, A6, A7⟩
  ihave B0 := ((k_cut c).trans (Entails.of_eq (bigSep8 _))) $$ B0
  icases B0 with ⟨P0, P1, P2, P3, P4, P5, P6, P7⟩
  ihave B1 := ((v_cut c).trans (Entails.of_eq (bigSep8 _))) $$ B1
  icases B1 with ⟨Q0, Q1, Q2, Q3, Q4, Q5, Q6, Q7⟩
  ihave Hk := ((kh_cut m c).trans (Entails.of_eq (bigSep8 _))) $$ Hk
  icases Hk with ⟨M0, M1, M2, M3, M4, M5, M6, M7⟩
  ihave Hv := ((vh_cut m c).trans (Entails.of_eq (bigSep8 _))) $$ Hv
  icases Hv with ⟨N0, N1, N2, N3, N4, N5, N6, N7⟩
  ihave HX := (Entails.of_eq (wX_eq c cc0_stg0_0 (by decide) inb_S1x256x1024_S1x256x1024_0_0_0 (xV m c))) $$ HX
  ihave HW := (Entails.of_eq (wX_eq c cc0_stg1_0 (by decide) inb_S1024x1024_S1024x1024_0_0 (wqV m c))) $$ HW
  ihave HWo := (Entails.of_eq (wX_eq c cc0_stg2_0 (by decide) inb_S1024x1024_S1024x1024_0_0 (woV m c))) $$ HWo
  unfold lK lV sg wX wWq wWo
  isplitl [HX HW HWo M0 P0 L00 M1 P1 L10 M2 P2 L20 M3 P3 L30 M4 P4 L40 M5 P5 L50 M6 P6 L60 M7 P7 L70 N0 Q0 L01 N1 Q1 L11 N2 Q2 L21 N3 Q3 L31 N4 Q4 L41 N5 Q5 L51 N6 Q6 L61 N7 Q7 L71 A0 A1 A2 A3 A4 A5 A6 A7 Hpa R00 R01 O00 O01 T0 R10 R11 O10 O11 T1 R20 R21 O20 O21 T2 Hb Hsd E100 E110 E120 E101 E111 E121 E300 E310 E320 E301 E311 E321 D0 D1 Ho0 Ho1]
  · isplitl [HX HW HWo]
    · isplitl [HX]
      · iexact HX
      isplitl [HW]
      · iexact HW
      iexact HWo
    isplitl [M0 P0 L00 M1 P1 L10 M2 P2 L20 M3 P3 L30 M4 P4 L40 M5 P5 L50 M6 P6 L60 M7 P7 L70]
    · isplitl [M0 P0 L00]
      · isplitl [M0]
        · iexact M0
        isplitl [P0]
        · iexact P0
        iexact L00
      isplitl [M1 P1 L10]
      · isplitl [M1]
        · iexact M1
        isplitl [P1]
        · iexact P1
        iexact L10
      isplitl [M2 P2 L20]
      · isplitl [M2]
        · iexact M2
        isplitl [P2]
        · iexact P2
        iexact L20
      isplitl [M3 P3 L30]
      · isplitl [M3]
        · iexact M3
        isplitl [P3]
        · iexact P3
        iexact L30
      isplitl [M4 P4 L40]
      · isplitl [M4]
        · iexact M4
        isplitl [P4]
        · iexact P4
        iexact L40
      isplitl [M5 P5 L50]
      · isplitl [M5]
        · iexact M5
        isplitl [P5]
        · iexact P5
        iexact L50
      isplitl [M6 P6 L60]
      · isplitl [M6]
        · iexact M6
        isplitl [P6]
        · iexact P6
        iexact L60
      isplitl [M7]
      · iexact M7
      isplitl [P7]
      · iexact P7
      iexact L70
    isplitl [N0 Q0 L01 N1 Q1 L11 N2 Q2 L21 N3 Q3 L31 N4 Q4 L41 N5 Q5 L51 N6 Q6 L61 N7 Q7 L71]
    · isplitl [N0 Q0 L01]
      · isplitl [N0]
        · iexact N0
        isplitl [Q0]
        · iexact Q0
        iexact L01
      isplitl [N1 Q1 L11]
      · isplitl [N1]
        · iexact N1
        isplitl [Q1]
        · iexact Q1
        iexact L11
      isplitl [N2 Q2 L21]
      · isplitl [N2]
        · iexact N2
        isplitl [Q2]
        · iexact Q2
        iexact L21
      isplitl [N3 Q3 L31]
      · isplitl [N3]
        · iexact N3
        isplitl [Q3]
        · iexact Q3
        iexact L31
      isplitl [N4 Q4 L41]
      · isplitl [N4]
        · iexact N4
        isplitl [Q4]
        · iexact Q4
        iexact L41
      isplitl [N5 Q5 L51]
      · isplitl [N5]
        · iexact N5
        isplitl [Q5]
        · iexact Q5
        iexact L51
      isplitl [N6 Q6 L61]
      · isplitl [N6]
        · iexact N6
        isplitl [Q6]
        · iexact Q6
        iexact L61
      isplitl [N7]
      · iexact N7
      isplitl [Q7]
      · iexact Q7
      iexact L71
    isplitl [A0 A1 A2 A3 A4 A5 A6 A7]
    · isplitl [A0]
      · iexact A0
      isplitl [A1]
      · iexact A1
      isplitl [A2]
      · iexact A2
      isplitl [A3]
      · iexact A3
      isplitl [A4]
      · iexact A4
      isplitl [A5]
      · iexact A5
      isplitl [A6]
      · iexact A6
      iexact A7
    isplitl [Hpa]
    · iexact Hpa
    isplitl [R00 R01 O00 O01 T0 R10 R11 O10 O11 T1 R20 R21 O20 O21 T2]
    · isplitl [R00 R01 O00 O01 T0]
      · isplitl [R00 R01 O00 O01]
        · isplitl [R00]
          · iexact R00
          isplitl [R01]
          · iexact R01
          isplitl [O00]
          · iexact O00
          iexact O01
        iexact T0
      isplitl [R10 R11 O10 O11 T1]
      · isplitl [R10 R11 O10 O11]
        · isplitl [R10]
          · iexact R10
          isplitl [R11]
          · iexact R11
          isplitl [O10]
          · iexact O10
          iexact O11
        iexact T1
      isplitl [R20 R21 O20 O21]
      · isplitl [R20]
        · iexact R20
        isplitl [R21]
        · iexact R21
        isplitl [O20]
        · iexact O20
        iexact O21
      iexact T2
    isplitl [Hb]
    · iexact Hb
    isplitl [Hsd]
    · iexact Hsd
    isplitl [E100 E110 E120 E101 E111 E121]
    · isplitl [E100]
      · iexact E100
      isplitl [E110]
      · iexact E110
      isplitl [E120]
      · iexact E120
      isplitl [E101]
      · iexact E101
      isplitl [E111]
      · iexact E111
      iexact E121
    isplitl [E300 E310 E320 E301 E311 E321]
    · isplitl [E300]
      · iexact E300
      isplitl [E310]
      · iexact E310
      isplitl [E320]
      · iexact E320
      isplitl [E301]
      · iexact E301
      isplitl [E311]
      · iexact E311
      iexact E321
    isplitl [D0]
    · iexact D0
    isplitl [D1]
    · iexact D1
    isplitl [Ho0]
    · iexact Ho0
    iexact Ho1
  isplitl [K0]
  · iexact K0
  iexact K1

theorem post_elim : iprop(Post m c ∗ keep c) ⊢ iprop((stgs m c ∗ ((c : Thread nD τ).loc cc0_stg3_0 ↦{fullShare} outV m)) ∗ bufs c ∗ lsems c
    ∗ (bigSep Finset.univ fun x : XI => zx c x) ∗ semVal (barC c) 0) := by
  unfold Post Post28 keep stgs bufs got zK zV lnd wX wWq wWo
  rw [ls_list, x_list]
  simp only [xPay]
  iintro ⟨⟨⟨⟨HX, HW, HWo⟩, ⟨⟨P0, L00⟩, ⟨P1, L10⟩, ⟨P2, L20⟩, ⟨P3, L30⟩, ⟨P4, L40⟩, ⟨P5, L50⟩, ⟨P6, L60⟩, ⟨P7, L70⟩⟩, ⟨⟨Q0, L01⟩, ⟨Q1, L11⟩, ⟨Q2, L21⟩, ⟨Q3, L31⟩, ⟨Q4, L41⟩, ⟨Q5, L51⟩, ⟨Q6, L61⟩, ⟨Q7, L71⟩⟩, HA,
    ⟨⟨Z000, F000⟩, ⟨Z010, F010⟩, ⟨Z020, F020⟩, ⟨Z001, F001⟩, ⟨Z011, F011⟩, ⟨Z021, F021⟩⟩, ⟨⟨Z200, F200⟩, ⟨Z210, F210⟩, ⟨Z220, F220⟩, ⟨Z201, F201⟩⟩, ⟨⟨Z300, F300⟩, ⟨Z310, F310⟩, ⟨Z320, F320⟩, ⟨Z301, F301⟩, ⟨Z311, F311⟩, ⟨Z321, F321⟩⟩,
    ⟨⟨Z100, Z110, Z120⟩, Z101, Z111, Z121⟩, ⟨⟨P00, R00, R10, R20⟩, P01, R01, R11, R21⟩, ⟨O0, O1⟩, HB⟩, ⟨Z211, F211⟩, Z221, F221⟩, K0, K1⟩
  ihave HX := (Entails.of_eq (wX_eq c cc0_stg0_0 (by decide) inb_S1x256x1024_S1x256x1024_0_0_0 (xV m c)).symm) $$ HX
  ihave HW := (Entails.of_eq (wX_eq c cc0_stg1_0 (by decide) inb_S1024x1024_S1024x1024_0_0 (wqV m c)).symm) $$ HW
  ihave HWo := (Entails.of_eq (wX_eq c cc0_stg2_0 (by decide) inb_S1024x1024_S1024x1024_0_0 (woV m c)).symm) $$ HWo
  ihave HO := ((Entails.of_eq (dev_list' c (fun b : Fin 4 × Fin 2 => rd c (oB b.1 b.2).view fullShare (redV m b.1 b.2))).symm).trans (Entails.of_eq (o_join m c))) $$ [O0 O1 F300 F310 F320 F301 F311 F321]
  · isplitl [O0]
    · iexact O0
    isplitl [O1]
    · iexact O1
    isplitl [F300]
    · iexact F300
    isplitl [F310]
    · iexact F310
    isplitl [F320]
    · iexact F320
    isplitl [F301]
    · iexact F301
    isplitl [F311]
    · iexact F311
    iexact F321
  ihave R00 := (rd_hv c _ _) $$ R00
  ihave R10 := (rd_hv c _ _) $$ R10
  ihave R20 := (rd_hv c _ _) $$ R20
  ihave R01 := (rd_hv c _ _) $$ R01
  ihave R11 := (rd_hv c _ _) $$ R11
  ihave R21 := (rd_hv c _ _) $$ R21
  ihave B4 := ((Entails.of_eq (rs_list' (fun b : Fin 4 × Fin 2 => hv c (rsB b.1 b.2).view)).symm).trans (rs_all m c)) $$ [K0 K1 R00 R10 R20 R01 R11 R21]
  · isplitl [K0]
    · iexact K0
    isplitl [K1]
    · iexact K1
    isplitl [R00]
    · iexact R00
    isplitl [R10]
    · iexact R10
    isplitl [R20]
    · iexact R20
    isplitl [R01]
    · iexact R01
    isplitl [R11]
    · iexact R11
    iexact R21
  ihave HP := ((pa_pieces' m c).trans (Entails.of_eq (pa_split m c).symm)) $$ [P00 P01 F000 F010 F020 F001 F011 F021]
  · isplitl [P00]
    · iexact P00
    isplitl [P01]
    · iexact P01
    isplitl [F000]
    · iexact F000
    isplitl [F010]
    · iexact F010
    isplitl [F020]
    · iexact F020
    isplitl [F001]
    · iexact F001
    isplitl [F011]
    · iexact F011
    iexact F021
  ihave D0 := (rd_unshare c (rdB 0).view (redV m c 0)) $$ [F200 F210 F220]
  · isplitl [F200]
    · iexact F200
    isplitl [F210]
    · iexact F210
    iexact F220
  ihave D1 := (rd_unshare c (rdB 1).view (redV m c 1)) $$ [F201 F211 F221]
  · isplitl [F201]
    · iexact F201
    isplitl [F211]
    · iexact F211
    iexact F221
  ihave B5 := ((Entails.of_eq (bigSep2 (fun b : Fin 2 => hv c (rdB b).view)).symm).trans (rd_all m c)) $$ [D0 D1]
  · isplitl [D0]
    · iexact D0
    iexact D1
  ihave B0 := ((Entails.of_eq (bigSep8 (fun b : Fin 8 => hv c (kB b).view)).symm).trans (k_all m c)) $$ [P0 P1 P2 P3 P4 P5 P6 P7]
  · isplitl [P0]
    · iexact P0
    isplitl [P1]
    · iexact P1
    isplitl [P2]
    · iexact P2
    isplitl [P3]
    · iexact P3
    isplitl [P4]
    · iexact P4
    isplitl [P5]
    · iexact P5
    isplitl [P6]
    · iexact P6
    iexact P7
  ihave B1 := ((Entails.of_eq (bigSep8 (fun b : Fin 8 => hv c (vB b).view)).symm).trans (v_all m c)) $$ [Q0 Q1 Q2 Q3 Q4 Q5 Q6 Q7]
  · isplitl [Q0]
    · iexact Q0
    isplitl [Q1]
    · iexact Q1
    isplitl [Q2]
    · iexact Q2
    isplitl [Q3]
    · iexact Q3
    isplitl [Q4]
    · iexact Q4
    isplitl [Q5]
    · iexact Q5
    isplitl [Q6]
    · iexact Q6
    iexact Q7
  isplitl [HX HW HWo HO]
  · isplitl [HX HW HWo]
    · isplitl [HX]; · iexact HX
      isplitl [HW]; · iexact HW
      iexact HWo
    iexact HO
  isplitl [B0 B1 HA HP B4 B5]
  · isplitl [B0]; · iexact B0
    isplitl [B1]; · iexact B1
    isplitl [HA]; · iexists _; iexact HA
    isplitl [HP]; · iexists _; iexact HP
    isplitl [B4]; · iexact B4
    iexact B5
  isplitl [L00 L01 L10 L11 L20 L21 L30 L31 L40 L41 L50 L51 L60 L61 L70 L71]
  · isplitl [L00]
    · iexact L00
    isplitl [L01]
    · iexact L01
    isplitl [L10]
    · iexact L10
    isplitl [L11]
    · iexact L11
    isplitl [L20]
    · iexact L20
    isplitl [L21]
    · iexact L21
    isplitl [L30]
    · iexact L30
    isplitl [L31]
    · iexact L31
    isplitl [L40]
    · iexact L40
    isplitl [L41]
    · iexact L41
    isplitl [L50]
    · iexact L50
    isplitl [L51]
    · iexact L51
    isplitl [L60]
    · iexact L60
    isplitl [L61]
    · iexact L61
    isplitl [L70]
    · iexact L70
    iexact L71
  isplitl [Z000 Z010 Z020 Z001 Z011 Z021 Z100 Z110 Z120 Z101 Z111 Z121 Z200 Z210 Z220 Z201 Z211 Z221 Z300 Z310 Z320 Z301 Z311 Z321]
  · isplitl [Z000]
    · iexact Z000
    isplitl [Z010]
    · iexact Z010
    isplitl [Z020]
    · iexact Z020
    isplitl [Z001]
    · iexact Z001
    isplitl [Z011]
    · iexact Z011
    isplitl [Z021]
    · iexact Z021
    isplitl [Z100]
    · iexact Z100
    isplitl [Z110]
    · iexact Z110
    isplitl [Z120]
    · iexact Z120
    isplitl [Z101]
    · iexact Z101
    isplitl [Z111]
    · iexact Z111
    isplitl [Z121]
    · iexact Z121
    isplitl [Z200]
    · iexact Z200
    isplitl [Z210]
    · iexact Z210
    isplitl [Z220]
    · iexact Z220
    isplitl [Z201]
    · iexact Z201
    isplitl [Z211]
    · iexact Z211
    isplitl [Z221]
    · iexact Z221
    isplitl [Z300]
    · iexact Z300
    isplitl [Z310]
    · iexact Z310
    isplitl [Z320]
    · iexact Z320
    isplitl [Z301]
    · iexact Z301
    isplitl [Z311]
    · iexact Z311
    iexact Z321
  iexact HB

end Cert.Pf
-- ==== Proof.Run.lean ====
/-
The launch: every device's resources dealt, the body's obligation, and the run of @main.
-/
module

public import proofs.«01_k».proof.Proof.Pieces
public import Idealize.ShloMosaic.Lib.Pipeline.CollectiveSegs

@[expose] public section

noncomputable section

namespace Cert.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Rounds Idealize.ShloMosaic.Transfers

variable {F : FTy → Type} [FloatOps F]

local notation "𝕄" => MT nD τ sig Unit (Elt F) ℕ UU ℕ

variable (ρ : Dev nD → PrngReg) (m : (ℓ : Loc nD τ sig) → Buf (Elt F) ℓ) (K : Dev nD × CI → ℕ) (c : Dev nD)

/-- The memory at launch. -/
def s₀ : MemSt nD τ sig (Elt F) := ⟨m, fun _ => 0, ρ⟩

/-! ## The pipeline's data -/

/-- The invariants, the marks and the ghost state, before the levels are known. -/
def ghost : sProp 𝕄 := iprop((∃ K : Dev nD × CI → ℕ, (bigSep Finset.univ fun ck : Dev nD × CI => cellInv ER (kRd m) (K ck) (kcell ck))
    ∗ (bigSep Finset.univ fun ck : Dev nD × CI => reached ER (kcell ck) 0) ∗ gh c) ∗ lsems c)
def start : sProp 𝕄 := iprop(ghost m c ∗ levAts L lv ∗ crd c ∗ args m c)
def Φ₀ : sProp 𝕄 := iprop(start m c ∗ bufs c)
def Φ₁ : sProp 𝕄 := iprop(bufs (F := F) c ∗ lsems c ∗ (bigSep Finset.univ fun x : XI => zx c x) ∗ semVal (barC c) 0)

def dats (_ : Fin 1) (c : Dev nD) : Dat τ (Elt F) Unit ℕ UU ℕ cfg0 c where
  A w := m ((cfg0.win w).arr.view.loc (c : Thread nD τ))
  after w _ := match w with
    | ⟨0, _⟩ => xV m c
    | ⟨1, _⟩ => wqV m c
    | ⟨2, _⟩ => woV m c
    | ⟨3, _⟩ => outV m
  Φ t := match t with
    | ⟨0, _⟩ => Φ₀ m c
    | ⟨_ + 1, _⟩ => Φ₁ c
  q _ := fullShare
  owed t := match t with
    | ⟨0, _⟩ => owe c dues
    | ⟨_ + 1, _⟩ => 0

theorem cfg0_N : cfg0.N = 1 := N_0
def t₀ : Fin cfg0.N := t0_0
theorem before0 (d) : (dats m 0 c).before (0 : Fin 4) t₀ d = xV m c := by
  unfold Dat.before; rw [if_pos (fetch0_0 t₀)]; rfl
theorem before1 (d) : (dats m 0 c).before (1 : Fin 4) t₀ d = wqV m c := by
  unfold Dat.before; rw [if_pos (fetch0_1 t₀)]; rfl
theorem before2 (d) : (dats m 0 c).before (2 : Fin 4) t₀ d = woV m c := by
  unfold Dat.before; rw [if_pos (fetch0_2 t₀)]; rfl

theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

/-- A staging buffer at contents `X`. -/
abbrev stg (b : Ref sig .tc) (X : b.ty.Contents (Elt F)) : sProp 𝕄 :=
  iprop(∃ f : Buf (Elt F) ((c : Thread nD τ).loc b), ⌜f = X⌝ ∗ ((c : Thread nD τ).loc b ↦{fullShare} f))

set_option maxRecDepth 4000 in
def bodyPre : sProp 𝕄 :=
  iprop(Φ₀ m c ∗ (dats m 0 c).owesAt () t₀.castSucc
    ∗ (∃ d, stg c cc0_stg0_0 ((dats m 0 c).before (0 : Fin 4) t₀ d))
    ∗ (∃ d, stg c cc0_stg1_0 ((dats m 0 c).before (1 : Fin 4) t₀ d))
    ∗ (∃ d, stg c cc0_stg2_0 ((dats m 0 c).before (2 : Fin 4) t₀ d))
    ∗ (∃ d, stg c cc0_stg3_0 ((dats m 0 c).before (3 : Fin 4) t₀ d)))
def bodyPost : sProp 𝕄 :=
  iprop(Φ₁ (F := F) c ∗ (dats m 0 c).owesAt () t₀.succ
    ∗ stg c cc0_stg0_0 (xV m c) ∗ stg c cc0_stg1_0 (wqV m c) ∗ stg c cc0_stg2_0 (woV m c) ∗ stg c cc0_stg3_0 (outV m))

set_option maxRecDepth 4000 in
theorem sound_body : bodyPre m c ⊢ wpc c (cc0_body (F := F) xM (Memref.isWhole_whole _) wqM (Memref.isWhole_whole _) woM (Memref.isWhole_whole _) khM (Memref.isWhole_whole _) vhM (Memref.isWhole_whole _) oM (Memref.isWhole_whole _) kM (Memref.isWhole_whole _) vM (Memref.isWhole_whole _) atM (Memref.isWhole_whole _) paM (Memref.isWhole_whole _) rsM (Memref.isWhole_whole _) rdM (Memref.isWhole_whole _) cc0_scratch6 cc0_scratch7 cc0_scratch8 cc0_scratch9 cc0_scratch10) (fun _ => bodyPost m c) := by
  unfold bodyPre Φ₀ start ghost
  iintro ⟨⟨⟨⟨⟨%K, #HI, #HR, Hg⟩, Hls⟩, #Hlev, Hc, Ha⟩, Hbuf⟩, Ho, ⟨%d0, %g0, %hg0, Hx⟩, ⟨%d1, %g1, %hg1, Hq⟩, ⟨%d2, %g2, %hg2, Hw⟩, ⟨%d3, %g3, %hg3, Hout⟩⟩
  have hx : g0 = xV m c := by rw [hg0, before0]
  have hq : g1 = wqV m c := by rw [hg1, before1]
  have hw : g2 = woV m c := by rw [hg2, before2]
  subst hx hq hw
  unfold Dat.owesAt Pipeline.owesWithin
  icases Ho with ⟨%W, -, HO⟩
  rw [show (dats m 0 c).owed t₀.castSucc = owe c dues from rfl]
  ihave HP := (pre_intro m c) $$ [Hx Hq Hw Hout Ha Hbuf Hls Hg Hc]
  · unfold stgs
    isplitl [Hx Hq Hw Hout]
    · isplitl [Hx Hq Hw]
      · isplitl [Hx]; · iexact Hx
        isplitl [Hq] <;> iassumption
      iexists g3; iexact Hout
    isplitl [Ha]; · iexact Ha
    isplitl [Hbuf]; · iexact Hbuf
    isplitl [Hls]; · iexact Hls
    isplitl [Hg] <;> iassumption
  icases HP with ⟨HP, Hkeep⟩
  iapply (body m K c)
  isplitl [HP HO]
  · isplitr
    · unfold recs
      isplitr; · iexact HI
      isplitr; · iexact HR
      iexact Hlev
    isplitl [HP]; · iexact HP
    unfold ow
    iexists W; iexact HO
  iintro ⟨HP, HO⟩
  ihave HP := (post_elim m c) $$ [HP Hkeep]
  · isplitl [HP] <;> iassumption
  unfold stgs
  icases HP with ⟨⟨⟨Hx, Hq, Hw⟩, Hout⟩, Hbuf, Hls, Hz, Hzb⟩
  unfold bodyPost Φ₁ Dat.owesAt Pipeline.owesWithin ow
  icases HO with ⟨%W', HO⟩
  rw [show (dats m 0 c).owed t₀.succ = 0 from rfl]
  isplitl [Hbuf Hls Hz Hzb]
  · isplitl [Hbuf]; · iexact Hbuf
    isplitl [Hls]; · iexact Hls
    isplitl [Hz] <;> iassumption
  isplitl [HO]
  · iexists W'
    isplitr; · ipureintro; exact fun _ _ => Or.inl trivial
    iexact HO
  isplitl [Hx]
  · iexists _; isplitr; · (ipureintro; rfl)
    iexact Hx
  isplitl [Hq]
  · iexists _; isplitr; · (ipureintro; rfl)
    iexact Hq
  isplitl [Hw]
  · iexists _; isplitr; · (ipureintro; rfl)
    iexact Hw
  iexists _; isplitr; · (ipureintro; rfl)
  iexact Hout

set_option maxRecDepth 16000 in
theorem body_obligation : BodyObligation (dats (F := F) m 0 c) (defs₀ (F := F)) 𝒱₀ () Set.univ := fun t => by
  rw [show t = t₀ from fin_N0 t]
  rw [bigSep_W0, bigSep_W0]
  simp only [owns_whole_eq]
  have h := sound_body m c
  unfold bodyPre bodyPost stg at h
  exact h

/-! ## The launch -/

abbrev OI : Type := (Fin 8 × Fin 2) ⊕ XI
/-- The kernel's own semaphores. -/
abbrev osem : OI → SemLoc sig := fun | .inl x => .dma (lsem x.1 x.2) | .inr x => .dma (xsem x)
theorem lsem_inj : Function.Injective fun x : Fin 8 × Fin 2 => lsem x.1 x.2 := by
  rintro ⟨a, b⟩ ⟨a', b'⟩ h
  have := congrArg Fin.val h
  simp only [lsem] at this
  refine Prod.ext (Fin.ext ?_) (Fin.ext ?_) <;> simp only <;> omega
theorem ownSemFacts : Pipeline.OwnSemFacts cfg0.spec osem where
  isScoped := by rintro (x | x) <;> revert x <;> decide
  inj := by
    rintro (x | x) (y | y) h
    · exact congrArg Sum.inl (lsem_inj (SemLoc.dma.inj h))
    · exact absurd (congrArg Fin.val (SemLoc.dma.inj h)) (by simp only [lsem, xsem]; omega)
    · exact absurd (congrArg Fin.val (SemLoc.dma.inj h)) (by simp only [lsem, xsem]; omega)
    · exact congrArg Sum.inr (xsem_inj (SemLoc.dma.inj h))
  disj := by
    intro k w s
    have hw : ((cfg0.spec w).sem s).val < 4 := by revert w s; decide
    rcases k with x | x
    · exact fun h => absurd (congrArg Fin.val (SemLoc.dma.inj h)) (by simp only [lsem]; omega)
    · exact fun h => absurd (congrArg Fin.val (SemLoc.dma.inj h)) (by simp only [xsem]; omega)

theorem share_eq (w : Fin cfg0.W) : (dats m 0 c).share w = fullShare := by unfold Dat.share; split <;> rfl

theorem csem_inj : Function.Injective csem := by
  rintro (_ | x) (_ | y) h
  · rfl
  · exact absurd h (fun h => by cases h)
  · exact absurd h (fun h => by cases h)
  · exact congrArg some (xsem_inj (SemLoc.dma.inj h))
theorem kcell_inj : Function.Injective (kcell : Dev nD × CI → GSem nD τ sig) := by
  rintro ⟨c, k⟩ ⟨c', k'⟩ h
  have h1 : c = c' := congrArg (fun g : GSem nD τ sig => g.1.1) h
  exact Prod.ext h1 (csem_inj (congrArg Prod.snd h))
def kCells : Finset (GSem nD τ sig) := Finset.univ.map ⟨kcell, kcell_inj⟩
theorem tokOf_inj : Function.Injective (tokOf : Dev nD × TI → GSem nD τ sig × ℕ × Fin 3) := by
  rintro ⟨c, t⟩ ⟨c', t'⟩ h
  have h1 : c = c' := by
    have := congrArg (fun x : GSem nD τ sig × ℕ × Fin 3 => x.1.1.1) h
    rcases t with t | t <;> rcases t' with t' | t' <;> exact this
  refine Prod.ext h1 ?_
  have h2 := congrArg (fun x : GSem nD τ sig × ℕ × Fin 3 => x.1.2) h
  have h3 := congrArg (fun x : GSem nD τ sig × ℕ × Fin 3 => x.2.2) h
  rcases t with t | t <;> rcases t' with t' | t'
  · exact congrArg Sum.inl h3
  · exact absurd h2 (fun h => by cases h)
  · exact absurd h2 (fun h => by cases h)
  · exact congrArg Sum.inr (xsem_inj (SemLoc.dma.inj h2))
def kToks : Finset (GSem nD τ sig × ℕ × Fin 3) := Finset.univ.map ⟨tokOf, tokOf_inj⟩

def u₀ : UU := (initOf (Pipeline.cells cfgs cellOf_inj) (Pipeline.launchToks cfgs cellOf_inj), (initOf kCells kToks, 1))

theorem own_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- What the launch deals each device. -/
def G : sProp 𝕄 := iprop((bigSep Finset.univ fun k : CI => roundState ER (kRd m) (kcell (c, k)) 0)
  ∗ (bigSep Finset.univ fun k : CI => atPos ER (kcell (c, k)) 0 ∅ 0) ∗ (bigSep Finset.univ fun k : CI => reached ER (kcell (c, k)) 0)
  ∗ bigSep Finset.univ fun t : TI => tok (c, t))

theorem deal : BI.own (ER (initOf kCells kToks)) ⊢ (|==> bigSep Finset.univ (G m) : sProp 𝕄) := by
  have hX (Φ : GSem nD τ sig → sProp 𝕄) : bigSep kCells Φ = bigSep Finset.univ fun c : Dev nD => bigSep Finset.univ fun k : CI => Φ (kcell (c, k)) := by
    unfold kCells; rw [bigSep_map, bigSep_univ_prod]; rfl
  have hT : bigSep kToks (fun x => (dutyTok ER x.1 x.2.1 x.2.2 : sProp 𝕄)) = bigSep Finset.univ fun c : Dev nD => bigSep Finset.univ fun t : TI => tok (c, t) := by
    unfold kToks; rw [bigSep_map, bigSep_univ_prod]; rfl
  iintro HX
  imod (Rounds.fund ER (kRd m) kCells kToks) $$ HX with ⟨Hst, Hr, Hat, Htok⟩
  imodintro
  ihave Hst := (Entails.of_eq (hX fun g => roundState ER (kRd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr]; · iexact Hr
  iexact Htok

theorem ownSems0_eq : (Pipeline.ownSems0 (Ix := Unit) (Name := ℕ) (U := UU) (Lvl := ℕ) (Val := Elt F) (τ := τ) osem c : sProp 𝕄)
    = iprop(lsems c ∗ bigSep Finset.univ fun x : XI => zx c x) := by
  unfold Pipeline.ownSems0
  rw [BI.bigSep_univ_sum]
  rfl
theorem unscopedSems0_eq : (unscopedSems0 c : sProp 𝕄) = semVal (barC c) 0 := by
  unfold unscopedSems0; rw [bigSep_eq_bigSepL_of_eq [SemLoc.reg barS] (by decide) (by decide)]; rfl
theorem cells_eq : (bigSep Finset.univ fun k : CI => semVal (kcell (c, k)) 0 : sProp 𝕄) = iprop(semVal (barC c) 0 ∗ bigSep Finset.univ fun x : XI => zx c x) := by
  rw [ci_list, x_list]; rfl

theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (kRd m) κ (kcell (c, k))))
          ∗ (bigSep Finset.univ fun k : CI => atPos ER (kcell (c, k)) 0 ∅ 0) ∗ (bigSep Finset.univ fun k : CI => reached ER (kcell (c, k)) 0)
          ∗ (bigSep Finset.univ fun t : TI => tok (c, t)) ∗ lsems c) := by
  rw [ownSems0_eq, unscopedSems0_eq]
  unfold G
  iintro ⟨⟨Hls, Hz⟩, Hb, Hst, Hat, Hr, Htok⟩
  ihave Hv := (Entails.of_eq (cells_eq (F := F) c).symm) $$ [Hb Hz]
  · isplitl [Hb] <;> iassumption
  imod (show iprop((bigSep Finset.univ fun k : CI => semVal (kcell (c, k)) 0) ∗ bigSep Finset.univ fun k : CI => roundState ER (kRd m) (kcell (c, k)) 0)
      ⊢ (|={Set.univ}=> bigSep Finset.univ fun k : CI => iprop(∃ κ : ℕ, cellInv ER (kRd m) κ (kcell (c, k))) : sProp 𝕄) from by
        rw [← bigSep_sep']
        exact (bigSep_mono fun k _ => (Rounds.body_intro ER (kRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  isplitl [Htok] <;> iassumption

theorem toks_around : (bigSep Finset.univ fun c : Dev nD => bigSep Finset.univ fun t : TI => (tok (c, t) : sProp 𝕄))
    = bigSep Finset.univ fun c : Dev nD => bigSep Finset.univ fun t : TI => tok (around (c, t)) := by
  rw [← bigSep_univ_prod (fun ct : Dev nD × TI => (tok ct : sProp 𝕄)), ← bigSep_univ_prod (fun ct : Dev nD × TI => (tok (around ct) : sProp 𝕄))]
  exact bigSep_univ_equiv around _

theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CI => iprop(∃ κ : ℕ, cellInv ER (kRd m) κ (kcell (c, k))))
          ∗ (bigSep Finset.univ fun k : CI => atPos ER (kcell (c, k)) 0 ∅ 0) ∗ (bigSep Finset.univ fun k : CI => reached ER (kcell (c, k)) 0)
          ∗ (bigSep Finset.univ fun t : TI => tok (c, t)) ∗ lsems c) : sProp 𝕄)
      ⊢ bigSep Finset.univ (ghost m) := by
  rw [bigSep_sep', bigSep_sep', bigSep_sep', bigSep_sep', ← bigSep_univ_prod (fun ck : Dev nD × CI => iprop(∃ κ : ℕ, cellInv ER (kRd m) κ (kcell ck))),
    ← bigSep_univ_prod (fun ck : Dev nD × CI => (reached ER (kcell ck) 0 : sProp 𝕄)), toks_around]
  iintro ⟨HI, Hat, #HR, Htok, Hls⟩
  ihave HK := (BI.bigSep_exists_pi Finset.univ (fun (ck : Dev nD × CI) (κ : ℕ) => (cellInv ER (kRd m) κ (kcell ck) : sProp 𝕄))) $$ HI
  icases HK with ⟨%K, #HI⟩
  iapply (with_all (R := iprop((bigSep Finset.univ fun ck : Dev nD × CI => cellInv ER (kRd m) (K ck) (kcell ck))
      ∗ (bigSep Finset.univ fun ck : Dev nD × CI => reached ER (kcell ck) 0))) (Φ := fun c : Dev nD => iprop(gh c ∗ lsems c)) fun c _ => by
    unfold ghost
    iintro ⟨⟨#HI, #HR⟩, Hg, Hls⟩
    isplitl [Hg]
    · iexists K
      isplitr; · iexact HI
      isplitr; · iexact HR
      iexact Hg
    iexact Hls)
  isplitr
  · isplitr; · iexact HI
    iexact HR
  unfold gh; simp only [bigSep_sep']
  isplitl [Hat Htok]
  · isplitl [Hat] <;> iassumption
  iexact Hls

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (ghost m) :=
  ((bigSep_mono fun c _ => core_alloc m c).trans (bigSep_fupd _ _)).trans (BI.fupd_mono (regroup m))

/-! ### The launch credit -/

/-- A device's own cell of a due's kind. -/
abbrev own : Due → GSem nD τ sig := fun | .inl _ => barC c | .inr x => xC c x
def crs : List Due → sProp 𝕄
  | [] => iprop(emp)
  | d :: l => iprop(crs l ∗ cred (tallyAt (own c d) () (damt d)))
theorem cred_due (d : Due) : (Pipeline.launchCred (fun c : Dev nD => tallyAt (dcell c d) () (damt d)) c : sProp 𝕄) ⊢ cred (tallyAt (own c d) () (damt d)) := by
  rcases d with s | x
  · exact Pipeline.launchCred_tallyAt (.reg barS) (fun c => tg c s) (fun c => pl c s) (fun c => tg_pl c s) (fun c => pl_tg c s) () 1 c
  · exact Pipeline.launchCred_tallyAt (.dma (xsem x)) (fun c => tg c x.2.1) (fun c => pl c x.2.1) (fun c => tg_pl c x.2.1) (fun c => pl_tg c x.2.1) () N c
theorem creds : ∀ l : List Due, (Pipeline.launchCred (fun c : Dev nD => owe c l) c : sProp 𝕄) ⊢ crs c l
  | [] => Entails.of_eq (Pipeline.launchCred_zero c)
  | d :: l => (Entails.of_eq (Pipeline.launchCred_add (fun c => owe c l) (fun c => tallyAt (dcell c d) () (damt d)) c)).trans
      (BI.sep_mono (creds l) (cred_due c d))
theorem bar3 : iprop(cred (tallyAt (barC c) () 1) ∗ cred (tallyAt (barC c) () 1) ∗ cred (tallyAt (barC c) () 1)) ⊢ (cred (tallyAt (barC c) () 3) : sProp 𝕄) := by
  rw [show (tallyAt (barC c) () 3 : CellTallies nD τ sig Unit) = tallyAt (barC c) () 1 + (tallyAt (barC c) () 1 + tallyAt (barC c) () 1) by
    rw [tallyAt_add, tallyAt_add]]
  exact (sep_mono_right (cred_add _ _).2).trans (cred_add _ _).2
theorem crd_intro : (crs c dues : sProp 𝕄) ⊢ crd c := by
  unfold crd
  simp only [crs]
  iintro ⟨⟨⟨⟨⟨⟨⟨⟨⟨⟨⟨⟨⟨⟨⟨-, C321⟩, C311⟩, C301⟩, C320⟩, C310⟩, C300⟩, C121⟩, C111⟩, C101⟩, C120⟩, C110⟩, C100⟩, B2⟩, B1⟩, B0⟩
  isplitl [B0 B1 B2]
  · iapply (bar3 c)
    isplitl [B0]; · iexact B0
    isplitl [B1] <;> iassumption
  isplitl [C100]; · iexact C100
  isplitl [C110]; · iexact C110
  isplitl [C120]; · iexact C120
  isplitl [C101]; · iexact C101
  isplitl [C111]; · iexact C111
  isplitl [C121]; · iexact C121
  isplitl [C300]; · iexact C300
  isplitl [C310]; · iexact C310
  isplitl [C320]; · iexact C320
  isplitl [C301]; · iexact C301
  isplitl [C311]; · iexact C311
  iexact C321

/-! ### The theorem's side conditions -/

/-- Half of the keys and of the values stays outside. -/
def held : sProp 𝕄 := iprop(((c : Thread nD τ).loc main_arg2 ↦{fullShare.left} m ((c : Thread nD τ).loc main_arg2)) ∗ ((c : Thread nD τ).loc main_arg3 ↦{fullShare.left} m ((c : Thread nD τ).loc main_arg3)))
theorem half {ℓ : Loc nD τ sig} (f : Buf (Elt F) ℓ) : (ℓ ↦{fullShare} f : sProp 𝕄) ⊢ iprop((ℓ ↦{fullShare.left} f) ∗ (ℓ ↦{fullShare.right} f)) :=
  (pointsTo_share (PosShare.mem_left_op_right fullShare)).1

theorem start_intro :
    iprop(Pipeline.unscopedRestP Pipeline.Prefetch.none cfg0.spec c (fun b => m ((c : Thread nD τ).loc b)) ∗ levAts L lv
        ∗ Pipeline.launchCred (fun c : Dev nD => owe c dues) c ∗ prngReg c (ρ c) ∗ ghost m c)
      ⊢ |={Set.univ}=> iprop(start m c ∗ held m c) := by
  rw [Pipeline.unscopedRestP_none, show cfg0.spec = spec0 from rfl, unscopedRest0_eq]
  iintro ⟨⟨H2, H3⟩, Hlev, Hcr, -, HG⟩
  ihave Hc := ((creds c dues).trans (crd_intro c)) $$ Hcr
  ihave H2 := (half _) $$ H2
  ihave H3 := (half _) $$ H3
  icases H2 with ⟨H2l, H2⟩
  icases H3 with ⟨H3l, H3⟩
  imodintro
  unfold start held args
  isplitl [HG Hlev Hc H2 H3]
  · isplitl [HG]; · iexact HG
    isplitl [Hlev]; · iexact Hlev
    isplitl [Hc]; · iexact Hc
    isplitl [H2] <;> iassumption
  isplitl [H2l] <;> iassumption

theorem phi0_intro :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show cfg0.spec = spec0 from rfl, scopedRest0_eq]
  unfold Φ₀ bufs
  iintro ⟨Hs, -, Hr⟩
  isplitl [Hs]; · iexact Hs
  iexact Hr

theorem phi1_exit :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, show cfg0.spec = spec0 from rfl, scopedRest0_eq, ownSems0_eq, unscopedSems0_eq]
  unfold Φ₁ bufs
  iintro ⟨Hr, Hls, Hz, HB⟩
  isplitl [HB]; · iexact HB
  isplitl [Hls Hz]
  · isplitl [Hls] <;> iassumption
  iexact Hr

theorem waits : (levAts L lv : sProp 𝕄) ⊢ Pipeline.cellsWaits cfgs (dats m) () 0 c :=
  Pipeline.cellsWaits_intro cfgs (dats m) () 0 c fun w s t => by
    have hlv : ∀ d ∈ dues, lvS (.dma ((cfg0.win w).sem s)) < dlv d := by revert w s; decide
    rcases t with ⟨_ | _, ht⟩
    · exact mayWait c _ dues hlv
    · exact mayWait c _ [] (fun d hd => absurd hd List.not_mem_nil)

/-! ### The run -/

def finalA (w : Fin cfg0.W) : Buf (Elt F) ((cfg0.win w).arr.view.loc (c : Thread nD τ)) := (dats m 0 c).arrAt w cfg0.N

/-- What a run leaves. -/
def Res (r : PUnit × MemSt nD τ sig (Elt F)) : Prop :=
  (∀ c : Dev nD, (∀ w : Fin cfg0.W, r.2.mem ((cfg0.win w).arr.view.loc (c : Thread nD τ)) = finalA m c w)
    ∧ r.2.mem ((c : Thread nD τ).loc main_arg2) = m ((c : Thread nD τ).loc main_arg2) ∧ r.2.mem ((c : Thread nD τ).loc main_arg3) = m ((c : Thread nD τ).loc main_arg3))
  ∧ r.2.sem = fun _ => 0

theorem held_read (s' : Phys nD τ sig (Elt F)) : iprop(held m c ∗ SI s') ⊢ iprop(⌜s'.mem.mem ((c : Thread nD τ).loc main_arg2) = m ((c : Thread nD τ).loc main_arg2)
    ∧ s'.mem.mem ((c : Thread nD τ).loc main_arg3) = m ((c : Thread nD τ).loc main_arg3)⌝ ∗ SI s') := by
  unfold held
  iintro ⟨⟨H2, H3⟩, HSI⟩
  icombine HSI H2 gives %h2
  icombine HSI H3 gives %h3
  isplitr
  · ipureintro
    exact ⟨Buf.eq_of_forall_mem_univ h2, Buf.eq_of_forall_mem_univ h3⟩
  iexact HSI

set_option maxRecDepth 8000 in
/-- From any memory with zero counters, over any values: every weakly fair execution of @main on the four devices
    terminates, with the windows' arrays at the computed contents, the keys and the values unchanged and every counter zero. -/
theorem run_main : θ_run defs (onTc (τ := τ) (main (F := F))) (s₀ ρ m) (Res m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun c => owe c dues) (howed₀ := fun _ => rfl) (howedN := fun _ => rfl)
    (L := L) (lv := lv) (hL := L_of_ne) (hwaits := waits m)
    (G := G m) (G' := ghost m) (u₀ := u₀)
    (hu₀ := by
      unfold u₀
      iintro Hu
      ihave H := (own_split _ _) $$ Hu
      icases H with ⟨HP, HX⟩
      imod (deal m) $$ HX with HG
      imodintro
      isplitl [HP] <;> iassumption)
    (hglob := glob m)
    (hA := fun _ _ => rfl) (hpf := fun _ k => k.elim0)
    (X := start m) (Y := fun c => unscopedSems0 c) (Z := held m)
    (hX := start_intro ρ m) (hin := phi0_intro m) (hout := phi1_exit m)
    (QY := fun c s => (∀ sm : SemLoc sig, sm.isScoped .tc = false → s.sem ((c.tc : Thread nD τ), sm) = 0)
      ∧ s.mem ((c : Thread nD τ).loc main_arg2) = m ((c : Thread nD τ).loc main_arg2) ∧ s.mem ((c : Thread nD τ).loc main_arg3) = m ((c : Thread nD τ).loc main_arg3))
    (hY := fun c s' => by
      iintro ⟨Hu, Hz, HSI⟩
      imod (Pipeline.unscopedSems0_read (X := unscopedSems0 c) (c := c) fupd_intro s') $$ [Hu HSI] with ⟨%h1, HSI⟩
      · isplitl [Hu] <;> iassumption
      ihave H := (held_read m c s') $$ [Hz HSI]
      · isplitl [Hz] <;> iassumption
      icases H with ⟨%h2, HSI⟩
      imodintro
      isplitr
      · ipureintro; exact ⟨h1, h2⟩
      iexact HSI)
    (hQ := fun _ h hs => ⟨fun c => ⟨(h c).1, (h c).2.2.2⟩, sem_eq_zero hs fun c => (h c).2.2.1⟩)

/-- The operands' arrays hold what they held. -/
theorem finalA_in (w : Fin cfg0.W) (h : (cfg0.win w).isOut = false) : finalA m c w = m ((cfg0.win w).arr.view.loc (c : Thread nD τ)) :=
  (dats (F := F) m 0 c).arrAt_in w h _

end Cert.Pf
-- ==== Proof.Frames.lean ====
/-
The frames: each of the three programs runs, leaves its arguments as they were and every counter at zero.
-/
module

public import proofs.«01_k».proof.Proof.Run
public import proofs.«01_k».proof.Defs
public import proofs.«01_k».proof.Proof.Gen.Kernel
public import proofs.«01_k».proof.Proof.Gen.ReferenceIdeal
public import proofs.«01_k».proof.Proof.Gen.ReferenceIdeal.Run

@[expose] public section

noncomputable section

namespace Cert.Pf

open Idealize.ShloMosaic Idealize.SL.Sem
open Idealize.ShloMosaic.TcCoe

variable {F : FTy → Type} [FloatOps F]

/-- Device `c`'s five arguments are unchanged, over any values. -/
theorem args_kept (m : (ℓ : Loc Cert.KernelIdeal.nD Cert.KernelIdeal.τ Cert.KernelIdeal.sig) → Buf (Elt F) ℓ)
    {r : PUnit × MemSt Cert.KernelIdeal.nD Cert.KernelIdeal.τ Cert.KernelIdeal.sig (Elt F)} (h : Res m r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) :=
  ⟨((h.1 c).1 (0 : Fin 4)).trans (finalA_in m c (0 : Fin 4) rfl), ((h.1 c).1 (1 : Fin 4)).trans (finalA_in m c (1 : Fin 4) rfl),
    (h.1 c).2.1, (h.1 c).2.2, ((h.1 c).1 (2 : Fin 4)).trans (finalA_in m c (2 : Fin 4) rfl)⟩

/-- The kernel's frame, over any values. -/
theorem frame_any (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
    ∧ r.2.sem = fun _ => 0) :=
  (θ_run Cert.KernelIdeal.defs _ _).mono (fun _ h => ⟨args_kept m h, h.2⟩) (run_main ρ m)

theorem frame_ideal : Cert.quiescent_KernelIdeal := fun m ρ _ => frame_any m ρ
theorem frame_ideal_pre [Cert.Pre_finite_KernelIdeal.Facts] : Cert.quiescent_KernelIdeal_pre_finite_KernelIdeal := fun m ρ _ => frame_any m ρ
set_option maxRecDepth 16000 in
/-- The two programs' body tables are one text. -/
theorem tables_eq : Cert.Kernel.defs₀ (F := F) = Cert.KernelIdeal.defs₀ (F := F) := by
  refine congrArg Defs.onTc (funext fun l => funext fun a => ?_)
  match l, a with
  | 0, (t, s) => rfl
  | ⟨n + 1, h⟩, _ => exact absurd h (Nat.not_lt.2 (Nat.le_add_left _ _))
set_option maxRecDepth 16000 in
theorem defs_eq : Cert.Kernel.defs (F := F) = Cert.KernelIdeal.defs (F := F) := congrArg (Pipeline.defs _) tables_eq

set_option maxRecDepth 16000 in
theorem frame_kernel : Cert.quiescent_Kernel := fun m ρ _ => by
  rw [defs_eq]
  exact frame_any (F := Bits) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre [Cert.Pre_finite_ReferenceIdeal.Facts] : Cert.quiescent_ReferenceIdeal_pre_finite_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Pf
-- ==== Proof.Kern.lean ====
/-
The kernel's values, each read at an index.
-/
module

public import proofs.«01_k».proof.Proof.Sched
public import Idealize.ShloMosaic.Lib.Pipeline.ValueKit
public import Idealize.ShloMosaic.Lib.Pointwise
public import Idealize.ShloMosaic.Lib.Tactic

@[expose] public section

noncomputable section

namespace Cert.Pf.Kern

open Cert.KernelIdeal Cert.KernelIdeal.Gen Cert.Pf
open Idealize.ShloMosaic
open Idealize.ShloMosaic.TcCoe

/-! ## The operations -/

theorem q_at (x wq) (i : Fin 256) (a : Fin 1024) :
    k0_pay1 (F := Ideal) x wq (ix2 i a) = (∑ e : Fin 1024, x (ix3 0 i e) * wq (ix2 e a)) * Ideal.ofBits .f32 0x3DB504F3#32 := by
  pointwise [k0_pay1]
theorem p_at (h : Fin 8) (q K) (i : Fin 256) (j : Fin 4096) :
    pF (F := Ideal) h q K (ix2 i j)
      = Ideal.exp (∑ d : Fin 128, q (ix2 i (⟨128 * h.val + d.val, by omega⟩ : Fin 1024)) * K (ix2 j d)) := by
  pointwise [pF]
theorem o_at (p V) (i : Fin 256) (d : Fin 128) :
    oF (F := Ideal) p V (ix2 i d) = Ideal.div (∑ j : Fin 4096, p (ix2 i j) * V (ix2 j d)) (∑ j : Fin 4096, p (ix2 i j)) := by
  pointwise [oF]
theorem part_at (a wo) (i : Fin 256) (j : Fin 1024) :
    k0_pay25 (F := Ideal) a wo (ix2 i j) = ∑ e : Fin 1024, a (ix2 i e) * wo (ix2 e j) := by
  pointwise [k0_pay25]

/-! ## The operands -/

variable (m : (ℓ : Loc nD τ sig) → Buf (Elt Ideal) ℓ) (c : Dev nD)

theorem idx0 : win0_0.index (0 : Fin 1) = ![0, 0, 0] := by decide
theorem idx1 : win0_1.index (0 : Fin 1) = ![0, 0] := by decide
theorem idx2 : win0_2.index (0 : Fin 1) = ![0, 0] := by decide

theorem xV_at (y : S1x256x1024.Idx) : xV (F := Ideal) m c y = m ((c : Thread nD τ).loc main_arg0) y := by
  unfold xV
  blk_ext [idx0]
theorem wqV_at (y : S1024x1024.Idx) : wqV (F := Ideal) m c y = m ((c : Thread nD τ).loc main_arg1) y := by
  unfold wqV
  blk_ext [idx1]
theorem woV_at (y : S1024x1024.Idx) : woV (F := Ideal) m c y = m ((c : Thread nD τ).loc main_arg4) y := by
  unfold woV
  blk_ext [idx2]

/-- Where a head's element is in the array of all heads. -/
theorem head_place (h : Fin 8) (hh : S4096x128.numel = (hR c h).shape.numel) (j : Fin 4096) (d : Fin 128) :
    (hR c h).emb (Shape.reshapeEquiv hh (ix2 j d)) = ix4 0 j (⟨8 * c.val + h.val, by have := c.isLt; show _ < 32; have : c.val < 4 := c.isLt; omega⟩ : Fin 32) d := by
  have e : Shape.reshapeEquiv (s := (⟨4, ![1, 4096, 1, 128]⟩ : Shape)) (s' := (⟨2, ![4096, 128]⟩ : Shape)) hh (ix2 j d) = ix4 0 j 0 d := by
    pointwise
  erw [e]
  refine funext fun a => Fin.ext ?_
  show (k0_off1 c (BitVec.ofNat 32 h.val)) a + 1 * ((ix4 0 j 0 d : S1x4096x1x128.Idx) a).val = _
  rw [off1_eq]
  fin_cases a <;> simp [ix4]
theorem kV_at (h : Fin 8) (j : Fin 4096) (d : Fin 128) :
    kV (F := Ideal) m c h (ix2 j d)
      = m ((c : Thread nD τ).loc main_arg2) (ix4 0 j (⟨8 * c.val + h.val, by have : c.val < 4 := c.isLt; omega⟩ : Fin 32) d) :=
  congrArg (m ((c : Thread nD τ).loc main_arg2)) (head_place c h _ j d)
theorem vV_at (h : Fin 8) (j : Fin 4096) (d : Fin 128) :
    vV (F := Ideal) m c h (ix2 j d)
      = m ((c : Thread nD τ).loc main_arg3) (ix4 0 j (⟨8 * c.val + h.val, by have : c.val < 4 := c.isLt; omega⟩ : Fin 32) d) :=
  congrArg (m ((c : Thread nD τ).loc main_arg3)) (head_place c h _ j d)

theorem blk_at (b : Fin 4) (k : Fin 2) (r : Fin 32) (j : Fin 1024) :
    blk (F := Ideal) m c b k (ix2 r j) = partV m c (ix2 (⟨64 * b.val + 32 * k.val + r.val, by omega⟩ : Fin 256) j) := by
  show partV m c ((paR b k).emb (ix2 r j)) = _
  congr 1
  refine funext fun a => Fin.ext ?_
  show (![64 * b.val + 32 * k.val, 0] : Fin 2 → ℕ) a + 1 * ((ix2 r j : S32x1024.Idx) a).val = _
  fin_cases a <;> simp [ix2]

/-! ## The heads, the partial product and the result -/

/-- Device `c`'s scaled query product with a key. -/
def kscore (i : Fin 256) (h : Fin 8) (j : Fin 4096) : EReal :=
  ∑ d : Fin 128, qV (F := Ideal) m c (ix2 i (⟨128 * h.val + d.val, by omega⟩ : Fin 1024)) * kV (F := Ideal) m c h (ix2 j d)

theorem hV_at (h : Fin 8) (i : Fin 256) (d : Fin 128) :
    hV (F := Ideal) m c h (ix2 i d)
      = Ideal.div (∑ j : Fin 4096, Ideal.exp (kscore m c i h j) * vV (F := Ideal) m c h (ix2 j d)) (∑ j : Fin 4096, Ideal.exp (kscore m c i h j)) := by
  unfold hV kscore
  rw [o_at]
  simp only [p_at]

theorem attnV_at (i : Fin 256) (e : Fin 1024) :
    attnV (F := Ideal) m c (ix2 i e) = hV (F := Ideal) m c (⟨e.val / 128, by omega⟩ : Fin 8) (ix2 i (⟨e.val % 128, by omega⟩ : Fin 128)) := by
  show hV m c _ _ = _
  congr 1
  funext a
  fin_cases a <;> rfl

theorem partV_at (i : Fin 256) (j : Fin 1024) :
    partV (F := Ideal) m c (ix2 i j)
      = ∑ e : Fin 1024, hV (F := Ideal) m c (⟨e.val / 128, by omega⟩ : Fin 8) (ix2 i (⟨e.val % 128, by omega⟩ : Fin 128))
          * m ((c : Thread nD τ).loc main_arg4) (ix2 e j) := by
  unfold partV
  rw [part_at]
  simp only [attnV_at, woV_at]

theorem sum_devices (b : Dev nD) (f : Dev nD → EReal) : f b + f (pl b 0) + f (pl b 1) + f (pl b 2) = ∑ c : Fin 4, f c := by
  rw [Fin.sum_univ_four]
  have hb : ∀ b : Dev nD, (b = 0 ∧ pl b 0 = 1 ∧ pl b 1 = 2 ∧ pl b 2 = 3) ∨ (b = 1 ∧ pl b 0 = 2 ∧ pl b 1 = 3 ∧ pl b 2 = 0)
      ∨ (b = 2 ∧ pl b 0 = 3 ∧ pl b 1 = 0 ∧ pl b 2 = 1) ∨ (b = 3 ∧ pl b 0 = 0 ∧ pl b 1 = 1 ∧ pl b 2 = 2) := by decide
  rcases hb b with ⟨e, e0, e1, e2⟩ | ⟨e, e0, e1, e2⟩ | ⟨e, e0, e1, e2⟩ | ⟨e, e0, e1, e2⟩ <;> rw [e0, e1, e2, e] <;> ac_rfl

theorem outV_at (r : Fin 256) (j : Fin 1024) :
    outV (F := Ideal) m (ix3 0 r j) = ∑ c : Fin 4, partV (F := Ideal) m c (ix2 r j) := by
  have hr : ∀ c : Dev nD, blk (F := Ideal) m c (⟨r.val / 64, by omega⟩ : Fin 4) (⟨r.val / 32 % 2, by omega⟩ : Fin 2)
      (ix2 (⟨r.val % 32, by omega⟩ : Fin 32) j) = partV (F := Ideal) m c (ix2 r j) := fun c => by
    rw [blk_at]
    congr 2
    exact Fin.ext (by show 64 * (r.val / 64) + 32 * (r.val / 32 % 2) + r.val % 32 = r.val; omega)
  have e : outV (F := Ideal) m (ix3 0 r j) = redV (F := Ideal) m (⟨r.val / 64, by omega⟩ : Fin 4) (⟨r.val / 32 % 2, by omega⟩ : Fin 2)
      (ix2 (⟨r.val % 32, by omega⟩ : Fin 32) j) := by
    show redV m _ _ _ = _
    congr 1
    funext a
    fin_cases a <;> rfl
  rw [e, ← sum_devices (⟨r.val / 64, by omega⟩ : Fin 4) (fun c => partV (F := Ideal) m c (ix2 r j))]
  simp only [← hr]
  rfl

end Cert.Pf.Kern
-- ==== Proof.Math.lean ====
/-
Softmax attention taken chunk by chunk over the extended reals: the running maximum cancels.
-/
module

public import Idealize.ShloMosaic.PureOps.Ideal

@[expose] public section

noncomputable section

namespace Cert.Pf

open Idealize.ShloMosaic

/-! ## Sums of extended reals -/

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A real at least zero distributes over any sum. -/
theorem mul_sum_coe {ι : Type} (S : Finset ι) {a : ℝ} (ha : 0 ≤ a) (f : ι → EReal) : (a : EReal) * ∑ i ∈ S, f i = ∑ i ∈ S, (a : EReal) * f i := by
  classical
  induction S using Finset.induction_on with
  | empty => simp
  | insert i S hi ih =>
    rw [Finset.sum_insert hi, Finset.sum_insert hi,
      EReal.left_distrib_of_nonneg_of_ne_top (by exact_mod_cast ha) (EReal.coe_ne_top a), ih]

/-- A sum over `n` blocks of `b`. -/
theorem sum_blocks {n b N : ℕ} (h : N = n * b) (f : Fin N → EReal) :
    ∑ i, f i = ∑ k : Fin n, ∑ j : Fin b, f ⟨b * k.val + j.val, by
      subst h
      calc b * k.val + j.val < b * k.val + b := by omega
        _ = b * (k.val + 1) := by ring
        _ ≤ b * n := Nat.mul_le_mul_left _ k.isLt
        _ = n * b := Nat.mul_comm _ _⟩ := by
  subst h
  rw [← finProdFinEquiv.sum_comp, Fintype.sum_prod_type]
  refine Finset.sum_congr rfl fun k _ => Finset.sum_congr rfl fun j _ => congrArg f (Fin.ext ?_)
  show j.val + b * k.val = _
  exact Nat.add_comm _ _

/-- The maximum of finitely many reals, one at least, is a real. -/
theorem fold_max_coe {ι : Type} [DecidableEq ι] (S : Finset ι) (hS : S.Nonempty) (f : ι → ℝ) :
    ∃ M : ℝ, S.fold max (⊥ : EReal) (fun i => (f i : EReal)) = M := by
  induction hS using Finset.Nonempty.cons_induction with
  | singleton a => exact ⟨f a, by simp⟩
  | cons a S ha hS ih =>
    obtain ⟨M, hM⟩ := ih
    exact ⟨max (f a) M, by rw [Finset.fold_cons, hM, EReal.coe_strictMono.monotone.map_max]⟩

theorem exp_coe (r : ℝ) : Ideal.exp (r : EReal) = (Real.exp r : ℝ) := rfl
theorem exp_bot : Ideal.exp ⊥ = 0 := rfl

/-! ## The running state -/

/-- The running maximum, sum and weighted sum after scores of exponential sum `L` and weighted sum `O`. -/
def Acc (L : ℝ) (O m l o : EReal) : Prop :=
  (m = ⊥ ∧ l = 0 ∧ o = 0 ∧ L = 0 ∧ O = 0)
  ∨ ∃ μ : ℝ, m = μ ∧ l = (Real.exp (-μ) * L : ℝ) ∧ o = (Real.exp (-μ) : ℝ) * O

theorem Acc.init : Acc 0 0 ⊥ 0 0 := .inl ⟨rfl, rfl, rfl, rfl, rfl⟩

section Step
variable {ι : Type} [Fintype ι] [DecidableEq ι] [Nonempty ι]

theorem sum_shift (s : ι → ℝ) (μ : ℝ) : (∑ j, Ideal.exp ((s j : EReal) - (μ : EReal))) = (Real.exp (-μ) * ∑ j, Real.exp (s j) : ℝ) := by
  rw [Finset.mul_sum, coe_sum]
  refine Finset.sum_congr rfl fun j _ => ?_
  rw [← EReal.coe_sub, exp_coe, sub_eq_neg_add, Real.exp_add]

theorem wsum_shift (s : ι → ℝ) (V : ι → EReal) (μ : ℝ) :
    (∑ j, V j * Ideal.exp ((s j : EReal) - (μ : EReal))) = (Real.exp (-μ) : ℝ) * ∑ j, V j * (Real.exp (s j) : ℝ) := by
  rw [mul_sum_coe _ (Real.exp_pos _).le]
  refine Finset.sum_congr rfl fun j _ => ?_
  rw [← EReal.coe_sub, exp_coe, sub_eq_neg_add, Real.exp_add, EReal.coe_mul]
  exact mul_left_comm _ _ _

/-- One chunk. -/
theorem Acc.step {L : ℝ} {O m l o : EReal} (h : Acc L O m l o) (s : ι → ℝ) (V : ι → EReal) {m' : EReal}
    (hm : m' = max m (Finset.univ.fold max (⊥ : EReal) fun j => (s j : EReal))) :
    Acc (L + ∑ j, Real.exp (s j)) (O + ∑ j, V j * (Real.exp (s j) : ℝ)) m'
      (l * Ideal.exp (m - m') + ∑ j, Ideal.exp ((s j : EReal) - m'))
      (o * Ideal.exp (m - m') + ∑ j, V j * Ideal.exp ((s j : EReal) - m')) := by
  obtain ⟨M, hM⟩ := fold_max_coe (Finset.univ : Finset ι) Finset.univ_nonempty s
  rw [hM] at hm
  rcases h with ⟨rfl, rfl, rfl, rfl, rfl⟩ | ⟨μ, rfl, rfl, rfl⟩
  · rw [max_eq_right bot_le] at hm
    subst hm
    refine .inr ⟨M, rfl, ?_, ?_⟩
    · rw [sum_shift, zero_mul, zero_add, zero_add]
    · rw [wsum_shift, zero_mul, zero_add, zero_add]
  · rw [← EReal.coe_strictMono.monotone.map_max] at hm
    subst hm
    generalize max μ M = ν
    have e : Real.exp (-μ) * Real.exp (μ - ν) = Real.exp (-ν) := by rw [← Real.exp_add]; congr 1; ring
    refine .inr ⟨ν, rfl, ?_, ?_⟩
    · rw [sum_shift, ← EReal.coe_sub, exp_coe, ← EReal.coe_mul, ← EReal.coe_add, mul_add, mul_right_comm, e]
    · rw [wsum_shift, ← EReal.coe_sub, exp_coe, mul_right_comm, ← EReal.coe_mul, e,
        EReal.left_distrib_of_nonneg_of_ne_top (by exact_mod_cast (Real.exp_pos _).le) (EReal.coe_ne_top _)]

end Step

/-- At the end the maximum cancels. -/
theorem Acc.quotient {L : ℝ} {O m l o : EReal} (h : Acc L O m l o) (hL : 0 < L) : Ideal.div o l = Ideal.div O L := by
  rcases h with ⟨-, -, -, h, -⟩ | ⟨μ, rfl, rfl, rfl⟩
  · exact absurd h hL.ne'
  · have hμ := Real.exp_pos (-μ)
    rw [Ideal.div_coe (mul_pos hμ hL).ne', Ideal.div_coe hL.ne', mul_comm ((Real.exp (-μ) : ℝ) : EReal) O, mul_assoc, ← EReal.coe_mul]
    congr 2
    field_simp

/-- Four chunks of reals and one run over all of them. -/
theorem four_chunks {b : ℕ} [NeZero b] {N : ℕ} (hN : N = 4 * b) (s : Fin 4 → Fin b → ℝ) (V : Fin 4 → Fin b → EReal)
    (S : Fin N → ℝ) (W : Fin N → EReal)
    (hS : ∀ k j h, S ⟨b * (k : Fin 4).val + (j : Fin b).val, h⟩ = s k j) (hW : ∀ k j h, W ⟨b * (k : Fin 4).val + (j : Fin b).val, h⟩ = V k j)
    {m l o : EReal}
    (h : Acc (0 + ∑ j, Real.exp (s 0 j) + ∑ j, Real.exp (s 1 j) + ∑ j, Real.exp (s 2 j) + ∑ j, Real.exp (s 3 j))
      (0 + ∑ j, V 0 j * (Real.exp (s 0 j) : ℝ) + ∑ j, V 1 j * (Real.exp (s 1 j) : ℝ) + ∑ j, V 2 j * (Real.exp (s 2 j) : ℝ) + ∑ j, V 3 j * (Real.exp (s 3 j) : ℝ)) m l o) :
    Ideal.div o l = Ideal.div (∑ j, Ideal.exp (S j : EReal) * W j) (∑ j, Ideal.exp (S j : EReal)) := by
  have hpos : ∀ k, 0 < ∑ j, Real.exp (s k j) := fun k => Finset.sum_pos (fun j _ => Real.exp_pos _) ⟨⟨0, Nat.pos_of_ne_zero (NeZero.ne b)⟩, Finset.mem_univ _⟩
  rw [h.quotient (by have := hpos 0; have := hpos 1; have := hpos 2; have := hpos 3; linarith)]
  congr 1
  · rw [sum_blocks hN, Fin.sum_univ_four, zero_add]
    simp only [hS, hW, exp_coe, mul_comm]
  · rw [sum_blocks hN, Fin.sum_univ_four, zero_add]
    simp only [hS, exp_coe, EReal.coe_add, coe_sum]

end Cert.Pf
-- ==== Proof.Ref.lean ====
/-
The reference: its result chunk by chunk, and each step read at an index.
-/
module

public import proofs.«01_k».proof.Proof.Math
public import proofs.«01_k».proof.Proof.Gen.ReferenceIdeal
public import proofs.«01_k».proof.Proof.Gen.ReferenceIdeal.Run
public import Idealize.ShloMosaic.Lib.Pointwise
public import Idealize.ShloMosaic.Lib.Tactic

@[expose] public section

noncomputable section

namespace Cert.Pf.Ref

open Cert.ReferenceIdeal Cert.ReferenceIdeal.Gen
open Idealize.ShloMosaic
open Idealize.ShloMosaic.TcCoe

section Terms
variable {F : FTy → Type} [FloatOps F]

/-- The queries. -/
def qs (x : FVec F S1x256x1024 .f32) (wq : FVec F S1024x4096 .f32) : FVec F S1x256x32x128 .f32 :=
  shapeCast _ (Host.dotGeneral dot_S1x256x1024_S1024x4096_S1x256x4096_2_0_01_1_n_n none x wq) shapeCasts_S1x256x4096_S1x256x32x128
/-- A chunk's scores. -/
def sc (n : ℕ) (hn : S1x4096x32x128.Slices ![0, n, 0, 0] S1x1024x32x128) (q : FVec F S1x256x32x128 .f32) (K : FVec F S1x4096x32x128 .f32) :
    FVec F S1x32x256x1024 .f32 :=
  mulf (Host.dotGeneral dot_S1x256x32x128_S1x1024x32x128_S1x32x256x1024_3_3_1_1_02_02 none q (extractStridedSlice S1x1024x32x128 ![0, n, 0, 0] K hn))
    (broadcastInDim S1x32x256x1024 ![] bcast_S_S1x32x256x1024 (constant S_ .f32 0x3DB504F3#32))
/-- The running maximum, -/
def mx (m : FVec F S1x32x256x1 .f32) (s : FVec F S1x32x256x1024 .f32) : FVec F S1x32x256x1 .f32 :=
  maximumf m (broadcastInDim S1x32x256x1 ![0, 1, 2] bcast_S1x32x256_S1x32x256x1_0_1_2
    (Host.reduce FloatOps.maximumf s (constant S_ .f32 0xFF800000#32) reducesTo_S1x32x256x1024_S1x32x256_d3 h_S_))
/-- the factor of what was before, -/
def al (m m' : FVec F S1x32x256x1 .f32) : FVec F S1x32x256x1 .f32 := Host.exp (subf m m')
/-- the exponentials, -/
def pr (s : FVec F S1x32x256x1024 .f32) (m' : FVec F S1x32x256x1 .f32) : FVec F S1x32x256x1024 .f32 :=
  Host.exp (subf s (broadcastInDim S1x32x256x1024 ![0, 1, 2, 3] bcast_S1x32x256x1_S1x32x256x1024_0_1_2_3 m'))
/-- their running sum -/
def ls (l a : FVec F S1x32x256x1 .f32) (p : FVec F S1x32x256x1024 .f32) : FVec F S1x32x256x1 .f32 :=
  addf (mulf l a) (broadcastInDim S1x32x256x1 ![0, 1, 2] bcast_S1x32x256_S1x32x256x1_0_1_2
    (Host.reduceAdd p (constant S_ .f32 0x00000000#32) reducesTo_S1x32x256x1024_S1x32x256_d3 h_S_))
/-- and the running weighted sum of the values. -/
def os (n : ℕ) (hn : S1x4096x32x128.Slices ![0, n, 0, 0] S1x1024x32x128) (o : FVec F S1x256x32x128 .f32) (a : FVec F S1x32x256x1 .f32)
    (p : FVec F S1x32x256x1024 .f32) (V : FVec F S1x4096x32x128 .f32) : FVec F S1x256x32x128 .f32 :=
  addf (mulf o (broadcastInDim S1x256x32x128 ![0, 1, 2, 3] bcast_S1x256x32x1_S1x256x32x128_0_1_2_3
      (transpose S1x256x32x1 [0, 2, 1, 3] a transposes_S1x32x256x1_S1x256x32x1_0_2_1_3)))
    (transpose S1x256x32x128 [0, 3, 1, 2] (Host.dotGeneral dot_S1x1024x32x128_S1x32x256x1024_S1x32x128x256_1_3_3_2_02_01 none
      (extractStridedSlice S1x1024x32x128 ![0, n, 0, 0] V hn) p) transposes_S1x32x128x256_S1x256x32x128_0_3_1_2)
/-- The quotient, the heads side by side, and the product. -/
def qo (o : FVec F S1x256x32x128 .f32) (l : FVec F S1x32x256x1 .f32) : FVec F S1x256x32x128 .f32 :=
  Host.divf o (broadcastInDim S1x256x32x128 ![0, 1, 2, 3] bcast_S1x256x32x1_S1x256x32x128_0_1_2_3
    (transpose S1x256x32x1 [0, 2, 1, 3] l transposes_S1x32x256x1_S1x256x32x1_0_2_1_3))
def out (a : FVec F S1x256x32x128 .f32) (wo : FVec F S4096x1024 .f32) : FVec F S1x256x1024 .f32 :=
  Host.dotGeneral dot_S1x256x4096_S4096x1024_S1x256x1024_2_0_01_1_n_n none (shapeCast _ a shapeCasts_S1x256x32x128_S1x256x4096) wo

/-! The four chunks. -/

variable (q : FVec F S1x256x32x128 .f32) (K V : FVec F S1x4096x32x128 .f32)
def h0 := slices_S1x4096x32x128_S1x1024x32x128_0_0_0_0
def h1 := slices_S1x4096x32x128_S1x1024x32x128_0_1024_0_0
def h2 := slices_S1x4096x32x128_S1x1024x32x128_0_2048_0_0
def h3 := slices_S1x4096x32x128_S1x1024x32x128_0_3072_0_0
def m0 : FVec F S1x32x256x1 .f32 := broadcastInDim S1x32x256x1 ![] bcast_S_S1x32x256x1 (constant S_ .f32 0xFF800000#32)
def l0 : FVec F S1x32x256x1 .f32 := broadcastInDim S1x32x256x1 ![] bcast_S_S1x32x256x1 (constant S_ .f32 0x00000000#32)
def o0 : FVec F S1x256x32x128 .f32 := broadcastInDim S1x256x32x128 ![] bcast_S_S1x256x32x128 (constant S_ .f32 0x00000000#32)
def m1 := mx m0 (sc 0 h0 q K)
def m2 := mx (m1 q K) (sc 1024 h1 q K)
def m3 := mx (m2 q K) (sc 2048 h2 q K)
def m4 := mx (m3 q K) (sc 3072 h3 q K)
def l1 := ls l0 (al m0 (m1 q K)) (pr (sc 0 h0 q K) (m1 q K))
def l2 := ls (l1 q K) (al (m1 q K) (m2 q K)) (pr (sc 1024 h1 q K) (m2 q K))
def l3 := ls (l2 q K) (al (m2 q K) (m3 q K)) (pr (sc 2048 h2 q K) (m3 q K))
def l4 := ls (l3 q K) (al (m3 q K) (m4 q K)) (pr (sc 3072 h3 q K) (m4 q K))
def o1 := os 0 h0 o0 (al m0 (m1 q K)) (pr (sc 0 h0 q K) (m1 q K)) V
def o2 := os 1024 h1 (o1 q K V) (al (m1 q K) (m2 q K)) (pr (sc 1024 h1 q K) (m2 q K)) V
def o3 := os 2048 h2 (o2 q K V) (al (m2 q K) (m3 q K)) (pr (sc 2048 h2 q K) (m3 q K)) V
def o4 := os 3072 h3 (o3 q K V) (al (m3 q K) (m4 q K)) (pr (sc 3072 h3 q K) (m4 q K)) V

set_option maxRecDepth 16384 in
/-- The reference's result. -/
theorem res_eq (m : (ℓ : Loc nD τ sig) → Buf (Elt F) ℓ) (c : Dev nD) :
    Cert.ReferenceIdeal.Value.res_out0 m c
      = out (qo (o4 (qs (m ((c.tc : Thread nD τ).loc main_arg0)) (m ((c.tc : Thread nD τ).loc main_arg1))) (m ((c.tc : Thread nD τ).loc main_arg2)) (m ((c.tc : Thread nD τ).loc main_arg3)))
          (l4 (qs (m ((c.tc : Thread nD τ).loc main_arg0)) (m ((c.tc : Thread nD τ).loc main_arg1))) (m ((c.tc : Thread nD τ).loc main_arg2))))
        (m ((c.tc : Thread nD τ).loc main_arg4)) := rfl

end Terms

/-! ## At an index -/

theorem qs_at (x wq) (i : Fin 256) (h : Fin 32) (d : Fin 128) :
    qs (F := Ideal) x wq (ix4 0 i h d) = ∑ e : Fin 1024, x (ix3 0 i e) * wq (ix2 e (⟨h.val * 128 + d.val, by omega⟩ : Fin 4096)) := by
  pointwise [qs]
theorem sc_at (n hn q K) (h : Fin 32) (i : Fin 256) (j : Fin 1024) (hj : n + j.val < 4096) :
    sc (F := Ideal) n hn q K (ix4 0 h i j) = (∑ d : Fin 128, q (ix4 0 i h d) * K (ix4 0 (⟨n + j.val, hj⟩ : Fin 4096) h d)) * Ideal.ofBits .f32 0x3DB504F3#32 := by
  pointwise [sc]
theorem al_at (m m') (h : Fin 32) (i : Fin 256) : al (F := Ideal) m m' (ix4 0 h i 0) = Ideal.exp (m (ix4 0 h i 0) - m' (ix4 0 h i 0)) := by
  pointwise [al]
theorem pr_at (s m') (h : Fin 32) (i : Fin 256) (j : Fin 1024) :
    pr (F := Ideal) s m' (ix4 0 h i j) = Ideal.exp (s (ix4 0 h i j) - m' (ix4 0 h i 0)) := by
  pointwise [pr]
theorem ls_at (l a p) (h : Fin 32) (i : Fin 256) :
    ls (F := Ideal) l a p (ix4 0 h i 0) = l (ix4 0 h i 0) * a (ix4 0 h i 0) + ∑ j : Fin 1024, p (ix4 0 h i j) := by
  pointwise [ls]
theorem os_at (n hn o a p V) (hn' : n + 1024 ≤ 4096) (i : Fin 256) (h : Fin 32) (d : Fin 128) :
    os (F := Ideal) n hn o a p V (ix4 0 i h d)
      = o (ix4 0 i h d) * a (ix4 0 h i 0) + ∑ j : Fin 1024, V (ix4 0 (⟨n + j.val, by omega⟩ : Fin 4096) h d) * p (ix4 0 h i j) := by
  pointwise [os]
theorem qo_at (o l) (i : Fin 256) (h : Fin 32) (d : Fin 128) :
    qo (F := Ideal) o l (ix4 0 i h d) = Ideal.div (o (ix4 0 i h d)) (l (ix4 0 h i 0)) := by
  pointwise [qo]
theorem out_at (a wo) (i : Fin 256) (j : Fin 1024) :
    out (F := Ideal) a wo (ix3 0 i j)
      = ∑ x : Fin 4096, a (ix4 0 i (⟨x.val / 128, by omega⟩ : Fin 32) (⟨x.val % 128, by omega⟩ : Fin 128)) * wo (ix2 x j) := by
  pointwise [out]
/-- The maximum along the last of four axes, at any sizes. -/
theorem max_last {n0 n1 n2 n3 : ℕ} {t u : Shape} (s : (⟨4, ![n0, n1, n2, n3]⟩ : Shape).Idx → EReal) (v : u.Idx → EReal)
    (h : (⟨4, ![n0, n1, n2, n3]⟩ : Shape).ReducesTo [3] t) (hu : 0 < u.numel) (j : t.Idx) :
    Host.reduce (max : EReal → EReal → EReal) s v h hu j = (Finset.univ : Finset (Fin n3)).fold max (v (Shape.Idx.first hu))
      (fun k => s (ix4 ⟨(j ⟨0, h.lt_r4_a3_0⟩).val, Shape.coordLt (j ⟨0, h.lt_r4_a3_0⟩) h.size_r4_a3_0⟩
        ⟨(j ⟨1, h.lt_r4_a3_1⟩).val, Shape.coordLt (j ⟨1, h.lt_r4_a3_1⟩) h.size_r4_a3_1⟩
        ⟨(j ⟨2, h.lt_r4_a3_2⟩).val, Shape.coordLt (j ⟨2, h.lt_r4_a3_2⟩) h.size_r4_a3_2⟩ k)) :=
  (Host.reduce_eq_fold max s v h hu j).trans (h.fold_fiber_r4_a3 j max _ s)
theorem mc_at (s : S1x32x256x1024.Idx → EReal) (v : S_.Idx → EReal) (h : Fin 32) (i : Fin 256) :
    Host.reduce (max : EReal → EReal → EReal) s v reducesTo_S1x32x256x1024_S1x32x256_d3 h_S_ (ix3 0 h i : S1x32x256.Idx)
      = (Finset.univ : Finset (Fin 1024)).fold max (v (Shape.Idx.first h_S_)) (fun k => s (ix4 0 h i k)) :=
  max_last s v reducesTo_S1x32x256x1024_S1x32x256_d3 h_S_ (ix3 0 h i)
/-- The maximum of a chunk's scores. -/
def mc (s : S1x32x256x1024.Idx → EReal) : S1x32x256.Idx → EReal :=
  Host.reduce (max : EReal → EReal → EReal) s (fun _ => Ideal.ofBits .f32 0xFF800000#32) reducesTo_S1x32x256x1024_S1x32x256_d3 h_S_
theorem mx_eq (m s) : mx (F := Ideal) m s = maximumf (F := Ideal) (φ := .f32) m (broadcastInDim S1x32x256x1 ![0, 1, 2] bcast_S1x32x256_S1x32x256x1_0_1_2 (mc s)) := rfl
theorem bc_at (m : S1x32x256x1.Idx → EReal) (M : S1x32x256.Idx → EReal) (h : Fin 32) (i : Fin 256) :
    maximumf (F := Ideal) (φ := .f32) m (broadcastInDim S1x32x256x1 ![0, 1, 2] bcast_S1x32x256_S1x32x256x1_0_1_2 M) (ix4 0 h i 0)
      = max (m (ix4 0 h i 0)) (M (ix3 0 h i)) := by
  pointwise
theorem mx_at (m s) (h : Fin 32) (i : Fin 256) :
    mx (F := Ideal) m s (ix4 0 h i 0)
      = max (m (ix4 0 h i 0)) ((Finset.univ : Finset (Fin 1024)).fold max (Ideal.ofBits .f32 0xFF800000#32) (fun j => s (ix4 0 h i j))) := by
  exact (congrFun (mx_eq m s) _).trans ((bc_at m (mc s) h i).trans (congrArg (max _) (mc_at s (fun _ => Ideal.ofBits .f32 0xFF800000#32) h i)))
theorem m0_at (h : Fin 32) (i : Fin 256) : m0 (F := Ideal) (ix4 0 h i 0) = Ideal.ofBits .f32 0xFF800000#32 := by
  pointwise [m0]
theorem l0_at (h : Fin 32) (i : Fin 256) : l0 (F := Ideal) (ix4 0 h i 0) = 0 := by
  pointwise [l0]
theorem o0_at (i : Fin 256) (h : Fin 32) (d : Fin 128) : o0 (F := Ideal) (ix4 0 i h d) = 0 := by
  pointwise [o0]

end Cert.Pf.Ref
-- ==== Proof.RefValue.lean ====
/-
The reference's result, at real scores: the softmax over all the keys.
-/
module

public import proofs.«01_k».proof.Proof.Ref

@[expose] public section

noncomputable section

namespace Cert.Pf.Ref

open Cert.ReferenceIdeal Cert.ReferenceIdeal.Gen
open Idealize.ShloMosaic
open Idealize.ShloMosaic.TcCoe

/-! ## The two constants -/

theorem neg_inf : Ideal.ofBits .f32 0xFF800000#32 = (⊥ : EReal) := by
  show Ideal.ieee 8 23 0xFF800000#32 = ⊥
  unfold Ideal.ieee
  rw [if_pos (by decide), if_pos (by decide), if_pos (by decide)]
theorem scale_real : ∃ σ : ℝ, Ideal.ofBits .f32 0x3DB504F3#32 = (σ : EReal) := by
  show ∃ σ : ℝ, Ideal.ieee 8 23 0x3DB504F3#32 = (σ : EReal)
  unfold Ideal.ieee
  rw [if_neg (by decide), if_neg (by decide)]
  exact ⟨_, rfl⟩

/-! ## The chunks -/

section Chunks
variable (q : S1x256x32x128.Idx → EReal) (K V : S1x4096x32x128.Idx → EReal) (i : Fin 256) (h : Fin 32) (d : Fin 128)

/-- A key's score. -/
def score (j : Fin 4096) : EReal := (∑ e : Fin 128, q (ix4 0 i h e) * K (ix4 0 j h e)) * Ideal.ofBits .f32 0x3DB504F3#32

variable (S : Fin 4096 → ℝ) (hS : ∀ j, score q K i h j = S j)
include hS

theorem chunk (n : ℕ) (hn) (hn' : n + 1024 ≤ 4096) {L : ℝ} {O : EReal} {m l o}
    (ha : Acc L O (m (ix4 0 h i 0)) (l (ix4 0 h i 0)) (o (ix4 0 i h d))) :
    Acc (L + ∑ j : Fin 1024, Real.exp (S ⟨n + j.val, by omega⟩))
      (O + ∑ j : Fin 1024, V (ix4 0 (⟨n + j.val, by omega⟩ : Fin 4096) h d) * (Real.exp (S ⟨n + j.val, by omega⟩) : ℝ))
      (mx (F := Ideal) m (sc n hn q K) (ix4 0 h i 0))
      (ls (F := Ideal) l (al m (mx m (sc n hn q K))) (pr (sc n hn q K) (mx m (sc n hn q K))) (ix4 0 h i 0))
      (os (F := Ideal) n hn o (al m (mx m (sc n hn q K))) (pr (sc n hn q K) (mx m (sc n hn q K))) V (ix4 0 i h d)) := by
  have es : ∀ j : Fin 1024, sc (F := Ideal) n hn q K (ix4 0 h i j) = (S ⟨n + j.val, by omega⟩ : EReal) := fun j =>
    (sc_at n hn q K h i j (by omega)).trans (hS _)
  have em := mx_at m (sc (F := Ideal) n hn q K) h i
  simp only [es, neg_inf] at em
  generalize mx (F := Ideal) m (sc n hn q K) = m' at em ⊢
  rw [ls_at, os_at (hn' := hn')]
  simp only [al_at, pr_at, es]
  exact ha.step (fun j : Fin 1024 => S ⟨n + j.val, by omega⟩) (fun j : Fin 1024 => V (ix4 0 (⟨n + j.val, by omega⟩ : Fin 4096) h d)) em

theorem quotient_at :
    qo (F := Ideal) (o4 q K V) (l4 q K) (ix4 0 i h d)
      = Ideal.div (∑ j : Fin 4096, Ideal.exp (S j : EReal) * V (ix4 0 j h d)) (∑ j : Fin 4096, Ideal.exp (S j : EReal)) := by
  have a0 : Acc 0 0 (m0 (F := Ideal) (ix4 0 h i 0)) (l0 (F := Ideal) (ix4 0 h i 0)) (o0 (F := Ideal) (ix4 0 i h d)) := by
    rw [m0_at, l0_at, o0_at, neg_inf]; exact Acc.init
  have a1 := chunk q K V i h d S hS 0 h0 (by omega) a0
  have a2 := chunk q K V i h d S hS 1024 h1 (by omega) a1
  have a3 := chunk q K V i h d S hS 2048 h2 (by omega) a2
  have a4 := chunk q K V i h d S hS 3072 h3 (by omega) a3
  rw [qo_at]
  exact four_chunks (b := 1024) (N := 4096) rfl (fun k j => S ⟨1024 * k.val + j.val, by omega⟩)
    (fun k j => V (ix4 0 (⟨1024 * k.val + j.val, by omega⟩ : Fin 4096) h d)) S (fun j => V (ix4 0 j h d)) (fun _ _ _ => rfl) (fun _ _ _ => rfl) a4

end Chunks

end Cert.Pf.Ref
-- ==== Proof.Finite.lean ====
/-
What the precondition says: the queries' input, their weights and the keys are reals.
-/
module

public import proofs.«01_k».proof.Proof.Gen.Pre_finite_KernelIdeal
public import Idealize.ShloMosaic.Lib.ReduceAll
public import Idealize.ShloMosaic.Lib.Pointwise
public import Idealize.ShloMosaic.PureOps.Ideal

@[expose] public section

noncomputable section

namespace Cert.Pf

open Cert.Pre_finite_KernelIdeal Cert.Pre_finite_KernelIdeal.Facts
open Idealize.ShloMosaic

theorem pos_inf : Ideal.ofBits .f32 0x7F800000#32 = (⊤ : EReal) := by
  show Ideal.ieee 8 23 0x7F800000#32 = ⊤
  unfold Ideal.ieee
  rw [if_pos (by decide), if_pos (by decide), if_neg (by decide)]

theorem real_of_abs_lt {x : EReal} (h : max x (-x) < ⊤) : ∃ r : ℝ, x = r := by
  induction x with
  | bot => exact absurd h (by simp)
  | coe r => exact ⟨r, rfl⟩
  | top => exact absurd h (by simp)

theorem real_at {s : Shape} {axes : List (Fin s.rank)} {x : FVec Ideal s .f32} (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant S_ .f32 0x7F800000#32)))
      (constantI S_ 1 1#1) hr hu j = 1#1) (i : s.Idx) : ∃ r : ℝ, x i = (r : EReal) := by
  haveI : Subsingleton S_.Idx := ⟨fun a b => funext fun k => k.elim0⟩
  have e := Host.reduce_andi_all _ _ hr hu _ h i
  replace e : BitVec.ofBool (decide (max (x i) (-(x i)) < Ideal.ofBits .f32 0x7F800000#32)) = 1#1 := e
  rw [pos_inf] at e
  refine real_of_abs_lt ?_
  by_contra hn
  rw [decide_eq_false hn] at e
  exact absurd e (by decide)

variable [Facts]

/-- The three operands that the scores are made of are reals. -/
theorem reals (x : FVec Ideal S1x256x1024 .f32) (wq wo : FVec Ideal S1024x1024 .f32) (K V : FVec Ideal S1x4096x32x128 .f32)
    (h : Cert.Pre_finite_KernelIdeal.fn (F := Ideal) x wq K V wo = fun _ => 1#1) :
    (∀ i, ∃ r : ℝ, x i = (r : EReal)) ∧ (∀ i, ∃ r : ℝ, wq i = (r : EReal)) ∧ ∀ i, ∃ r : ℝ, K i = (r : EReal) := by
  have e := congrFun h ix0
  obtain ⟨e2, e3⟩ := IntOp.andi_eq_one.1 e
  obtain ⟨e1, e2⟩ := IntOp.andi_eq_one.1 e2
  exact ⟨real_at _ _ _ _ e1, real_at _ _ _ _ e2, real_at _ _ _ _ e3⟩

end Cert.Pf
-- ==== Proof.Value.lean ====
/-
The kernel's result and the reference's, compared: one array, and the claim that says so.
-/
module

public import proofs.«01_k».proof.Proof.Kern
public import proofs.«01_k».proof.Proof.RefValue
public import proofs.«01_k».proof.Proof.Finite
public import proofs.«01_k».proof.Proof.Frames
public import Idealize.ShloMosaic.Lib.LayoutAt

@[expose] public section

noncomputable section

namespace Cert.Pf

open Idealize.ShloMosaic
open Idealize.ShloMosaic.TcCoe
open Idealize.SL.Sem

/-! ## The scores -/

/-- The scale may be applied to the query or to the score. -/
theorem scale_moves (a : Fin 1024 → ℝ) (w : Fin 1024 → Fin 128 → ℝ) (k : Fin 128 → ℝ) (σ : ℝ) :
    ∃ S : ℝ, (∑ d, (∑ e, (a e : EReal) * (w e d : EReal)) * (k d : EReal)) * (σ : EReal) = S
      ∧ ∑ d, ((∑ e, (a e : EReal) * (w e d : EReal)) * (σ : EReal)) * (k d : EReal) = S := by
  refine ⟨(∑ d, (∑ e, a e * w e d) * k d) * σ, ?_, ?_⟩
  · simp only [← EReal.coe_mul, ← coe_sum]
  · simp only [← EReal.coe_mul, ← coe_sum]
    rw [Finset.sum_mul]
    refine congrArg _ (Finset.sum_congr rfl fun d _ => ?_)
    ring

section Same
variable (m : (ℓ : Loc Cert.KernelIdeal.nD Cert.KernelIdeal.τ Cert.KernelIdeal.sig) → Buf (Elt Ideal) ℓ)
  (X : Cert.ReferenceIdeal.S1x256x1024.Idx → EReal) (WQ : Cert.ReferenceIdeal.S1024x4096.Idx → EReal)
  (K V : Cert.ReferenceIdeal.S1x4096x32x128.Idx → EReal) (WO : Cert.ReferenceIdeal.S4096x1024.Idx → EReal)

/-- The devices hold the arrays: the two weights in blocks, the rest whole. -/
structure Holds : Prop where
  x : ∀ (c : Dev Cert.KernelIdeal.nD) y, xV (F := Ideal) m c y = X y
  wq : ∀ (c : Dev Cert.KernelIdeal.nD) (e a : Fin 1024), wqV (F := Ideal) m c (ix2 e a) = WQ (ix2 e (⟨1024 * c.val + a.val, by have : c.val < 4 := c.isLt; omega⟩ : Fin 4096))
  k : ∀ (c : Dev Cert.KernelIdeal.nD) (h : Fin 8) (j : Fin 4096) (d : Fin 128), kV (F := Ideal) m c h (ix2 j d) = K (ix4 0 j (⟨8 * c.val + h.val, by have : c.val < 4 := c.isLt; omega⟩ : Fin 32) d)
  v : ∀ (c : Dev Cert.KernelIdeal.nD) (h : Fin 8) (j : Fin 4096) (d : Fin 128), vV (F := Ideal) m c h (ix2 j d) = V (ix4 0 j (⟨8 * c.val + h.val, by have : c.val < 4 := c.isLt; omega⟩ : Fin 32) d)
  wo : ∀ (c : Dev Cert.KernelIdeal.nD) (e j : Fin 1024), (m ((c.tc : Thread Cert.KernelIdeal.nD Cert.KernelIdeal.τ).loc Cert.KernelIdeal.main_arg4) : Cert.KernelIdeal.S1024x1024.Idx → EReal) (ix2 e j)
    = WO (ix2 (⟨1024 * c.val + e.val, by have : c.val < 4 := c.isLt; omega⟩ : Fin 4096) j)

variable {m X WQ K V WO} (H : Holds m X WQ K V WO) (hx : ∀ i, ∃ r : ℝ, X i = r) (hw : ∀ i, ∃ r : ℝ, WQ i = r) (hk : ∀ i, ∃ r : ℝ, K i = r)
include H hx hw hk

theorem scores (c : Dev Cert.KernelIdeal.nD) (h : Fin 8) (hh : 8 * c.val + h.val < 32) (i : Fin 256) (j : Fin 4096) :
    ∃ S : ℝ, Ref.score (Ref.qs (F := Ideal) X WQ) K i ⟨8 * c.val + h.val, hh⟩ j = S ∧ Kern.kscore m c i h j = S := by
  choose xr hxr using hx
  choose wr hwr using hw
  choose kr hkr using hk
  obtain ⟨σ, hσ⟩ := Ref.scale_real
  obtain ⟨S, h1, h2⟩ := scale_moves (fun e => xr (ix3 0 i e))
    (fun e d => wr (ix2 e (⟨(8 * c.val + h.val) * 128 + d.val, by omega⟩ : Fin 4096)))
    (fun d => kr (ix4 0 j (⟨8 * c.val + h.val, hh⟩ : Fin 32) d)) σ
  refine ⟨S, ?_, ?_⟩
  · rw [← h1]
    unfold Ref.score
    simp only [Ref.qs_at, hxr, hwr, hkr, hσ]
  · rw [← h2]
    unfold Kern.kscore qV
    simp only [Kern.q_at, H.x, H.wq, H.k, hxr, hwr, hkr, hσ]
    have e : ∀ d : Fin 128, 1024 * c.val + (128 * h.val + d.val) = (8 * c.val + h.val) * 128 + d.val := fun d => by omega
    simp only [e]

theorem heads (c : Dev Cert.KernelIdeal.nD) (h : Fin 8) (hh : 8 * c.val + h.val < 32) (i : Fin 256) (d : Fin 128) :
    Ref.qo (F := Ideal) (Ref.o4 (Ref.qs X WQ) K V) (Ref.l4 (Ref.qs X WQ) K) (ix4 0 i (⟨8 * c.val + h.val, hh⟩ : Fin 32) d)
      = hV (F := Ideal) m c h (ix2 i d) := by
  choose S h1 h2 using scores H hx hw hk c h hh i
  rw [Ref.quotient_at _ K V i _ d S h1, Kern.hV_at]
  simp only [h2, H.v]

theorem results : outV (F := Ideal) m = Ref.out (F := Ideal) (Ref.qo (Ref.o4 (Ref.qs X WQ) K V) (Ref.l4 (Ref.qs X WQ) K)) WO := by
  funext y
  obtain ⟨y0, r, j, rfl⟩ : ∃ (a : Fin 1) (r : Fin 256) (j : Fin 1024), y = ix3 a r j := ⟨y 0, y 1, y 2, eq_ix3 y⟩
  obtain rfl : y0 = 0 := Subsingleton.elim _ _
  refine (Kern.outV_at m r j).trans (Eq.symm ((Ref.out_at _ WO r j).trans ((sum_blocks (n := 4) (b := 1024) rfl _).trans ?_)))
  refine Finset.sum_congr rfl fun c _ => ?_
  rw [Kern.partV_at]
  refine Finset.sum_congr rfl fun e _ => ?_
  have hc : c.val < 4 := c.isLt
  refine congrArg₂ (· * ·) ?_ (H.wo c e j).symm
  rw [← heads H hx hw hk c (⟨e.val / 128, by omega⟩ : Fin 8) (by show 8 * c.val + e.val / 128 < 32; omega) r (⟨e.val % 128, by omega⟩ : Fin 128)]
  congr 2
  · exact Fin.ext (by show (1024 * c.val + e.val) / 128 = 8 * c.val + e.val / 128; omega)
  · exact Fin.ext (by show (1024 * c.val + e.val) % 128 = e.val % 128; omega)

end Same

/-! ## The claim -/

theorem cols (c : Fin 4) (W : (⟨2, ![1024, 4096]⟩ : Shape).Idx → EReal) (h : Layout.Tiles ⟨2, ![1024, 1024]⟩ ⟨2, ![1024, 4096]⟩ 1 4) (e a : Fin 1024) :
    Layout.block ⟨2, ![1024, 1024]⟩ ⟨2, ![1024, 4096]⟩ 1 4 c W h (ix2 e a) = W (ix2 e (⟨1024 * c.val + a.val, by omega⟩ : Fin 4096)) := by
  rw [Layout.block_apply]
  refine congrArg W (funext fun b => Fin.ext ?_)
  rw [Layout.Tiles.idx_val]
  fin_cases b
  · rfl
  · show c.val * 1024 + a.val = 1024 * c.val + a.val
    omega
theorem rows (c : Fin 4) (W : (⟨2, ![4096, 1024]⟩ : Shape).Idx → EReal) (h : Layout.Tiles ⟨2, ![1024, 1024]⟩ ⟨2, ![4096, 1024]⟩ 0 4) (e j : Fin 1024) :
    Layout.block ⟨2, ![1024, 1024]⟩ ⟨2, ![4096, 1024]⟩ 0 4 c W h (ix2 e j) = W (ix2 (⟨1024 * c.val + e.val, by omega⟩ : Fin 4096) j) := by
  rw [Layout.block_apply]
  refine congrArg W (funext fun b => Fin.ext ?_)
  rw [Layout.Tiles.idx_val]
  fin_cases b
  · show c.val * 1024 + e.val = 1024 * c.val + e.val
    omega
  · rfl

/-- A matrix whose four blocks of columns are real is real. -/
theorem cols_real (W : (⟨2, ![1024, 4096]⟩ : Shape).Idx → EReal) (h : Layout.Tiles ⟨2, ![1024, 1024]⟩ ⟨2, ![1024, 4096]⟩ 1 4)
    (hw : ∀ c i, ∃ r : ℝ, Layout.block ⟨2, ![1024, 1024]⟩ ⟨2, ![1024, 4096]⟩ 1 4 c W h i = (r : EReal)) (i : (⟨2, ![1024, 4096]⟩ : Shape).Idx) :
    ∃ r : ℝ, W i = (r : EReal) := by
  obtain ⟨e, b, rfl⟩ : ∃ (e : Fin 1024) (b : Fin 4096), i = ix2 e b := ⟨i 0, i 1, eq_ix2 i⟩
  obtain ⟨r, hr⟩ := hw (⟨b.val / 1024, by omega⟩ : Fin 4) (ix2 e (⟨b.val % 1024, by omega⟩ : Fin 1024))
  rw [cols] at hr
  refine ⟨r, Eq.trans ?_ hr⟩
  exact congrArg (fun z => W (ix2 e z)) (Fin.ext (by show b.val = 1024 * (b.val / 1024) + b.val % 1024; omega))

theorem whole_out : Cert.KernelIdeal.win0_3.WholeAt Cert.KernelIdeal.Gen.t0_0 := by decide +kernel
/-- The result's array ends at the result, on every device. -/
theorem final_out (m : (ℓ : Loc Cert.KernelIdeal.nD Cert.KernelIdeal.τ Cert.KernelIdeal.sig) → Buf (Elt Ideal) ℓ) (c : Dev Cert.KernelIdeal.nD) :
    finalA m c (3 : Fin 4) = outV (F := Ideal) m := by
  unfold finalA
  refine (dats m 0 c).arrAt_eq_of_after_last (3 : Fin 4) Cert.KernelIdeal.Gen.t0_0 whole_out _ fun j => ?_
  rfl

set_option maxRecDepth 16000 in
theorem algebraic : Cert.algebraic_KernelIdeal_ReferenceIdeal_pre_finite_KernelIdeal := fun m g m' g' hpre hm => by
  have hr := fun c => reals _ _ _ _ _ (hpre c)
  have hX := fun c => (hm c).1
  have hWQ := fun c => (hm c).2.1
  have hK := fun c => (hm c).2.2.1
  have hV := fun c => (hm c).2.2.2.1
  have hWO := fun c => (hm c).2.2.2.2
  have H : Holds m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { x := fun c y => (Kern.xV_at m c y).trans (congrFun (hX c) y)
      wq := fun c e a => (Kern.wqV_at m c _).trans ((congrFun (hWQ c) _).trans (cols c _ _ e a))
      k := fun c h j d => (Kern.kV_at m c h j d).trans (congrFun (hK c) _)
      v := fun c h j d => (Kern.vV_at m c h j d).trans (congrFun (hV c) _)
      wo := fun c e j => (congrFun (hWO c) _).trans (rows c _ _ e j) }
  have hout := results H (fun i => by have := (hr 0).1 i; rwa [hX 0] at this)
    (cols_real _ (by decide) fun c i => by have := (hr c).2.1 i; rwa [hWQ c] at this)
    (fun i => by have := (hr 0).2.2 i; rwa [hK 0] at this)
  refine ⟨Cert.ReferenceIdeal.Value.res_out0 m' 0, ?_, ?_⟩
  · refine (θ_run Cert.KernelIdeal.defs _ _).mono (fun r h c => ⟨?_, args_kept m h c⟩) (run_main g m)
    exact ((h.1 c).1 (3 : Fin 4)).trans ((final_out m c).trans (hout.trans (Ref.res_eq m' 0).symm))
  · exact (θ_run Cert.ReferenceIdeal.defs _ _).mono (fun r h => h 0) (Cert.ReferenceIdeal.Value.run (F := Ideal) m' g')

end Cert.Pf
-- ==== Proof.lean ====
/-
The proof of the certificate's claims.
-/
module

public import proofs.«01_k».proof.Defs
public import proofs.«01_k».proof.Proof.Frames
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  Cert.Pf.frame_kernel, Cert.Pf.frame_ideal, Cert.Pf.frame_ideal_pre, Cert.Pf.frame_reference, Cert.Pf.frame_reference_pre, trivial,
  Cert.Pf.algebraic⟩

end Cert.Proof

end
